-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v27) = v2 c
          ∧ r.2.mem ((c.tc : Thread Cert.Reference2Ideal.nD Cert.Reference2Ideal.τ).loc Cert.Reference2Ideal.main_v28) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v71) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  IdealRules.named_const.Statement Cert.Kernel5Ideal.κ "gelu2" .f32 0xBDD2D3E8#32 (((-((2 * (6693141 / 8388608)) * (Real.log 2)⁻¹)) * (12003091 / 268435456) : ℝ) : EReal)
  ∧ IdealRules.named_const.Statement Cert.Kernel5Ideal.κ "gelu1" .f32 0xC0135761#32 ((-((2 * (6693141 / 8388608)) * (Real.log 2)⁻¹) : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
-- ==== Pre_finite.lean ====
abbrev S1024x32768 : Shape := ⟨2, ![1024, 32768]⟩
abbrev S32768x256 : Shape := ⟨2, ![32768, 256]⟩
abbrev S256x32768 : Shape := ⟨2, ![256, 32768]⟩
abbrev S32x16 : Shape := ⟨2, ![32, 16]⟩
abbrev S1x16 : Shape := ⟨2, ![1, 16]⟩
abbrev S_ : Shape := ⟨0, ![]⟩

class Facts : Prop where
  bitsLt_bf16_f32 : FTy.bits .bf16 < FTy.bits .f32
  bcast_S_S1024x32768 : S_.BroadcastsInDim S1024x32768 (![] : Fin 0 → Fin S1024x32768.rank)
  bcast_S_S32768x256 : S_.BroadcastsInDim S32768x256 (![] : Fin 0 → Fin S32768x256.rank)
  bcast_S_S32x16 : S_.BroadcastsInDim S32x16 (![] : Fin 0 → Fin S32x16.rank)
  bcast_S_S1x16 : S_.BroadcastsInDim S1x16 (![] : Fin 0 → Fin S1x16.rank)

variable [Facts]

def fn {F : FTy → Type} [FloatOps F] (main_arg0 : FVec F S1024x32768 .bf16) (main_arg1 : FVec F S32768x256 .bf16) (main_arg2 : FVec F S256x32768 .bf16) (main_arg3 : FVec F S32x16 .f32) (main_arg4 : FVec F S1x16 .f32) : IVec S1024x32768 1 × IVec S32768x256 1 × IVec S32x16 1 × IVec S1x16 1 :=
  let main_v0 : FVec F S1024x32768 .f32 := (extf .f32 · bitsLt_bf16_f32) main_arg0
  let main_v1 : FVec F S1024x32768 .f32 := Host.absf main_v0
  let main_cst : FVec F S_ .f32 := constant S_ .f32 0x7F800000#32
  let main_v2 : FVec F S1024x32768 .f32 := broadcastInDim S1024x32768 ![] bcast_S_S1024x32768 main_cst
  let main_v3 : IVec S1024x32768 1 := cmpf .olt main_v1 main_v2
  let main_v4 : FVec F S32768x256 .f32 := (extf .f32 · bitsLt_bf16_f32) main_arg1
  let main_v5 : FVec F S32768x256 .f32 := Host.absf main_v4
  let main_cst_0 : FVec F S_ .f32 := constant S_ .f32 0x7F800000#32
  let main_v6 : FVec F S32768x256 .f32 := broadcastInDim S32768x256 ![] bcast_S_S32768x256 main_cst_0
  let main_v7 : IVec S32768x256 1 := cmpf .olt main_v5 main_v6
  let main_v8 : FVec F S32x16 .f32 := Host.absf main_arg3
  let main_cst_1 : FVec F S_ .f32 := constant S_ .f32 0x7F800000#32
  let main_v9 : FVec F S32x16 .f32 := broadcastInDim S32x16 ![] bcast_S_S32x16 main_cst_1
  let main_v10 : IVec S32x16 1 := cmpf .olt main_v8 main_v9
  let main_v11 : FVec F S1x16 .f32 := Host.absf main_arg4
  let main_cst_2 : FVec F S_ .f32 := constant S_ .f32 0x7F800000#32
  let main_v12 : FVec F S1x16 .f32 := broadcastInDim S1x16 ![] bcast_S_S1x16 main_cst_2
  let main_v13 : IVec S1x16 1 := cmpf .olt main_v11 main_v12
  (main_v3, main_v7, main_v10, main_v13)
-- ==== Pre_finite4.lean ====
abbrev S32768x2048 : Shape := ⟨2, ![32768, 2048]⟩
abbrev S1024x32768 : Shape := ⟨2, ![1024, 32768]⟩
abbrev S1024x1024 : Shape := ⟨2, ![1024, 1024]⟩
abbrev S1024x1 : Shape := ⟨2, ![1024, 1]⟩
abbrev S2048x2048 : Shape := ⟨2, ![2048, 2048]⟩
abbrev S1x2048 : Shape := ⟨2, ![1, 2048]⟩
abbrev S2048x512 : Shape := ⟨2, ![2048, 512]⟩
abbrev S8x256x512 : Shape := ⟨3, ![8, 256, 512]⟩
abbrev S512x2048 : Shape := ⟨2, ![512, 2048]⟩
abbrev S_ : Shape := ⟨0, ![]⟩

class Facts : Prop where
  bcast_S_S1x2048 : S_.BroadcastsInDim S1x2048 (![] : Fin 0 → Fin S1x2048.rank)
  bitsLt_bf16_f32 : FTy.bits .bf16 < FTy.bits .f32
  bcast_S_S2048x512 : S_.BroadcastsInDim S2048x512 (![] : Fin 0 → Fin S2048x512.rank)
  bcast_S_S8x256x512 : S_.BroadcastsInDim S8x256x512 (![] : Fin 0 → Fin S8x256x512.rank)

variable [Facts]

def fn {F : FTy → Type} [FloatOps F] (main_arg0 : FVec F S32768x2048 .f32) (main_arg1 : FVec F S1024x32768 .f32) (main_arg2 : FVec F S1024x32768 .bf16) (main_arg3 : FVec F S1024x1024 .bf16) (main_arg4 : FVec F S1024x1 .f32) (main_arg5 : FVec F S2048x2048 .bf16) (main_arg6 : FVec F S1x2048 .f32) (main_arg7 : FVec F S2048x512 .bf16) (main_arg8 : FVec F S8x256x512 .bf16) (main_arg9 : FVec F S8x256x512 .bf16) (main_arg10 : FVec F S512x2048 .bf16) : IVec S1x2048 1 × IVec S2048x512 1 × IVec S8x256x512 1 :=
  let main_v0 : FVec F S1x2048 .f32 := Host.absf main_arg6
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S2048x512 .f32 := (extf .f32 · bitsLt_bf16_f32) main_arg7
  let main_v4 : FVec F S2048x512 .f32 := Host.absf main_v3
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_v7 : FVec F S8x256x512 .f32 := (extf .f32 · bitsLt_bf16_f32) main_arg8
  let main_v8 : FVec F S8x256x512 .f32 := Host.absf main_v7
  let main_cst_1 : FVec F S_ .f32 := constant S_ .f32 0x7F800000#32
  let main_v9 : FVec F S8x256x512 .f32 := broadcastInDim S8x256x512 ![] bcast_S_S8x256x512 main_cst_1
  let main_v10 : IVec S8x256x512 1 := cmpf .olt main_v8 main_v9
  (main_v2, main_v6, main_v10)
-- ==== Kernel.lean ====
abbrev S1024x32768 : Shape := ⟨2, ![1024, 32768]⟩
abbrev S32768x256 : Shape := ⟨2, ![32768, 256]⟩
abbrev S256x32768 : Shape := ⟨2, ![256, 32768]⟩
abbrev S32x16 : Shape := ⟨2, ![32, 16]⟩
abbrev S1x16 : Shape := ⟨2, ![1, 16]⟩
abbrev S128 : Shape := ⟨1, ![128]⟩
abbrev S1x128 : Shape := ⟨2, ![1, 128]⟩
abbrev S256 : Shape := ⟨1, ![256]⟩
abbrev S256x1 : Shape := ⟨2, ![256, 1]⟩
abbrev S_ : Shape := ⟨0, ![]⟩
abbrev S256x128 : Shape := ⟨2, ![256, 128]⟩
abbrev S256x128x1 : Shape := ⟨3, ![256, 128, 1]⟩
abbrev S32 : Shape := ⟨1, ![32]⟩
abbrev S1x1x32 : Shape := ⟨3, ![1, 1, 32]⟩
abbrev S256x128x32 : Shape := ⟨3, ![256, 128, 32]⟩
abbrev S16x256x128 : Shape := ⟨3, ![16, 256, 128]⟩
abbrev S1x256x128 : Shape := ⟨3, ![1, 256, 128]⟩
abbrev S16 : Shape := ⟨1, ![16]⟩
abbrev S1024x128 : Shape := ⟨2, ![1024, 128]⟩
abbrev S128x256 : Shape := ⟨2, ![128, 256]⟩
abbrev S128x64 : Shape := ⟨2, ![128, 64]⟩
abbrev S64x128 : Shape := ⟨2, ![64, 128]⟩
abbrev S128x128 : Shape := ⟨2, ![128, 128]⟩
abbrev S1x128x128 : Shape := ⟨3, ![1, 128, 128]⟩
abbrev S1 : Shape := ⟨1, ![1]⟩

abbrev nBuf : Space → Nat
  | .hbm => 71
  | .vmem => 13
  | .smem => 1
  | _ => 0

abbrev bufTy : (tb : Table) → Fin (tcTables nBuf tb) → BufTy
  | .hbm, ⟨0, _⟩ => ⟨S1024x32768, .bf16⟩
  | .hbm, ⟨1, _⟩ => ⟨S32768x256, .bf16⟩
  | .hbm, ⟨2, _⟩ => ⟨S256x32768, .bf16⟩
  | .hbm, ⟨3, _⟩ => ⟨S32x16, .f32⟩
  | .hbm, ⟨4, _⟩ => ⟨S1x16, .f32⟩
  | .hbm, ⟨5, _⟩ => ⟨S128, .i32⟩
  | .hbm, ⟨6, _⟩ => ⟨S1x128, .i32⟩
  | .hbm, ⟨7, _⟩ => ⟨S256, .i32⟩
  | .hbm, ⟨8, _⟩ => ⟨S256x1, .i32⟩
  | .hbm, ⟨9, _⟩ => ⟨S_, .i32⟩
  | .hbm, ⟨10, _⟩ => ⟨S1x128, .i32⟩
  | .hbm, ⟨11, _⟩ => ⟨S1x128, .i32⟩
  | .hbm, ⟨12, _⟩ => ⟨S256x128, .i32⟩
  | .hbm, ⟨13, _⟩ => ⟨S256x128, .i32⟩
  | .hbm, ⟨14, _⟩ => ⟨S256x128, .i32⟩
  | .hbm, ⟨15, _⟩ => ⟨S_, .i32⟩
  | .hbm, ⟨16, _⟩ => ⟨S256x128, .i32⟩
  | .hbm, ⟨17, _⟩ => ⟨S256x128, .i1⟩
  | .hbm, ⟨18, _⟩ => ⟨S_, .i32⟩
  | .hbm, ⟨19, _⟩ => ⟨S256x128, .i32⟩
  | .hbm, ⟨20, _⟩ => ⟨S256x128, .i1⟩
  | .hbm, ⟨21, _⟩ => ⟨S256x128, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S256x128, .i32⟩
  | .hbm, ⟨26, _⟩ => ⟨S256x128, .i32⟩
  | .hbm, ⟨27, _⟩ => ⟨S_, .i32⟩
  | .hbm, ⟨28, _⟩ => ⟨S256x128, .i32⟩
  | .hbm, ⟨29, _⟩ => ⟨S256x128, .i32⟩
  | .hbm, ⟨30, _⟩ => ⟨S_, .i32⟩
  | .hbm, ⟨31, _⟩ => ⟨S256x128, .i32⟩
  | .hbm, ⟨32, _⟩ => ⟨S256x128, .i32⟩
  | .hbm, ⟨33, _⟩ => ⟨S256x128, .f32⟩
  | .hbm, ⟨34, _⟩ => ⟨S_, .f32⟩
  | .hbm, ⟨35, _⟩ => ⟨S256x128, .f32⟩
  | .hbm, ⟨36, _⟩ => ⟨S256x128, .f32⟩
  | .hbm, ⟨37, _⟩ => ⟨S256x128, .f32⟩
  | .hbm, ⟨38, _⟩ => ⟨S_, .f32⟩
  | .hbm, ⟨39, _⟩ => ⟨S256x128, .f32⟩
  | .hbm, ⟨40, _⟩ => ⟨S256x128, .f32⟩
  | .hbm, ⟨41, _⟩ => ⟨S_, .f32⟩
  | .hbm, ⟨42, _⟩ => ⟨S256x128, .f32⟩
  | .hbm, ⟨43, _⟩ => ⟨S256x128, .f32⟩
  | .hbm, ⟨44, _⟩ => ⟨S256x128, .i32⟩
  | .hbm, ⟨45, _⟩ => ⟨S_, .i32⟩
  | .hbm, ⟨46, _⟩ => ⟨S256x128, .i32⟩
  | .hbm, ⟨47, _⟩ => ⟨S256x128, .i32⟩
  | .hbm, ⟨48, _⟩ => ⟨S_, .i32⟩
  | .hbm, ⟨49, _⟩ => ⟨S256x128, .i32⟩
  | .hbm, ⟨50, _⟩ => ⟨S256x128, .i32⟩
  | .hbm, ⟨51, _⟩ => ⟨S_, .i32⟩
  | .hbm, ⟨52, _⟩ => ⟨S256x128, .i32⟩
  | .hbm, ⟨53, _⟩ => ⟨S256x128, .i1⟩
  | .hbm, ⟨54, _⟩ => ⟨S256x128, .i32⟩
  | .hbm, ⟨55, _⟩ => ⟨S256x128x1, .i32⟩
  | .hbm, ⟨56, _⟩ => ⟨S32, .i32⟩
  | .hbm, ⟨57, _⟩ => ⟨S1x1x32, .i32⟩
  | .hbm, ⟨58, _⟩ => ⟨S256x128x32, .i32⟩
  | .hbm, ⟨59, _⟩ => ⟨S256x128x32, .i32⟩
  | .hbm, ⟨60, _⟩ => ⟨S256x128x32, .i1⟩
  | .hbm, ⟨61, _⟩ => ⟨S256x128x32, .f32⟩
  | .hbm, ⟨62, _⟩ => ⟨S16x256x128, .f32⟩
  | .hbm, ⟨63, _⟩ => ⟨S1x256x128, .i1⟩
  | .hbm, ⟨64, _⟩ => ⟨S_, .f32⟩
  | .hbm, ⟨65, _⟩ => ⟨S_, .f32⟩
  | .hbm, ⟨66, _⟩ => ⟨S16x256x128, .i1⟩
  | .hbm, ⟨67, _⟩ => ⟨S16x256x128, .f32⟩
  | .hbm, ⟨68, _⟩ => ⟨S16x256x128, .f32⟩
  | .hbm, ⟨69, _⟩ => ⟨S16, .f32⟩
  | .hbm, ⟨70, _⟩ => ⟨S1024x32768, .bf16⟩
  | .local _ .vmem, ⟨0, _⟩ => ⟨S1024x128, .bf16⟩
  | .local _ .vmem, ⟨1, _⟩ => ⟨S1024x128, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S16x256x128, .f32⟩
  | .local _ .vmem, ⟨11, _⟩ => ⟨S1024x128, .bf16⟩
  | .local _ .vmem, ⟨12, _⟩ => ⟨S1024x128, .bf16⟩
  | .local _ .smem, ⟨0, _⟩ => ⟨S16, .f32⟩
  | _, _ => ⟨S1024x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_7 : Ref sig .tc := ⟨.hbm, 45, rfl⟩
abbrev main_v26 : Ref sig .tc := ⟨.hbm, 46, rfl⟩
abbrev main_v27 : Ref sig .tc := ⟨.hbm, 47, rfl⟩
abbrev main_c_8 : Ref sig .tc := ⟨.hbm, 48, rfl⟩
abbrev main_v28 : Ref sig .tc := ⟨.hbm, 49, rfl⟩
abbrev main_v29 : Ref sig .tc := ⟨.hbm, 50, rfl⟩
abbrev main_c_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![c0_i32_0.toNat, v3.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1024x32768 : Shape := ⟨2, ![1024, 32768]⟩
abbrev S32768x256 : Shape := ⟨2, ![32768, 256]⟩
abbrev S256x32768 : Shape := ⟨2, ![256, 32768]⟩
abbrev S32x16 : Shape := ⟨2, ![32, 16]⟩
abbrev S1x16 : Shape := ⟨2, ![1, 16]⟩
abbrev S16 : Shape := ⟨1, ![16]⟩
abbrev S32768x1024 : Shape := ⟨2, ![32768, 1024]⟩
abbrev S8x4096x16x64 : Shape := ⟨4, ![8, 4096, 16, 64]⟩
abbrev S8x4096x4x64 : Shape := ⟨4, ![8, 4096, 4, 64]⟩
abbrev S8x32x128x4x4x64 : Shape := ⟨6, ![8, 32, 128, 4, 4, 64]⟩
abbrev S_ : Shape := ⟨0, ![]⟩
abbrev S8x4224x4x64 : Shape := ⟨4, ![8, 4224, 4, 64]⟩
abbrev S8x33x128x4x64 : Shape := ⟨5, ![8, 33, 128, 4, 64]⟩
abbrev S8x32x128x4x64 : Shape := ⟨5, ![8, 32, 128, 4, 64]⟩
abbrev S8x32x256x4x64 : Shape := ⟨5, ![8, 32, 256, 4, 64]⟩
abbrev S8x32x4x256x128x4 : Shape := ⟨6, ![8, 32, 4, 256, 128, 4]⟩
abbrev S8x32x4x4x128x256 : Shape := ⟨6, ![8, 32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S128x256x1 : Shape := ⟨3, ![128, 256, 1]⟩
abbrev S128x256x16 : Shape := ⟨3, ![128, 256, 16]⟩
abbrev S16x128x256 : Shape := ⟨3, ![16, 128, 256]⟩
abbrev S4x4x128x256 : Shape := ⟨4, ![4, 4, 128, 256]⟩
abbrev S1x32x1x1x128x256 : Shape := ⟨6, ![1, 32, 1, 1, 128, 256]⟩
abbrev S1x1x4x4x128x256 : Shape := ⟨6, ![1, 1, 4, 4, 128, 256]⟩
abbrev S4x4 : Shape := ⟨2, ![4, 4]⟩
abbrev S1x1x4x4x1x1 : Shape := ⟨6, ![1, 1, 4, 4, 1, 1]⟩
abbrev S8x32x4x4x128x1 : Shape := ⟨6, ![8, 32, 4, 4, 128, 1]⟩
abbrev S8x32x4x4x128x257 : Shape := ⟨6, ![8, 32, 4, 4, 128, 257]⟩
abbrev S8x32x4x4x128 : Shape := ⟨5, ![8, 32, 4, 4, 128]⟩
abbrev S8x32x4x64x4x128 : Shape := ⟨6, ![8, 32, 4, 64, 4, 128]⟩

abbrev nBuf : Space → Nat
  | .hbm => 144
  | .vmem => 0
  | .smem => 0
  | _ => 0

abbrev hbmTy0_0 (i : Nat) : BufTy := match i % 128 with
  | 0 => ⟨S1024x32768, .bf16⟩
  | 1 => ⟨S32768x256, .bf16⟩
  | 2 => ⟨S256x32768, .bf16⟩
  | 3 => ⟨S32x16, .f32⟩
  | 4 => ⟨S1x16, .f32⟩
  | 5 => ⟨S16, .f32⟩
  | 6 => ⟨S1024x32768, .f32⟩
  | 7 => ⟨S32768x1024, .f32⟩
  | 8 => ⟨S8x4096x16x64, .f32⟩
  | 9 => ⟨S32768x256, .f32⟩
  | 10 => ⟨S8x4096x4x64, .f32⟩
  | 11 => ⟨S256x32768, .f32⟩
  | 12 => ⟨S32768x256, .f32⟩
  | 13 => ⟨S8x4096x4x64, .f32⟩
  | 14 => ⟨S8x32x128x4x4x64, .f32⟩
  | 15 => ⟨S_, .i32⟩
  | 16 => ⟨S_, .f32⟩
  | 17 => ⟨S8x4224x4x64, .f32⟩
  | 18 => ⟨S8x33x128x4x64, .f32⟩
  | 19 => ⟨S8x32x128x4x64, .f32⟩
  | 20 => ⟨S8x32x128x4x64, .f32⟩
  | 21 => ⟨S8x32x256x4x64, .f32⟩
  | 22 => ⟨S_, .i32⟩
  | 23 => ⟨S_, .f32⟩
  | 24 => ⟨S8x4224x4x64, .f32⟩
  | 25 => ⟨S8x33x128x4x64, .f32⟩
  | 26 => ⟨S8x32x128x4x64, .f32⟩
  | 27 => ⟨S8x32x128x4x64, .f32⟩
  | 28 => ⟨S8x32x256x4x64, .f32⟩
  | 29 => ⟨S8x32x4x256x128x4, .f32⟩
  | 30 => ⟨S8x32x4x4x128x256, .f32⟩
  | 31 => ⟨S128, .i32⟩
  | 32 => ⟨S128x1, .i32⟩
  | 33 => ⟨S256, .i32⟩
  | 34 => ⟨S1x256, .i32⟩
  | 35 => ⟨S_, .i32⟩
  | 36 => ⟨S128x1, .i32⟩
  | 37 => ⟨S128x1, .i32⟩
  | 38 => ⟨S128x256, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S128x256, .i32⟩
  | 46 => ⟨S128x256, .i1⟩
  | 47 => ⟨S128x256, .i1⟩
  | 48 => ⟨S32, .i32⟩
  | 49 => ⟨S32x1x1, .i32⟩
  | 50 => ⟨S_, .i32⟩
  | 51 => ⟨S32x1x1, .i32⟩
  | 52 => ⟨S32x1x1, .i32⟩
  | 53 => ⟨S1x1x256, .i32⟩
  | 54 => ⟨S32x1x256, .i32⟩
  | 55 => ⟨S32x1x256, .i32⟩
  | 56 => ⟨S32x1x256, .i32⟩
  | 57 => ⟨S_, .i32⟩
  | 58 => ⟨S32x1x256, .i32⟩
  | 59 => ⟨S32x1x256, .i32⟩
  | 60 => ⟨S1x128x256, .i1⟩
  | 61 => ⟨S_, .i32⟩
  | 62 => ⟨S32x1x256, .i32⟩
  | 63 => ⟨S32x1x256, .i1⟩
  | 64 => ⟨S32x128x256, .i1⟩
  | 65 => ⟨S32x128x256, .i1⟩
  | 66 => ⟨S32x128x256, .i1⟩
  | 67 => ⟨S_, .i32⟩
  | 68 => ⟨S_, .i32⟩
  | 69 => ⟨S_, .i32⟩
  | 70 => ⟨S128x256, .i32⟩
  | 71 => ⟨S128x256, .i32⟩
  | 72 => ⟨S_, .i32⟩
  | 73 => ⟨S128x256, .i32⟩
  | 74 => ⟨S128x256, .i32⟩
  | 75 => ⟨S_, .i32⟩
  | 76 => ⟨S128x256, .i32⟩
  | 77 => ⟨S128x256, .i32⟩
  | 78 => ⟨S128x256, .f32⟩
  | 79 => ⟨S_, .f32⟩
  | 80 => ⟨S128x256, .f32⟩
  | 81 => ⟨S128x256, .f32⟩
  | 82 => ⟨S128x256, .f32⟩
  | 83 => ⟨S_, .f32⟩
  | 84 => ⟨S128x256, .f32⟩
  | 85 => ⟨S128x256, .f32⟩
  | 86 => ⟨S_, .f32⟩
  | 87 => ⟨S128x256, .f32⟩
  | 88 => ⟨S128x256, .f32⟩
  | 89 => ⟨S128x256, .i32⟩
  | 90 => ⟨S_, .i32⟩
  | 91 => ⟨S128x256, .i32⟩
  | 92 => ⟨S128x256, .i32⟩
  | 93 => ⟨S_, .i32⟩
  | 94 => ⟨S128x256, .i32⟩
  | 95 => ⟨S128x256, .i32⟩
  | 96 => ⟨S_, .i32⟩
  | 97 => ⟨S128x256, .i32⟩
  | 98 => ⟨S128x256, .i1⟩
  | 99 => ⟨S128x256, .i32⟩
  | 100 => ⟨S_, .i32⟩
  | 101 => ⟨S128x256, .i32⟩
  | 102 => ⟨S128x256, .i1⟩
  | 103 => ⟨S_, .i32⟩
  | 104 => ⟨S128x256, .i32⟩
  | 105 => ⟨S128x256, .i32⟩
  | 106 => ⟨S128x256, .i32⟩
  | 107 => ⟨S128x256x1, .i32⟩
  | 108 => ⟨S128x256x16, .f32⟩
  | 109 => ⟨S16x128x256, .f32⟩
  | 110 => ⟨S4x4x128x256, .f32⟩
  | 111 => ⟨S1x32x1x1x128x256, .i1⟩
  | 112 => ⟨S1x1x4x4x128x256, .f32⟩
  | 113 => ⟨S8x32x4x4x128x256, .f32⟩
  | 114 => ⟨S8x32x4x4x128x256, .f32⟩
  | 115 => ⟨S_, .f32⟩
  | 116 => ⟨S_, .f32⟩
  | 117 => ⟨S8x32x4x4x128x256, .i1⟩
  | 118 => ⟨S8x32x4x4x128x256, .f32⟩
  | 119 => ⟨S8x32x4x4x128x256, .f32⟩
  | 120 => ⟨S4x4, .f32⟩
  | 121 => ⟨S1x1x4x4x1x1, .f32⟩
  | 122 => ⟨S8x32x4x4x128x1, .f32⟩
  | 123 => ⟨S8x32x4x4x128x257, .f32⟩
  | 124 => ⟨S_, .f32⟩
  | 125 => ⟨S8x32x4x4x128, .f32⟩
  | 126 => ⟨S_, .f32⟩
  | 127 => ⟨S8x32x4x4x128, .f32⟩
  | _ => ⟨S1024x32768, .bf16⟩

abbrev hbmTy0_1 (i : Nat) : BufTy := match i % 128 with
  | 0 => ⟨S8x32x4x4x128, .f32⟩
  | 1 => ⟨S8x32x4x4x128x1, .f32⟩
  | 2 => ⟨S8x32x4x4x128x257, .f32⟩
  | 3 => ⟨S8x32x4x4x128x257, .f32⟩
  | 4 => ⟨S8x32x4x4x128x257, .f32⟩
  | 5 => ⟨S_, .f32⟩
  | 6 => ⟨S8x32x4x4x128, .f32⟩
  | 7 => ⟨S8x32x4x4x128x1, .f32⟩
  | 8 => ⟨S8x32x4x4x128x257, .f32⟩
  | 9 => ⟨S8x32x4x4x128x257, .f32⟩
  | 10 => ⟨S8x32x4x4x128x256, .f32⟩
  | 11 => ⟨S8x32x4x64x4x128, .f32⟩
  | 12 => ⟨S8x32x128x4x4x64, .f32⟩
  | 13 => ⟨S32768x1024, .f32⟩
  | 14 => ⟨S1024x32768, .f32⟩
  | 15 => ⟨S1024x32768, .bf16⟩
  | _ => ⟨S1024x32768, .bf16⟩

abbrev hbmTy (i : Nat) : BufTy := match i / 128 with
  | 0 => hbmTy0_0 i
  | 1 => hbmTy0_1 i
  | _ => ⟨S1024x32768, .bf16⟩

abbrev bufTy : (tb : Table) → Fin (tcTables nBuf tb) → BufTy
  | .hbm, ⟨i, _⟩ => hbmTy i
  | _, _ => ⟨S1024x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_call1_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_2 : Ref sig .tc := ⟨.hbm, 41, rfl⟩
abbrev main_v31 : Ref sig .tc := ⟨.hbm, 42, rfl⟩
abbrev main_v32 : Ref sig .tc := ⟨.hbm, 43, rfl⟩
abbrev main_c_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_7 : Ref sig .tc := ⟨.hbm, 67, rfl⟩
abbrev main_c_8 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_17 : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_18 : Ref sig .tc := ⟨.hbm, 124, rfl⟩
abbrev main_v89 : Ref sig .tc := ⟨.hbm, 125, rfl⟩
abbrev main_cst_19 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_20 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩

abbrev nD : Nat := 1
abbrev τ : Topo := Topo.v7x

variable {F : FTy → Type} [FloatOps F]
-- ==== Kernel2.lean ====
abbrev S32768x2048 : Shape := ⟨2, ![32768, 2048]⟩
abbrev S1x2048 : Shape := ⟨2, ![1, 2048]⟩
abbrev S1024x2048 : Shape := ⟨2, ![1024, 2048]⟩
abbrev S256x2048 : Shape := ⟨2, ![256, 2048]⟩
abbrev S2048x256 : Shape := ⟨2, ![2048, 256]⟩
abbrev S1024x32768 : Shape := ⟨2, ![1024, 32768]⟩
abbrev S256x32768 : Shape := ⟨2, ![256, 32768]⟩
abbrev S32768x256 : Shape := ⟨2, ![32768, 256]⟩
abbrev S512x2048 : Shape := ⟨2, ![512, 2048]⟩
abbrev S1024x512 : Shape := ⟨2, ![1024, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1024x2048, .bf16⟩
  | .hbm, ⟨3, _⟩ => ⟨S1024x2048, .bf16⟩
  | .hbm, ⟨4, _⟩ => ⟨S256x2048, .bf16⟩
  | .hbm, ⟨5, _⟩ => ⟨S2048x256, .bf16⟩
  | .hbm, ⟨6, _⟩ => ⟨S1024x32768, .f32⟩
  | .hbm, ⟨7, _⟩ => ⟨S1024x32768, .bf16⟩
  | .hbm, ⟨8, _⟩ => ⟨S256x32768, .bf16⟩
  | .hbm, ⟨9, _⟩ => ⟨S32768x256, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S256x2048, .bf16⟩
  | .local _ .vmem, ⟨6, _⟩ => ⟨S2048x256, .bf16⟩
  | .local _ .vmem, ⟨7, _⟩ => ⟨S1024x512, .f32⟩
  | .local _ .vmem, ⟨8, _⟩ => ⟨S1024x512, .f32⟩
  | .local _ .vmem, ⟨9, _⟩ => ⟨S1024x512, .bf16⟩
  | .local _ .vmem, ⟨10, _⟩ => ⟨S1024x512, .bf16⟩
  | .local _ .vmem, ⟨11, _⟩ => ⟨S256x512, .bf16⟩
  | .local _ .vmem, ⟨12, _⟩ => ⟨S256x512, .bf16⟩
  | .local _ .vmem, ⟨13, _⟩ => ⟨S512x256, .bf16⟩
  | .local _ .vmem, ⟨14, _⟩ => ⟨S512x256, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S32768x2048 : Shape := ⟨2, ![32768, 2048]⟩
abbrev S1x2048 : Shape := ⟨2, ![1, 2048]⟩
abbrev S1024x2048 : Shape := ⟨2, ![1024, 2048]⟩
abbrev S256x2048 : Shape := ⟨2, ![256, 2048]⟩
abbrev S2048x256 : Shape := ⟨2, ![2048, 256]⟩
abbrev S_ : Shape := ⟨0, ![]⟩
abbrev S32768 : Shape := ⟨1, ![32768]⟩
abbrev S32768x1 : Shape := ⟨2, ![32768, 1]⟩
abbrev S2048x1024 : Shape := ⟨2, ![2048, 1024]⟩
abbrev S32768x1024 : Shape := ⟨2, ![32768, 1024]⟩
abbrev S32768x256 : Shape := ⟨2, ![32768, 256]⟩
abbrev S1024x32768 : Shape := ⟨2, ![1024, 32768]⟩
abbrev S256x32768 : Shape := ⟨2, ![256, 32768]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1024x2048, .bf16⟩
  | .hbm, ⟨3, _⟩ => ⟨S1024x2048, .bf16⟩
  | .hbm, ⟨4, _⟩ => ⟨S256x2048, .bf16⟩
  | .hbm, ⟨5, _⟩ => ⟨S2048x256, .bf16⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S1024x2048, .f32⟩
  | .hbm, ⟨22, _⟩ => ⟨S2048x1024, .f32⟩
  | .hbm, ⟨23, _⟩ => ⟨S32768x1024, .f32⟩
  | .hbm, ⟨24, _⟩ => ⟨S1024x2048, .f32⟩
  | .hbm, ⟨25, _⟩ => ⟨S2048x1024, .f32⟩
  | .hbm, ⟨26, _⟩ => ⟨S32768x1024, .f32⟩
  | .hbm, ⟨27, _⟩ => ⟨S256x2048, .f32⟩
  | .hbm, ⟨28, _⟩ => ⟨S2048x256, .f32⟩
  | .hbm, ⟨29, _⟩ => ⟨S32768x256, .f32⟩
  | .hbm, ⟨30, _⟩ => ⟨S2048x256, .f32⟩
  | .hbm, ⟨31, _⟩ => ⟨S32768x256, .f32⟩
  | .hbm, ⟨32, _⟩ => ⟨S1024x32768, .f32⟩
  | .hbm, ⟨33, _⟩ => ⟨S1024x32768, .f32⟩
  | .hbm, ⟨34, _⟩ => ⟨S1024x32768, .bf16⟩
  | .hbm, ⟨35, _⟩ => ⟨S256x32768, .f32⟩
  | .hbm, ⟨36, _⟩ => ⟨S256x32768, .bf16⟩
  | .hbm, ⟨37, _⟩ => ⟨S32768x256, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel3.lean ====
abbrev S8x256x2048 : Shape := ⟨3, ![8, 256, 2048]⟩
abbrev S1x2048 : Shape := ⟨2, ![1, 2048]⟩
abbrev S2048x1024 : Shape := ⟨2, ![2048, 1024]⟩
abbrev S8x256x512 : Shape := ⟨3, ![8, 256, 512]⟩
abbrev S1x256x2048 : Shape := ⟨3, ![1, 256, 2048]⟩
abbrev S1x256x512 : Shape := ⟨3, ![1, 256, 512]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x512 : Shape := ⟨2, ![256, 512]⟩

abbrev nBuf : Space → Nat
  | .hbm => 5
  | .vmem => 8
  | .smem => 0
  | _ => 0

abbrev bufTy : (tb : Table) → Fin (tcTables nBuf tb) → BufTy
  | .hbm, ⟨0, _⟩ => ⟨S8x256x2048, .f32⟩
  | .hbm, ⟨1, _⟩ => ⟨S1x2048, .f32⟩
  | .hbm, ⟨2, _⟩ => ⟨S2048x1024, .bf16⟩
  | .hbm, ⟨3, _⟩ => ⟨S8x256x512, .bf16⟩
  | .hbm, ⟨4, _⟩ => ⟨S8x256x512, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S2048x1024, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8x256x2048 : Shape := ⟨3, ![8, 256, 2048]⟩
abbrev S1x2048 : Shape := ⟨2, ![1, 2048]⟩
abbrev S2048x1024 : Shape := ⟨2, ![2048, 1024]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S8x256x1024 : Shape := ⟨3, ![8, 256, 1024]⟩
abbrev S8x256x2x512 : Shape := ⟨4, ![8, 256, 2, 512]⟩
abbrev S8x256x1x512 : Shape := ⟨4, ![8, 256, 1, 512]⟩
abbrev S8x256x512 : Shape := ⟨3, ![8, 256, 512]⟩

abbrev nBuf : Space → Nat
  | .hbm => 28
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S1x2048, .f32⟩
  | .hbm, ⟨2, _⟩ => ⟨S2048x1024, .bf16⟩
  | .hbm, ⟨3, _⟩ => ⟨S8x256x2048, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x2048, .f32⟩
  | .hbm, ⟨15, _⟩ => ⟨S8x256x2048, .f32⟩
  | .hbm, ⟨16, _⟩ => ⟨S1x1x2048, .f32⟩
  | .hbm, ⟨17, _⟩ => ⟨S8x256x2048, .f32⟩
  | .hbm, ⟨18, _⟩ => ⟨S8x256x2048, .f32⟩
  | .hbm, ⟨19, _⟩ => ⟨S2048x1024, .f32⟩
  | .hbm, ⟨20, _⟩ => ⟨S8x256x1024, .f32⟩
  | .hbm, ⟨21, _⟩ => ⟨S8x256x2x512, .f32⟩
  | .hbm, ⟨22, _⟩ => ⟨S8x256x1x512, .f32⟩
  | .hbm, ⟨23, _⟩ => ⟨S8x256x512, .f32⟩
  | .hbm, ⟨24, _⟩ => ⟨S8x256x512, .bf16⟩
  | .hbm, ⟨25, _⟩ => ⟨S8x256x1x512, .f32⟩
  | .hbm, ⟨26, _⟩ => ⟨S8x256x512, .f32⟩
  | .hbm, ⟨27, _⟩ => ⟨S8x256x512, .bf16⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel4.lean ====
abbrev S32768x2048 : Shape := ⟨2, ![32768, 2048]⟩
abbrev S1024x32768 : Shape := ⟨2, ![1024, 32768]⟩
abbrev S1024x1024 : Shape := ⟨2, ![1024, 1024]⟩
abbrev S1024x1 : Shape := ⟨2, ![1024, 1]⟩
abbrev S2048x2048 : Shape := ⟨2, ![2048, 2048]⟩
abbrev S1x2048 : Shape := ⟨2, ![1, 2048]⟩
abbrev S2048x512 : Shape := ⟨2, ![2048, 512]⟩
abbrev S8x256x512 : Shape := ⟨3, ![8, 256, 512]⟩
abbrev S512x2048 : Shape := ⟨2, ![512, 2048]⟩
abbrev S1024x512 : Shape := ⟨2, ![1024, 512]⟩
abbrev S1x256x512 : Shape := ⟨3, ![1, 256, 512]⟩
abbrev S1024x2048 : Shape := ⟨2, ![1024, 2048]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 12
  | .vmem => 18
  | .smem => 0
  | _ => 0

abbrev bufTy : (tb : Table) → Fin (tcTables nBuf tb) → BufTy
  | .hbm, ⟨0, _⟩ => ⟨S32768x2048, .f32⟩
  | .hbm, ⟨1, _⟩ => ⟨S1024x32768, .f32⟩
  | .hbm, ⟨2, _⟩ => ⟨S1024x32768, .bf16⟩
  | .hbm, ⟨3, _⟩ => ⟨S1024x1024, .bf16⟩
  | .hbm, ⟨4, _⟩ => ⟨S1024x1, .f32⟩
  | .hbm, ⟨5, _⟩ => ⟨S2048x2048, .bf16⟩
  | .hbm, ⟨6, _⟩ => ⟨S1x2048, .f32⟩
  | .hbm, ⟨7, _⟩ => ⟨S2048x512, .bf16⟩
  | .hbm, ⟨8, _⟩ => ⟨S8x256x512, .bf16⟩
  | .hbm, ⟨9, _⟩ => ⟨S8x256x512, .bf16⟩
  | .hbm, ⟨10, _⟩ => ⟨S512x2048, .bf16⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1, .f32⟩
  | .local _ .vmem, ⟨8, _⟩ => ⟨S2048x2048, .bf16⟩
  | .local _ .vmem, ⟨9, _⟩ => ⟨S1x2048, .f32⟩
  | .local _ .vmem, ⟨10, _⟩ => ⟨S2048x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S512x2048, .bf16⟩
  | .local _ .vmem, ⟨16, _⟩ => ⟨S512x2048, .f32⟩
  | .local _ .vmem, ⟨17, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S32768x2048 : Shape := ⟨2, ![32768, 2048]⟩
abbrev S1024x32768 : Shape := ⟨2, ![1024, 32768]⟩
abbrev S1024x1024 : Shape := ⟨2, ![1024, 1024]⟩
abbrev S1024x1 : Shape := ⟨2, ![1024, 1]⟩
abbrev S2048x2048 : Shape := ⟨2, ![2048, 2048]⟩
abbrev S1x2048 : Shape := ⟨2, ![1, 2048]⟩
abbrev S2048x512 : Shape := ⟨2, ![2048, 512]⟩
abbrev S8x256x512 : Shape := ⟨3, ![8, 256, 512]⟩
abbrev S512x2048 : Shape := ⟨2, ![512, 2048]⟩
abbrev S32768x1024 : Shape := ⟨2, ![32768, 1024]⟩
abbrev S_ : Shape := ⟨0, ![]⟩
abbrev S1x1024 : Shape := ⟨2, ![1, 1024]⟩
abbrev S32768 : Shape := ⟨1, ![32768]⟩
abbrev S32768x1 : Shape := ⟨2, ![32768, 1]⟩
abbrev S32768x512 : Shape := ⟨2, ![32768, 512]⟩
abbrev S8x4096x4x128 : Shape := ⟨4, ![8, 4096, 4, 128]⟩
abbrev S8x256x4x128 : Shape := ⟨4, ![8, 256, 4, 128]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩

abbrev nBuf : Space → Nat
  | .hbm => 96
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1024x32768, .f32⟩
  | .hbm, ⟨2, _⟩ => ⟨S1024x32768, .bf16⟩
  | .hbm, ⟨3, _⟩ => ⟨S1024x1024, .bf16⟩
  | .hbm, ⟨4, _⟩ => ⟨S1024x1, .f32⟩
  | .hbm, ⟨5, _⟩ => ⟨S2048x2048, .bf16⟩
  | .hbm, ⟨6, _⟩ => ⟨S1x2048, .f32⟩
  | .hbm, ⟨7, _⟩ => ⟨S2048x512, .bf16⟩
  | .hbm, ⟨8, _⟩ => ⟨S8x256x512, .bf16⟩
  | .hbm, ⟨9, _⟩ => ⟨S8x256x512, .bf16⟩
  | .hbm, ⟨10, _⟩ => ⟨S512x2048, .bf16⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S1024x1024, .f32⟩
  | .hbm, ⟨30, _⟩ => ⟨S1024x1024, .f32⟩
  | .hbm, ⟨31, _⟩ => ⟨S32768x1024, .f32⟩
  | .hbm, ⟨32, _⟩ => ⟨S1x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S1024x32768, .f32⟩
  | .hbm, ⟨45, _⟩ => ⟨S32768x1024, .f32⟩
  | .hbm, ⟨46, _⟩ => ⟨S32768x2048, .f32⟩
  | .hbm, ⟨47, _⟩ => ⟨S2048x2048, .f32⟩
  | .hbm, ⟨48, _⟩ => ⟨S32768x2048, .f32⟩
  | .hbm, ⟨49, _⟩ => ⟨S32768x2048, .f32⟩
  | .hbm, ⟨50, _⟩ => ⟨S32768x2048, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x2048, .f32⟩
  | .hbm, ⟨62, _⟩ => ⟨S32768x2048, .f32⟩
  | .hbm, ⟨63, _⟩ => ⟨S32768x2048, .f32⟩
  | .hbm, ⟨64, _⟩ => ⟨S32768x2048, .f32⟩
  | .hbm, ⟨65, _⟩ => ⟨S2048x512, .f32⟩
  | .hbm, ⟨66, _⟩ => ⟨S32768x512, .f32⟩
  | .hbm, ⟨67, _⟩ => ⟨S8x4096x4x128, .f32⟩
  | .hbm, ⟨68, _⟩ => ⟨S8x256x512, .f32⟩
  | .hbm, ⟨69, _⟩ => ⟨S8x256x4x128, .f32⟩
  | .hbm, ⟨70, _⟩ => ⟨S8x256x512, .f32⟩
  | .hbm, ⟨71, _⟩ => ⟨S8x256x4x128, .f32⟩
  | .hbm, ⟨72, _⟩ => ⟨S8x4x4096x256, .f32⟩
  | .hbm, ⟨73, _⟩ => ⟨S_, .f32⟩
  | .hbm, ⟨74, _⟩ => ⟨S8x4x4096x256, .f32⟩
  | .hbm, ⟨75, _⟩ => ⟨S8x4x4096x256, .f32⟩
  | .hbm, ⟨76, _⟩ => ⟨S_, .f32⟩
  | .hbm, ⟨77, _⟩ => ⟨S8x4x4096, .f32⟩
  | .hbm, ⟨78, _⟩ => ⟨S_, .f32⟩
  | .hbm, ⟨79, _⟩ => ⟨S8x4x4096, .f32⟩
  | .hbm, ⟨80, _⟩ => ⟨S8x4x4096, .f32⟩
  | .hbm, ⟨81, _⟩ => ⟨S8x4x4096x1, .f32⟩
  | .hbm, ⟨82, _⟩ => ⟨S8x4x4096x256, .f32⟩
  | .hbm, ⟨83, _⟩ => ⟨S8x4x4096x256, .f32⟩
  | .hbm, ⟨84, _⟩ => ⟨S8x4x4096x256, .f32⟩
  | .hbm, ⟨85, _⟩ => ⟨S_, .f32⟩
  | .hbm, ⟨86, _⟩ => ⟨S8x4x4096, .f32⟩
  | .hbm, ⟨87, _⟩ => ⟨S8x4x4096x1, .f32⟩
  | .hbm, ⟨88, _⟩ => ⟨S8x4x4096x256, .f32⟩
  | .hbm, ⟨89, _⟩ => ⟨S8x4x4096x256, .f32⟩
  | .hbm, ⟨90, _⟩ => ⟨S8x4x128x4096, .f32⟩
  | .hbm, ⟨91, _⟩ => ⟨S8x4096x4x128, .f32⟩
  | .hbm, ⟨92, _⟩ => ⟨S32768x512, .f32⟩
  | .hbm, ⟨93, _⟩ => ⟨S512x2048, .f32⟩
  | .hbm, ⟨94, _⟩ => ⟨S32768x2048, .f32⟩
  | .hbm, ⟨95, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Kernel5.lean ====
abbrev S2048x32768 : Shape := ⟨2, ![2048, 32768]⟩
abbrev S16384x2048 : Shape := ⟨2, ![16384, 2048]⟩
abbrev S8x128x32768 : Shape := ⟨3, ![8, 128, 32768]⟩
abbrev S32768x2048 : Shape := ⟨2, ![32768, 2048]⟩
abbrev S1x2048 : Shape := ⟨2, ![1, 2048]⟩
abbrev S2048x512 : Shape := ⟨2, ![2048, 512]⟩
abbrev S1024x2048 : Shape := ⟨2, ![1024, 2048]⟩
abbrev S8x128x512 : Shape := ⟨3, ![8, 128, 512]⟩
abbrev S512x2048 : Shape := ⟨2, ![512, 2048]⟩
abbrev S512x1024 : Shape := ⟨2, ![512, 1024]⟩
abbrev S128x2048 : Shape := ⟨2, ![128, 2048]⟩
abbrev S128x512 : Shape := ⟨2, ![128, 512]⟩
abbrev S1024x512 : Shape := ⟨2, ![1024, 512]⟩
abbrev S1x1x512 : Shape := ⟨3, ![1, 1, 512]⟩
abbrev S1x512 : Shape := ⟨2, ![1, 512]⟩
abbrev S1x128x128 : Shape := ⟨3, ![1, 128, 128]⟩
abbrev S128x128 : Shape := ⟨2, ![128, 128]⟩
abbrev S8x16x128 : Shape := ⟨3, ![8, 16, 128]⟩
abbrev S1x128 : Shape := ⟨2, ![1, 128]⟩
abbrev S8x128 : Shape := ⟨2, ![8, 128]⟩
abbrev S16x128 : Shape := ⟨2, ![16, 128]⟩
abbrev S1x16x128 : Shape := ⟨3, ![1, 16, 128]⟩
abbrev S128x1024 : Shape := ⟨2, ![128, 1024]⟩
abbrev S512 : Shape := ⟨1, ![512]⟩
abbrev S512x1 : Shape := ⟨2, ![512, 1]⟩

abbrev nBuf : Space → Nat
  | .hbm => 10
  | .vmem => 20
  | .smem => 0
  | _ => 0

abbrev bufTy : (tb : Table) → Fin (tcTables nBuf tb) → BufTy
  | .hbm, ⟨0, _⟩ => ⟨S2048x32768, .bf16⟩
  | .hbm, ⟨1, _⟩ => ⟨S16384x2048, .bf16⟩
  | .hbm, ⟨2, _⟩ => ⟨S16384x2048, .bf16⟩
  | .hbm, ⟨3, _⟩ => ⟨S8x128x32768, .i32⟩
  | .hbm, ⟨4, _⟩ => ⟨S8x128x32768, .i32⟩
  | .hbm, ⟨5, _⟩ => ⟨S8x128x32768, .bf16⟩
  | .hbm, ⟨6, _⟩ => ⟨S8x128x32768, .bf16⟩
  | .hbm, ⟨7, _⟩ => ⟨S32768x2048, .f32⟩
  | .hbm, ⟨8, _⟩ => ⟨S1x2048, .f32⟩
  | .hbm, ⟨9, _⟩ => ⟨S32768x2048, .f32⟩
  | .local _ .vmem, ⟨0, _⟩ => ⟨S2048x512, .bf16⟩
  | .local _ .vmem, ⟨1, _⟩ => ⟨S2048x512, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S8x128x512, .i32⟩
  | .local _ .vmem, ⟨7, _⟩ => ⟨S8x128x512, .i32⟩
  | .local _ .vmem, ⟨8, _⟩ => ⟨S8x128x512, .i32⟩
  | .local _ .vmem, ⟨9, _⟩ => ⟨S8x128x512, .i32⟩
  | .local _ .vmem, ⟨10, _⟩ => ⟨S8x128x512, .bf16⟩
  | .local _ .vmem, ⟨11, _⟩ => ⟨S8x128x512, .bf16⟩
  | .local _ .vmem, ⟨12, _⟩ => ⟨S8x128x512, .bf16⟩
  | .local _ .vmem, ⟨13, _⟩ => ⟨S8x128x512, .bf16⟩
  | .local _ .vmem, ⟨14, _⟩ => ⟨S512x2048, .f32⟩
  | .local _ .vmem, ⟨15, _⟩ => ⟨S512x2048, .f32⟩
  | .local _ .vmem, ⟨16, _⟩ => ⟨S1x2048, .f32⟩
  | .local _ .vmem, ⟨17, _⟩ => ⟨S512x2048, .f32⟩
  | .local _ .vmem, ⟨18, _⟩ => ⟨S512x2048, .f32⟩
  | .local _ .vmem, ⟨19, _⟩ => ⟨S512x1024, .bf16⟩
  | _, _ => ⟨S2048x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![64, 16], ![false, false]⟩

def k0_off1 (i : grid0.Coords) (c0_i32_32 : BitVec 32) : Fin 3 → Nat :=
  let c0_33 : Index := 0#32
  let arg1 : BitVec 32 := BitVec.ofNat 32 (i 1).val
  let c8_i32 : BitVec 32 := 8#32
  let v28 : BitVec 32 := Scalar.muli arg1 c8_i32
  let v29 : BitVec 32 := Scalar.addi v28 c0_i32_32
  let v30 : Index := Scalar.indexCast v29
  let c0_34 : Index := 0#32
  ![0, v30.toNat, 0]
def k0_off2 (i : grid0.Coords) (c0_i32_35 : BitVec 32) : Fin 3 → Nat :=
  let c1 : Index := 1#32
  let arg1 : BitVec 32 := BitVec.ofNat 32 (i 1).val
  let c8_i32 : BitVec 32 := 8#32
  let v28 : BitVec 32 := Scalar.muli arg1 c8_i32
  let v33 : BitVec 32 := Scalar.addi v28 c0_i32_35
  let v34 : Index := Scalar.indexCast v33
  let c0_36 : Index := 0#32
  ![1, v34.toNat, 0]
def k0_off3 (i : grid0.Coords) (c0_i32_37 : BitVec 32) : Fin 3 → Nat :=
  let c2 : Index := 2#32
  let arg1 : BitVec 32 := BitVec.ofNat 32 (i 1).val
  let c8_i32 : BitVec 32 := 8#32
  let v28 : BitVec 32 := Scalar.muli arg1 c8_i32
  let v37 : BitVec 32 := Scalar.addi v28 c0_i32_37
  let v38 : Index := Scalar.indexCast v37
  let c0_38 : Index := 0#32
  ![2, v38.toNat, 0]
def k0_off4 (i : grid0.Coords) (c0_i32_39 : BitVec 32) : Fin 3 → Nat :=
  let c3 : Index := 3#32
  let arg1 : BitVec 32 := BitVec.ofNat 32 (i 1).val
  let c8_i32 : BitVec 32 := 8#32
  let v28 : BitVec 32 := Scalar.muli arg1 c8_i32
  let v41 : BitVec 32 := Scalar.addi v28 c0_i32_39
  let v42 : Index := Scalar.indexCast v41
  let c0_40 : Index := 0#32
  ![3, v42.toNat, 0]
def k0_off5 (i : grid0.Coords) (c0_i32_41 : BitVec 32) : Fin 3 → Nat :=
  let c4 : Index := 4#32
  let arg1 : BitVec 32 := BitVec.ofNat 32 (i 1).val
  let c8_i32 : BitVec 32 := 8#32
  let v28 : BitVec 32 := Scalar.muli arg1 c8_i32
  let v45 : BitVec 32 := Scalar.addi v28 c0_i32_41
  let v46 : Index := Scalar.indexCast v45
  let c0_42 : Index := 0#32
  ![4, v46.toNat, 0]
def k0_off6 (i : grid0.Coords) (c0_i32_43 : BitVec 32) : Fin 3 → Nat :=
  let c5 : Index := 5#32
  let arg1 : BitVec 32 := BitVec.ofNat 32 (i 1).val
  let c8_i32 : BitVec 32 := 8#32
  let v28 : BitVec 32 := Scalar.muli arg1 c8_i32
  let v49 : BitVec 32 := Scalar.addi v28 c0_i32_43
  let v50 : Index := Scalar.indexCast v49
  let c0_44 : Index := 0#32
  ![5, v50.toNat, 0]
def k0_off7 (i : grid0.Coords) (c0_i32_45 : BitVec 32) : Fin 3 → Nat :=
  let c6 : Index := 6#32
  let arg1 : BitVec 32 := BitVec.ofNat 32 (i 1).val
  let c8_i32 : BitVec 32 := 8#32
  let v28 : BitVec 32 := Scalar.muli arg1 c8_i32
  let v53 : BitVec 32 := Scalar.addi v28 c0_i32_45
  let v54 : Index := Scalar.indexCast v53
  let c0_46 : Index := 0#32
  ![6, v54.toNat, 0]
def k0_off8 (i : grid0.Coords) (c0_i32_47 : BitVec 32) : Fin 3 → Nat :=
  let c7 : Index := 7#32
  let arg1 : BitVec 32 := BitVec.ofNat 32 (i 1).val
  let c8_i32 : BitVec 32 := 8#32
  let v28 : BitVec 32 := Scalar.muli arg1 c8_i32
  let v57 : BitVec 32 := Scalar.addi v28 c0_i32_47
  let v58 : Index := Scalar.indexCast v57
  let c0_48 : Index := 0#32
  ![7, v58.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel5Ideal.lean ====
variable {F : FTy → Type} [FloatOps F] [Named F]
def κ : String → Option EReal := fun
  | "gelu1" => some ((-((2 * (6693141 / 8388608)) * (Real.log 2)⁻¹) : ℝ) : EReal)
  | "gelu2" => some (((-((2 * (6693141 / 8388608)) * (Real.log 2)⁻¹)) * (12003091 / 268435456) : ℝ) : EReal)
  | _ => none
-- ==== Reference5Ideal.lean ====
abbrev S2048x32768 : Shape := ⟨2, ![2048, 32768]⟩
abbrev S16384x2048 : Shape := ⟨2, ![16384, 2048]⟩
abbrev S8x128x32768 : Shape := ⟨3, ![8, 128, 32768]⟩
abbrev S32768x2048 : Shape := ⟨2, ![32768, 2048]⟩
abbrev S1x2048 : Shape := ⟨2, ![1, 2048]⟩
abbrev S2048x16384 : Shape := ⟨2, ![2048, 16384]⟩
abbrev S32768x16384 : Shape := ⟨2, ![32768, 16384]⟩
abbrev S_ : Shape := ⟨0, ![]⟩
abbrev S8x1x64x2x32768 : Shape := ⟨5, ![8, 1, 64, 2, 32768]⟩
abbrev S8x128x32768x2 : Shape := ⟨4, ![8, 128, 32768, 2]⟩
abbrev S8x128x2x32768 : Shape := ⟨4, ![8, 128, 2, 32768]⟩
abbrev S8x128x1x2x32768 : Shape := ⟨5, ![8, 128, 1, 2, 32768]⟩
abbrev S8x128x64x2x32768 : Shape := ⟨5, ![8, 128, 64, 2, 32768]⟩
abbrev S128x64x2x32768 : Shape := ⟨4, ![128, 64, 2, 32768]⟩
abbrev S16384x32768 : Shape := ⟨2, ![16384, 32768]⟩
abbrev S32768 : Shape := ⟨1, ![32768]⟩
abbrev S32768x1 : Shape := ⟨2, ![32768, 1]⟩

abbrev nBuf : Space → Nat
  | .hbm => 76
  | .vmem => 0
  | .smem => 0
  | _ => 0

abbrev bufTy : (tb : Table) → Fin (tcTables nBuf tb) → BufTy
  | .hbm, ⟨0, _⟩ => ⟨S2048x32768, .bf16⟩
  | .hbm, ⟨1, _⟩ => ⟨S16384x2048, .bf16⟩
  | .hbm, ⟨2, _⟩ => ⟨S16384x2048, .bf16⟩
  | .hbm, ⟨3, _⟩ => ⟨S8x128x32768, .i32⟩
  | .hbm, ⟨4, _⟩ => ⟨S8x128x32768, .i32⟩
  | .hbm, ⟨5, _⟩ => ⟨S8x128x32768, .bf16⟩
  | .hbm, ⟨6, _⟩ => ⟨S8x128x32768, .bf16⟩
  | .hbm, ⟨7, _⟩ => ⟨S32768x2048, .f32⟩
  | .hbm, ⟨8, _⟩ => ⟨S1x2048, .f32⟩
  | .hbm, ⟨9, _⟩ => ⟨S2048x32768, .f32⟩
  | .hbm, ⟨10, _⟩ => ⟨S32768x2048, .f32⟩
  | .hbm, ⟨11, _⟩ => ⟨S16384x2048, .f32⟩
  | .hbm, ⟨12, _⟩ => ⟨S2048x16384, .f32⟩
  | .hbm, ⟨13, _⟩ => ⟨S32768x16384, .f32⟩
  | .hbm, ⟨14, _⟩ => ⟨S32768x16384, .f32⟩
  | .hbm, ⟨15, _⟩ => ⟨S32768x16384, .f32⟩
  | .hbm, ⟨16, _⟩ => ⟨S_, .f32⟩
  | .hbm, ⟨17, _⟩ => ⟨S32768x16384, .f32⟩
  | .hbm, ⟨18, _⟩ => ⟨S32768x16384, .f32⟩
  | .hbm, ⟨19, _⟩ => ⟨S32768x16384, .f32⟩
  | .hbm, ⟨20, _⟩ => ⟨S_, .f32⟩
  | .hbm, ⟨21, _⟩ => ⟨S32768x16384, .f32⟩
  | .hbm, ⟨22, _⟩ => ⟨S32768x16384, .f32⟩
  | .hbm, ⟨23, _⟩ => ⟨S32768x16384, .f32⟩
  | .hbm, ⟨24, _⟩ => ⟨S_, .f32⟩
  | .hbm, ⟨25, _⟩ => ⟨S32768x16384, .f32⟩
  | .hbm, ⟨26, _⟩ => ⟨S32768x16384, .f32⟩
  | .hbm, ⟨27, _⟩ => ⟨S_, .f32⟩
  | .hbm, ⟨28, _⟩ => ⟨S32768x16384, .f32⟩
  | .hbm, ⟨29, _⟩ => ⟨S32768x16384, .f32⟩
  | .hbm, ⟨30, _⟩ => ⟨S32768x16384, .f32⟩
  | .hbm, ⟨31, _⟩ => ⟨S8x128x32768, .f32⟩
  | .hbm, ⟨32, _⟩ => ⟨S8x1x64x2x32768, .f32⟩
  | .hbm, ⟨33, _⟩ => ⟨S8x128x32768x2, .bf16⟩
  | .hbm, ⟨34, _⟩ => ⟨S8x128x32768x2, .f32⟩
  | .hbm, ⟨35, _⟩ => ⟨S8x128x2x32768, .f32⟩
  | .hbm, ⟨36, _⟩ => ⟨S8x128x1x2x32768, .f32⟩
  | .hbm, ⟨37, _⟩ => ⟨S8x128x64x2x32768, .f32⟩
  | .hbm, ⟨38, _⟩ => ⟨S8x128x64x2x32768, .f32⟩
  | .hbm, ⟨39, _⟩ => ⟨S8x128x64x2x32768, .i1⟩
  | .hbm, ⟨40, _⟩ => ⟨S8x128x32768x2, .bf16⟩
  | .hbm, ⟨41, _⟩ => ⟨S8x128x32768x2, .f32⟩
  | .hbm, ⟨42, _⟩ => ⟨S8x128x2x32768, .f32⟩
  | .hbm, ⟨43, _⟩ => ⟨S8x128x1x2x32768, .f32⟩
  | .hbm, ⟨44, _⟩ => ⟨S8x128x32768, .f32⟩
  | .hbm, ⟨45, _⟩ => ⟨S8x1x64x2x32768, .f32⟩
  | .hbm, ⟨46, _⟩ => ⟨S_, .f32⟩
  | .hbm, ⟨47, _⟩ => ⟨S_, .f32⟩
  | .hbm, ⟨48, _⟩ => ⟨S8x128x64x2x32768, .f32⟩
  | .hbm, ⟨49, _⟩ => ⟨S8x128x64x2x32768, .f32⟩
  | .hbm, ⟨50, _⟩ => ⟨S8x128x64x2x32768, .f32⟩
  | .hbm, ⟨51, _⟩ => ⟨S8x128x64x2x32768, .f32⟩
  | .hbm, ⟨52, _⟩ => ⟨S8x128x64x2x32768, .f32⟩
  | .hbm, ⟨53, _⟩ => ⟨S_, .f32⟩
  | .hbm, ⟨54, _⟩ => ⟨S128x64x2x32768, .f32⟩
  | .hbm, ⟨55, _⟩ => ⟨S16384x32768, .f32⟩
  | .hbm, ⟨56, _⟩ => ⟨S32768x16384, .f32⟩
  | .hbm, ⟨57, _⟩ => ⟨S32768x16384, .f32⟩
  | .hbm, ⟨58, _⟩ => ⟨S16384x2048, .f32⟩
  | .hbm, ⟨59, _⟩ => ⟨S32768x2048, .f32⟩
  | .hbm, ⟨60, _⟩ => ⟨S32768x2048, .f32⟩
  | .hbm, ⟨61, _⟩ => ⟨S32768x2048, .f32⟩
  | .hbm, ⟨62, _⟩ => ⟨S_, .f32⟩
  | .hbm, ⟨63, _⟩ => ⟨S32768, .f32⟩
  | .hbm, ⟨64, _⟩ => ⟨S32768x1, .f32⟩
  | .hbm, ⟨65, _⟩ => ⟨S_, .f32⟩
  | .hbm, ⟨66, _⟩ => ⟨S32768x1, .f32⟩
  | .hbm, ⟨67, _⟩ => ⟨S32768x1, .f32⟩
  | .hbm, ⟨68, _⟩ => ⟨S_, .f32⟩
  | .hbm, ⟨69, _⟩ => ⟨S32768x1, .f32⟩
  | .hbm, ⟨70, _⟩ => ⟨S32768x1, .f32⟩
  | .hbm, ⟨71, _⟩ => ⟨S32768x1, .f32⟩
  | .hbm, ⟨72, _⟩ => ⟨S32768x2048, .f32⟩
  | .hbm, ⟨73, _⟩ => ⟨S32768x2048, .f32⟩
  | .hbm, ⟨74, _⟩ => ⟨S32768x2048, .f32⟩
  | .hbm, ⟨75, _⟩ => ⟨S32768x2048, .f32⟩
  | _, _ => ⟨S2048x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Proof.Swa.Consts.lean ====
/- The float constants of the attention, as extended reals. -/
module

public import Idealize.ShloMosaic.PureOps.Ideal
public import Mathlib.Analysis.SpecialFunctions.Log.Basic

@[expose] public section

noncomputable section

namespace Cert.Swa

open Idealize.ShloMosaic

/-- The pattern of minus infinity. -/
theorem neg_inf : Ideal.ofBits .f32 0xFF800000#32 = ⊥ := by
  simp [Ideal.ofBits, Ideal.ieee]

/-- The pattern of plus infinity. -/
theorem pos_inf : Ideal.ofBits .f32 0x7F800000#32 = ⊤ := by
  simp [Ideal.ofBits, Ideal.ieee]

/-- The pattern of zero. -/
theorem bits_zero : Ideal.ofBits .f32 0x00000000#32 = 0 := by
  simp [Ideal.ofBits, Ideal.ieee]

/-- The pattern of sixteen. -/
theorem bits_sixteen : Ideal.ofBits .f32 0x41800000#32 = ((16 : ℝ) : EReal) := by
  simp only [Ideal.ofBits, Ideal.ieee]
  rw [if_neg (by decide), if_neg (by decide)]
  exact congrArg _ (by simp; norm_num)

/-- The pattern of the logarithm of eight. -/
theorem bits_log8 : Ideal.ofBits .f32 0x40051592#32 = ((8721810 / 4194304 : ℝ) : EReal) := by
  simp only [Ideal.ofBits, Ideal.ieee]
  rw [if_neg (by decide), if_neg (by decide)]
  exact congrArg _ (by simp; norm_num)

end Cert.Swa

end
-- ==== Proof.Swa.Head.lean ====
/- What one head of the kernel's body computes from the blocks it reads. -/
module

public import proofs.«01_k».proof.Proof.Gen.KernelIdeal.Value
public import Idealize.ShloMosaic.Lib.Claim
public import proofs.«01_k».proof.Proof.Swa.Consts
public import Idealize.ShloMosaic.Lib.Pointwise
public import Idealize.ShloMosaic.Lib.WholeRead

@[expose] public section

set_option maxRecDepth 16384

noncomputable section

namespace Cert.Swa

open Cert.KernelIdeal Cert.KernelIdeal.Gen Idealize.ShloMosaic Idealize.ShloMosaic.TcCoe Idealize.SL.Sem

/-- One head's output from its keys, values, queries, biases and sink; `v0` says the block is the first of its
    sequence. -/
def headOut (v0 : BitVec 1) (kp kc : Vec Ideal S128x64 .bf16) (vp vc : Vec Ideal S64x128 .bf16)
    (q : Vec Ideal S64x128 .bf16) (bp bc : Vec Ideal S1x128x128 .f32) (s : Ideal .f32) : FVec Ideal S64x128 .bf16 :=
  k0_pay15 vp vc s (k0_pay12 v0 kp kc q bp bc s) (k0_pay13 v0 kp kc q bp bc s) (k0_pay14 v0 kp kc q bp bc s)

/-- The masked constant is minus infinity. -/
theorem mask_eq : Named.named (F := Ideal) (φ := .f32) κ "mask" 0xF149F2CA#32 = (⊥ : EReal) :=
  IdealRules.named_const.ideal_named_scalar _ _ _ _ rfl

/-- A quotient of a weighted sum over two blocks of keys. -/
def kAttn (sp sc vp vc : Fin 128 → EReal) (s : EReal) : EReal :=
  let m := max (max (Finset.univ.fold max ⊥ sp) (Finset.univ.fold max ⊥ sc)) s
  Ideal.div ((∑ k, vp k * Ideal.exp (sp k - m)) + ∑ k, vc k * Ideal.exp (sc k - m))
    ((∑ k, Ideal.exp (sp k - m)) + (∑ k, Ideal.exp (sc k - m)) + Ideal.exp (s - m))

/-- A choice between two arrays, read at an index. -/
theorem select_at {s : Shape} (c : BitVec 1) (a b : FVec Ideal s .f32) (j : s.Idx) :
    (Scalar.select c a b : FVec Ideal s .f32) j = Scalar.select c (a j) (b j) := by
  unfold Scalar.select; split <;> rfl

/-- The scores of the earlier block of keys. -/
theorem pay11_at (v0 : BitVec 1) (kp : Vec Ideal S128x64 .bf16) (q : Vec Ideal S64x128 .bf16)
    (bp : Vec Ideal S1x128x128 .f32) (k i : Fin 128) :
    k0_pay11 v0 kp q bp (ix2 k i)
      = Scalar.select v0 ⊥ ((∑ e : Fin 64, kp (ix2 k e) * q (ix2 e i)) + bp (ix3 0 k i)) := by
  unfold k0_pay11
  rw [mask_eq]
  refine (select_at v0 _ _ (ix2 k i)).trans ?_
  pointwise

/-- The scores of the later block of keys. -/
theorem pay10_at (kc : Vec Ideal S128x64 .bf16) (q : Vec Ideal S64x128 .bf16)
    (bc : Vec Ideal S1x128x128 .f32) (k i : Fin 128) :
    k0_pay10 kc q bc (ix2 k i) = (∑ e : Fin 64, kc (ix2 k e) * q (ix2 e i)) + bc (ix3 0 k i) := by
  unfold k0_pay10; pointwise

theorem pay12_at (v0 : BitVec 1) (kp kc : Vec Ideal S128x64 .bf16) (q : Vec Ideal S64x128 .bf16)
    (bp bc : Vec Ideal S1x128x128 .f32) (s : Ideal .f32) (i : Fin 128) :
    k0_pay12 v0 kp kc q bp bc s (ix2 0 i)
      = max (max (Finset.univ.fold max ⊥ fun k => k0_pay11 v0 kp q bp (ix2 k i))
          (Finset.univ.fold max ⊥ fun k => k0_pay10 kc q bc (ix2 k i))) s := by
  unfold k0_pay12; generalize k0_pay11 v0 kp q bp = a; generalize k0_pay10 kc q bc = b
  pointwise
  rw [neg_inf]

theorem pay13_at (v0 : BitVec 1) (kp kc : Vec Ideal S128x64 .bf16) (q : Vec Ideal S64x128 .bf16)
    (bp bc : Vec Ideal S1x128x128 .f32) (s : Ideal .f32) (k i : Fin 128) :
    k0_pay13 v0 kp kc q bp bc s (ix2 k i)
      = Ideal.exp (k0_pay11 v0 kp q bp (ix2 k i) - k0_pay12 v0 kp kc q bp bc s (ix2 0 i)) := by
  unfold k0_pay13; generalize k0_pay11 v0 kp q bp = a; generalize k0_pay12 v0 kp kc q bp bc s = b
  pointwise

theorem pay14_at (v0 : BitVec 1) (kp kc : Vec Ideal S128x64 .bf16) (q : Vec Ideal S64x128 .bf16)
    (bp bc : Vec Ideal S1x128x128 .f32) (s : Ideal .f32) (k i : Fin 128) :
    k0_pay14 v0 kp kc q bp bc s (ix2 k i)
      = Ideal.exp (k0_pay10 kc q bc (ix2 k i) - k0_pay12 v0 kp kc q bp bc s (ix2 0 i)) := by
  unfold k0_pay14; generalize k0_pay10 kc q bc = a; generalize k0_pay12 v0 kp kc q bp bc s = b
  pointwise

theorem pay15_at (vp vc : Vec Ideal S64x128 .bf16) (s : Ideal .f32) (m : FVec Ideal S1x128 .f32)
    (ep ec : FVec Ideal S128x128 .f32) (d : Fin 64) (i : Fin 128) :
    k0_pay15 vp vc s m ep ec (ix2 d i)
      = Ideal.div ((∑ k : Fin 128, vp (ix2 d k) * ep (ix2 k i)) + ∑ k : Fin 128, vc (ix2 d k) * ec (ix2 k i))
          ((∑ k : Fin 128, ep (ix2 k i)) + (∑ k : Fin 128, ec (ix2 k i)) + Ideal.exp (s - m (ix2 0 i))) := by
  unfold k0_pay15; pointwise

/-- One head's output at an index. -/
theorem head_at (v0 : BitVec 1) (kp kc : Vec Ideal S128x64 .bf16) (vp vc : Vec Ideal S64x128 .bf16)
    (q : Vec Ideal S64x128 .bf16) (bp bc : Vec Ideal S1x128x128 .f32) (s : Ideal .f32) (d : Fin 64) (i : Fin 128) :
    headOut v0 kp kc vp vc q bp bc s (ix2 d i)
      = kAttn (fun k => Scalar.select v0 ⊥ ((∑ e : Fin 64, kp (ix2 k e) * q (ix2 e i)) + bp (ix3 0 k i)))
          (fun k => (∑ e : Fin 64, kc (ix2 k e) * q (ix2 e i)) + bc (ix3 0 k i))
          (fun k => vp (ix2 d k)) (fun k => vc (ix2 d k)) s := by
  unfold headOut kAttn
  rw [pay15_at]
  simp only [pay13_at, pay14_at, pay12_at, pay11_at, pay10_at]

end Cert.Swa

end
-- ==== Proof.Swa.Pieces.lean ====
/- What one grid point's body writes: sixteen heads, each from its rows of the blocks. -/
module

public import proofs.«01_k».proof.Proof.Swa.Head

@[expose] public section

set_option maxRecDepth 16384

noncomputable section

namespace Cert.Swa

open Cert.KernelIdeal Cert.KernelIdeal.Gen Idealize.ShloMosaic Idealize.ShloMosaic.TcCoe Idealize.SL.Sem

/-- Head `h`'s output at feature `d` and query `i`, from the whole blocks. -/
def kCell (v0 : BitVec 1) (x0 : Vec Ideal S16 .f32) (x1 : Vec Ideal S1024x128 .bf16) (x2 x3 : Vec Ideal S128x256 .bf16)
    (x4 x5 : Vec Ideal S256x128 .bf16) (x6 : Vec Ideal S16x256x128 .f32) (h : Fin 16) (d : Fin 64) (i : Fin 128) : EReal :=
  kAttn
    (fun k => Scalar.select v0 ⊥ ((∑ e : Fin 64, x2 (ix2 k (⟨64 * (h.val / 4) + e.val, by omega⟩ : Fin 256)) * x1 (ix2 (⟨64 * h.val + e.val, by omega⟩ : Fin 1024) i))
      + x6 (ix3 h (⟨k.val, by omega⟩ : Fin 256) i)))
    (fun k => (∑ e : Fin 64, x3 (ix2 k (⟨64 * (h.val / 4) + e.val, by omega⟩ : Fin 256)) * x1 (ix2 (⟨64 * h.val + e.val, by omega⟩ : Fin 1024) i))
      + x6 (ix3 h (⟨128 + k.val, by omega⟩ : Fin 256) i))
    (fun k => x4 (ix2 (⟨64 * (h.val / 4) + d.val, by omega⟩ : Fin 256) k))
    (fun k => x5 (ix2 (⟨64 * (h.val / 4) + d.val, by omega⟩ : Fin 256) k)) (x0 (ix1 h))

/-- The block of all heads. -/
def kOut (v0 : BitVec 1) (x0 : Vec Ideal S16 .f32) (x1 : Vec Ideal S1024x128 .bf16) (x2 x3 : Vec Ideal S128x256 .bf16)
    (x4 x5 : Vec Ideal S256x128 .bf16) (x6 : Vec Ideal S16x256x128 .f32) : Vec Ideal S1024x128 .bf16 := fun y =>
  kCell v0 x0 x1 x2 x3 x4 x5 x6 ⟨(y 0).val / 64, by have : (y 0).val < 1024 := (y 0).isLt; omega⟩
    ⟨(y 0).val % 64, by omega⟩ (y 1)

/-- A load of 64 rows of a block reads those rows. -/
theorem load_rows {n : ℕ} {s : Shape} (hs : s = ⟨2, ![n, 128]⟩) {φ : EltTy}
    (arg : Memref sig .tc .vmem ⟨2, ![n, 128]⟩ φ) (harg : arg.IsWhole) (x : Vec Ideal ⟨2, ![n, 128]⟩ φ) (o : ℕ)
    (inb : ∀ a, (![o, 0] : Fin 2 → Nat) a + S64x128.size a ≤ (⟨2, ![n, 128]⟩ : Shape).size a) (e : Fin 64) (i : Fin 128) (ho : o + e.val < n) :
    View.readAt (Elt Ideal) arg.view (Rect.unit (s := ⟨2, ![n, 128]⟩) ![o, 0] S64x128.size inb).toLoadRect (harg.unread x) (ix2 e i)
      = x (ix2 (⟨o + e.val, ho⟩ : Fin n) i) := by
  refine (harg.readAt_unread x _ _).trans (congrArg x (funext fun a => ?_))
  fin_cases a
  · exact Fin.ext (by show o + 1 * e.val = o + e.val; omega)
  · exact Fin.ext (by show 0 + 1 * i.val = i.val; omega)

/-- A load of 64 columns of a block reads those columns. -/
theorem load_cols (arg : Memref sig .tc .vmem S128x256 .bf16) (harg : arg.IsWhole) (x : Vec Ideal S128x256 .bf16) (o : ℕ)
    (inb : ∀ a, (![0, o] : Fin 2 → Nat) a + S128x64.size a ≤ S128x256.size a) (k : Fin 128) (e : Fin 64) (ho : o + e.val < 256) :
    View.readAt (Elt Ideal) arg.view (Rect.unit (s := S128x256) ![0, o] S128x64.size inb).toLoadRect (harg.unread x) (ix2 k e)
      = x (ix2 k (⟨o + e.val, ho⟩ : Fin 256)) := by
  refine (harg.readAt_unread x _ _).trans (congrArg x (funext fun a => ?_))
  fin_cases a
  · exact Fin.ext (by show 0 + 1 * k.val = k.val; omega)
  · exact Fin.ext (by show o + 1 * e.val = o + e.val; omega)

/-- A load of 128 keys' biases of one head reads them. -/
theorem load_bias (arg : Memref sig .tc .vmem S16x256x128 .f32) (harg : arg.IsWhole) (x : Vec Ideal S16x256x128 .f32) (h : Fin 16) (o : ℕ)
    (inb : ∀ a, (![h.val, o, 0] : Fin 3 → Nat) a + S1x128x128.size a ≤ S16x256x128.size a) (k i : Fin 128) (ho : o + k.val < 256) :
    View.readAt (Elt Ideal) arg.view (Rect.unit (s := S16x256x128) ![h.val, o, 0] S1x128x128.size inb).toLoadRect (harg.unread x) (ix3 0 k i)
      = x (ix3 h (⟨o + k.val, ho⟩ : Fin 256) i) := by
  refine (harg.readAt_unread x _ _).trans (congrArg x (funext fun a => ?_))
  fin_cases a
  · exact Fin.ext (by show h.val + 1 * 0 = h.val; omega)
  · exact Fin.ext (by show o + 1 * k.val = o + k.val; omega)
  · exact Fin.ext (by show 0 + 1 * i.val = i.val; omega)

/-- A load of one head's sink reads it. -/
theorem load_sink (arg : Memref sig .tc .smem S16 .f32) (harg : arg.IsWhole) (x : Vec Ideal S16 .f32) (h : Fin 16)
    (inb : ∀ a, (![h.val] : Fin 1 → Nat) a + S1.size a ≤ S16.size a) (j : S1.Idx) :
    View.readAt (Elt Ideal) arg.view (Rect.unit (s := S16) ![h.val] S1.size inb).toLoadRect (harg.unread x) j
      = x (ix1 h) := by
  refine (harg.readAt_unread x _ _).trans (congrArg x (funext fun a => ?_))
  fin_cases a
  exact Fin.ext (by
    have : (j 0).val < 1 := (j 0).isLt
    show h.val + 1 * (j 0).val = h.val; omega)

/-- One head's store writes its rows of `kOut`. -/
theorem head_piece (v0 : BitVec 1) (arg2 : Memref sig .tc .smem S16 .f32) (harg2 : arg2.IsWhole)
    (arg3 : Memref sig .tc .vmem S1024x128 .bf16) (harg3 : arg3.IsWhole) (arg4 : Memref sig .tc .vmem S128x256 .bf16) (harg4 : arg4.IsWhole)
    (arg5 : Memref sig .tc .vmem S128x256 .bf16) (harg5 : arg5.IsWhole) (arg6 : Memref sig .tc .vmem S256x128 .bf16) (harg6 : arg6.IsWhole)
    (arg7 : Memref sig .tc .vmem S256x128 .bf16) (harg7 : arg7.IsWhole) (arg8 : Memref sig .tc .vmem S16x256x128 .f32) (harg8 : arg8.IsWhole)
    (x0 : Vec Ideal S16 .f32) (x1 : Vec Ideal S1024x128 .bf16) (x2 x3 : Vec Ideal S128x256 .bf16)
    (x4 x5 : Vec Ideal S256x128 .bf16) (x6 : Vec Ideal S16x256x128 .f32) (h : Fin 16) (oq og : ℕ) (hq : oq = 64 * h.val) (hg : og = 64 * (h.val / 4))
    (iq : ∀ a, (![oq, 0] : Fin 2 → Nat) a + S64x128.size a ≤ S1024x128.size a)
    (ik : ∀ a, (![0, og] : Fin 2 → Nat) a + S128x64.size a ≤ S128x256.size a)
    (iv : ∀ a, (![og, 0] : Fin 2 → Nat) a + S64x128.size a ≤ S256x128.size a)
    (ib : ∀ a, (![h.val, 0, 0] : Fin 3 → Nat) a + S1x128x128.size a ≤ S16x256x128.size a)
    (ib' : ∀ a, (![h.val, 128, 0] : Fin 3 → Nat) a + S1x128x128.size a ≤ S16x256x128.size a)
    (is : ∀ a, (![h.val] : Fin 1 → Nat) a + S1.size a ≤ S16.size a) (j : S1.Idx) (x : S64x128.Idx) :
    headOut v0
      (View.readAt (Elt Ideal) arg4.view (Rect.unit (s := S128x256) ![0, og] S128x64.size ik).toLoadRect (harg4.unread x2))
      (View.readAt (Elt Ideal) arg5.view (Rect.unit (s := S128x256) ![0, og] S128x64.size ik).toLoadRect (harg5.unread x3))
      (View.readAt (Elt Ideal) arg6.view (Rect.unit (s := S256x128) ![og, 0] S64x128.size iv).toLoadRect (harg6.unread x4))
      (View.readAt (Elt Ideal) arg7.view (Rect.unit (s := S256x128) ![og, 0] S64x128.size iv).toLoadRect (harg7.unread x5))
      (View.readAt (Elt Ideal) arg3.view (Rect.unit (s := S1024x128) ![oq, 0] S64x128.size iq).toLoadRect (harg3.unread x1))
      (View.readAt (Elt Ideal) arg8.view (Rect.unit (s := S16x256x128) ![h.val, 0, 0] S1x128x128.size ib).toLoadRect (harg8.unread x6))
      (View.readAt (Elt Ideal) arg8.view (Rect.unit (s := S16x256x128) ![h.val, 128, 0] S1x128x128.size ib').toLoadRect (harg8.unread x6))
      (View.readAt (Elt Ideal) arg2.view (Rect.unit (s := S16) ![h.val] S1.size is).toLoadRect (harg2.unread x0) j) x
      = kOut v0 x0 x1 x2 x3 x4 x5 x6 ((Rect.unit (s := S1024x128) ![oq, 0] S64x128.size iq).emb x) := by
  subst hq hg
  obtain ⟨d, i, rfl⟩ : ∃ (d : Fin 64) (i : Fin 128), x = ix2 d i :=
    ⟨x 0, x 1, funext fun a => by fin_cases a <;> rfl⟩
  have e0 : (Rect.unit (s := S1024x128) ![64 * h.val, 0] S64x128.size iq).emb (ix2 d i) = ix2 (⟨64 * h.val + d.val, by omega⟩ : Fin 1024) i := by
    funext a
    fin_cases a
    · exact Fin.ext (by show 64 * h.val + 1 * d.val = 64 * h.val + d.val; omega)
    · exact Fin.ext (by show 0 + 1 * i.val = i.val; omega)
  rw [e0, head_at]
  have e1 : (⟨(64 * h.val + d.val) / 64, by omega⟩ : Fin 16) = h := Fin.ext (by show (64 * h.val + d.val) / 64 = h.val; omega)
  have e2 : (⟨(64 * h.val + d.val) % 64, by omega⟩ : Fin 64) = d := Fin.ext (by show (64 * h.val + d.val) % 64 = d.val; omega)
  show _ = kCell v0 x0 x1 x2 x3 x4 x5 x6 ⟨(64 * h.val + d.val) / 64, _⟩ ⟨(64 * h.val + d.val) % 64, _⟩ i
  rw [e1, e2]
  unfold kCell
  have hb := load_bias arg8 harg8 x6 h 0 ib
  have hb' := load_bias arg8 harg8 x6 h 128 ib'
  have hs := load_sink arg2 harg2 x0 h is j
  have hk := fun k e => load_cols arg4 harg4 x2 _ ik k e (by omega)
  have hc := fun k e => load_cols arg5 harg5 x3 _ ik k e (by omega)
  have hv := fun k => load_rows rfl arg6 harg6 x4 _ iv d k (by omega)
  have hw := fun k => load_rows rfl arg7 harg7 x5 _ iv d k (by omega)
  have hqq := fun e => load_rows rfl arg3 harg3 x1 _ iq e i (by omega)
  simp only [hs]
  congr 1
  · funext k
    rw [hb k i (by omega)]
    simp only [hk, hqq, Nat.zero_add]
  · funext k
    rw [hb' k i (by omega)]
    simp only [hc, hqq]
  · funext k; exact hv k
  · funext k; exact hw k

end Cert.Swa

end
-- ==== Proof.Swa.Block.lean ====
/- The output block of one grid point is `kOut` of its input blocks. -/
module

public import proofs.«01_k».proof.Proof.Swa.Pieces

@[expose] public section

set_option maxRecDepth 16384

noncomputable section

namespace Cert.Swa

open Cert.KernelIdeal Cert.KernelIdeal.Gen Idealize.ShloMosaic Idealize.ShloMosaic.TcCoe Idealize.SL.Sem

/-- The sixteen stores of a grid point write the rows of `kOut`. -/
theorem pieces_eq (c : Dev nD) (i : grid0.Coords) (arg2 : Memref sig .tc .smem S16 .f32) (harg2 : arg2.IsWhole) (arg3 : Memref sig .tc .vmem S1024x128 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S16x256x128 .f32) (harg8 : arg8.IsWhole) (arg9 : Memref sig .tc .vmem S1024x128 .bf16) (harg9 : arg9.IsWhole) (x0 : Vec Ideal S16 .f32) (x1 : Vec Ideal S1024x128 .bf16) (x2 : Vec Ideal S128x256 .bf16) (x3 : Vec Ideal S128x256 .bf16) (x4 : Vec Ideal S256x128 .bf16) (x5 : Vec Ideal S256x128 .bf16) (x6 : Vec Ideal S16x256x128 .f32) :
    ∀ p ∈ (kernelRun0_A (F := Ideal) c i arg2 harg2 arg3 harg3 arg4 harg4 arg5 harg5 arg6 harg6 arg7 harg7 arg8 harg8 arg9 harg9 x0 x1 x2 x3 x4 x5 x6).1,
      ∀ x : p.1.shape.Idx, p.2 x = kOut (Scalar.cmpi CmpIPredicate.eq (BitVec.ofNat 32 (i 1).val) 0#32) x0 x1 x2 x3 x4 x5 x6 (p.1.emb x) := by
  unfold kernelRun0_A; dsimp only; sl_unfold_run_names
  simp only [List.forall_mem_cons, List.not_mem_nil, false_imp_iff, implies_true, and_true]
  refine ⟨?_, ?_, ?_, ?_, ?_, ?_, ?_, ?_, ?_, ?_, ?_, ?_, ?_, ?_, ?_, ?_⟩
  · exact fun x => head_piece _ arg2 harg2 arg3 harg3 arg4 harg4 arg5 harg5 arg6 harg6 arg7 harg7 arg8 harg8 x0 x1 x2 x3 x4 x5 x6 15 960 192 rfl rfl _ (by decide) (by decide) (by decide) (by decide) (by decide) _ x
  · exact fun x => head_piece _ arg2 harg2 arg3 harg3 arg4 harg4 arg5 harg5 arg6 harg6 arg7 harg7 arg8 harg8 x0 x1 x2 x3 x4 x5 x6 14 896 192 rfl rfl _ (by decide) (by decide) (by decide) (by decide) (by decide) _ x
  · exact fun x => head_piece _ arg2 harg2 arg3 harg3 arg4 harg4 arg5 harg5 arg6 harg6 arg7 harg7 arg8 harg8 x0 x1 x2 x3 x4 x5 x6 13 832 192 rfl rfl _ (by decide) (by decide) (by decide) (by decide) (by decide) _ x
  · exact fun x => head_piece _ arg2 harg2 arg3 harg3 arg4 harg4 arg5 harg5 arg6 harg6 arg7 harg7 arg8 harg8 x0 x1 x2 x3 x4 x5 x6 12 768 192 rfl rfl _ (by decide) (by decide) (by decide) (by decide) (by decide) _ x
  · exact fun x => head_piece _ arg2 harg2 arg3 harg3 arg4 harg4 arg5 harg5 arg6 harg6 arg7 harg7 arg8 harg8 x0 x1 x2 x3 x4 x5 x6 11 704 128 rfl rfl _ (by decide) (by decide) (by decide) (by decide) (by decide) _ x
  · exact fun x => head_piece _ arg2 harg2 arg3 harg3 arg4 harg4 arg5 harg5 arg6 harg6 arg7 harg7 arg8 harg8 x0 x1 x2 x3 x4 x5 x6 10 640 128 rfl rfl _ (by decide) (by decide) (by decide) (by decide) (by decide) _ x
  · exact fun x => head_piece _ arg2 harg2 arg3 harg3 arg4 harg4 arg5 harg5 arg6 harg6 arg7 harg7 arg8 harg8 x0 x1 x2 x3 x4 x5 x6 9 576 128 rfl rfl _ (by decide) (by decide) (by decide) (by decide) (by decide) _ x
  · exact fun x => head_piece _ arg2 harg2 arg3 harg3 arg4 harg4 arg5 harg5 arg6 harg6 arg7 harg7 arg8 harg8 x0 x1 x2 x3 x4 x5 x6 8 512 128 rfl rfl _ (by decide) (by decide) (by decide) (by decide) (by decide) _ x
  · exact fun x => head_piece _ arg2 harg2 arg3 harg3 arg4 harg4 arg5 harg5 arg6 harg6 arg7 harg7 arg8 harg8 x0 x1 x2 x3 x4 x5 x6 7 448 64 rfl rfl _ (by decide) (by decide) (by decide) (by decide) (by decide) _ x
  · exact fun x => head_piece _ arg2 harg2 arg3 harg3 arg4 harg4 arg5 harg5 arg6 harg6 arg7 harg7 arg8 harg8 x0 x1 x2 x3 x4 x5 x6 6 384 64 rfl rfl _ (by decide) (by decide) (by decide) (by decide) (by decide) _ x
  · exact fun x => head_piece _ arg2 harg2 arg3 harg3 arg4 harg4 arg5 harg5 arg6 harg6 arg7 harg7 arg8 harg8 x0 x1 x2 x3 x4 x5 x6 5 320 64 rfl rfl _ (by decide) (by decide) (by decide) (by decide) (by decide) _ x
  · exact fun x => head_piece _ arg2 harg2 arg3 harg3 arg4 harg4 arg5 harg5 arg6 harg6 arg7 harg7 arg8 harg8 x0 x1 x2 x3 x4 x5 x6 4 256 64 rfl rfl _ (by decide) (by decide) (by decide) (by decide) (by decide) _ x
  · exact fun x => head_piece _ arg2 harg2 arg3 harg3 arg4 harg4 arg5 harg5 arg6 harg6 arg7 harg7 arg8 harg8 x0 x1 x2 x3 x4 x5 x6 3 192 0 rfl rfl _ (by decide) (by decide) (by decide) (by decide) (by decide) _ x
  · exact fun x => head_piece _ arg2 harg2 arg3 harg3 arg4 harg4 arg5 harg5 arg6 harg6 arg7 harg7 arg8 harg8 x0 x1 x2 x3 x4 x5 x6 2 128 0 rfl rfl _ (by decide) (by decide) (by decide) (by decide) (by decide) _ x
  · exact fun x => head_piece _ arg2 harg2 arg3 harg3 arg4 harg4 arg5 harg5 arg6 harg6 arg7 harg7 arg8 harg8 x0 x1 x2 x3 x4 x5 x6 1 64 0 rfl rfl _ (by decide) (by decide) (by decide) (by decide) (by decide) _ x
  · exact fun x => head_piece _ arg2 harg2 arg3 harg3 arg4 harg4 arg5 harg5 arg6 harg6 arg7 harg7 arg8 harg8 x0 x1 x2 x3 x4 x5 x6 0 0 0 rfl rfl _ (by decide) (by decide) (by decide) (by decide) (by decide) _ x

end Cert.Swa

end
-- ==== Proof.Swa.RefStages.lean ====
/- The reference's result cut into named steps. -/
module

public import proofs.«01_k».proof.Proof.Gen.ReferenceIdeal.Run
public import Idealize.ShloMosaic.PureOps.Ideal
public import Idealize.ShloMosaic.Lib.Pointwise

@[expose] public section

set_option maxRecDepth 16384

noncomputable section

namespace Cert.Swa

open Cert.ReferenceIdeal Cert.ReferenceIdeal.Gen Idealize.ShloMosaic Idealize.ShloMosaic.TcCoe Idealize.SL.Sem Idealize.ShloMosaic.StableHlo

/-- Query position minus key position inside a window of two blocks. -/
def rDist  : IVec S128x256 32 :=
  (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0))))

/-- Whether a key lies within the window of its query. -/
def rNear (dist : IVec S128x256 32) : IVec S128x256 1 :=
  (andi (cmpi .sge dist (broadcastInDim S128x256 ![] bcast_S_S128x256 (constantI S_ 32 0#32))) (cmpi .slt dist (broadcastInDim S128x256 ![] bcast_S_S128x256 (constantI S_ 32 128#32))))

/-- Whether a key of block `n` lies within the window and inside the sequence. -/
def rValid (near : IVec S128x256 1) : IVec S32x128x256 1 :=
  (andi (broadcastInDim S32x128x256 ![0, 1, 2] bcast_S1x128x256_S32x128x256_0_1_2 (broadcastInDim S1x128x256 ![1, 2] bcast_S128x256_S1x128x256_1_2 near)) (broadcastInDim S32x128x256 ![0, 1, 2] bcast_S32x1x256_S32x128x256_0_1_2 (cmpi .sge (subi (addi (broadcastInDim S32x1x256 ![0, 1, 2] bcast_S32x1x1_S32x1x256_0_1_2 (muli (broadcastInDim S32x1x1 ![0] bcast_S32_S32x1x1_0 (iotaInDim S32 32 0)) (broadcastInDim S32x1x1 ![] bcast_S_S32x1x1 (constantI S_ 32 128#32)))) (broadcastInDim S32x1x256 ![0, 1, 2] bcast_S1x1x256_S32x1x256_0_1_2 (broadcastInDim S1x1x256 ![1, 2] bcast_S1x256_S1x1x256_1_2 (broadcastInDim S1x256 ![1] bcast_S256_S1x256_1 (iotaInDim S256 32 0))))) (broadcastInDim S32x1x256 ![] bcast_S_S32x1x256 (constantI S_ 32 128#32))) (broadcastInDim S32x1x256 ![] bcast_S_S32x1x256 (constantI S_ 32 0#32)))))

/-- The distance clipped to the window. -/
def rClip (dist : IVec S128x256 32) : IVec S128x256 32 :=
  (minsi (broadcastInDim S128x256 ![] bcast_S_S128x256 (constantI S_ 32 127#32)) (maxsi (broadcastInDim S128x256 ![] bcast_S_S128x256 (constantI S_ 32 0#32)) dist))

/-- The bucket of the clipped distance. -/
def rBucket (clipped : IVec S128x256 32) : IVec S128x256 32 :=
  (select (cmpi .slt clipped (broadcastInDim S128x256 ![] bcast_S_S128x256 (constantI S_ 32 16#32))) clipped (minsi (addi (broadcastInDim S128x256 ![] bcast_S_S128x256 (constantI S_ 32 16#32)) (fptosi 32 (mulf (Host.divf (Host.log (Host.divf (sitofp (F := Ideal) .f32 (maxsi clipped (broadcastInDim S128x256 ![] bcast_S_S128x256 (constantI S_ 32 1#32)))) (broadcastInDim S128x256 ![] bcast_S_S128x256 (constant S_ .f32 0x41800000#32)))) (broadcastInDim S128x256 ![] bcast_S_S128x256 (constant S_ .f32 0x40051592#32))) (broadcastInDim S128x256 ![] bcast_S_S128x256 (constant S_ .f32 0x41800000#32))))) (broadcastInDim S128x256 ![] bcast_S_S128x256 (constantI S_ 32 31#32))))

/-- The bucket as a row number of the bias table. -/
def rIndex (bucket : IVec S128x256 32) : IVec S128x256 32 :=
  (select (cmpi .slt bucket (broadcastInDim S128x256 ![] bcast_S_S128x256 (constantI S_ 32 0#32))) (addi bucket (broadcastInDim S128x256 ![] bcast_S_S128x256 (constantI S_ 32 32#32))) bucket)

/-- The bias of each head at each query and key. -/
def rBias (table : FVec Ideal S32x16 .f32) (index : IVec S128x256 32) : FVec Ideal S4x4x128x256 .f32 :=
  (shapeCast S4x4x128x256 (transpose S16x128x256 [2, 0, 1] (Host.gather gather_S32x16_S128x256x1_S128x256x16_2_0_n_n_0_2_116 table (broadcastInDim S128x256x1 ![0, 1] bcast_S128x256_S128x256x1_0_1 index)) transposes_S128x256x16_S16x128x256_2_0_1) shapeCasts_S16x128x256_S4x4x128x256)

/-- The keys by batch, position, key head and feature. -/
def rK (kk : FVec Ideal S32768x256 .bf16) : FVec Ideal S8x4096x4x64 .f32 :=
  (shapeCast S8x4096x4x64 (extf .f32 kk bitsLt_bf16_f32) shapeCasts_S32768x256_S8x4096x4x64)

/-- The values by batch, position, value head and feature. -/
def rV (vT : FVec Ideal S256x32768 .bf16) : FVec Ideal S8x4096x4x64 .f32 :=
  (shapeCast S8x4096x4x64 (transpose S32768x256 [1, 0] (extf .f32 vT bitsLt_bf16_f32) transposes_S256x32768_S32768x256_1_0) shapeCasts_S32768x256_S8x4096x4x64)

/-- The queries by batch, block, position in the block, key head, repeat and feature. -/
def rQ (qT : FVec Ideal S1024x32768 .bf16) : FVec Ideal S8x32x128x4x4x64 .f32 :=
  (shapeCast S8x32x128x4x4x64 (shapeCast S8x4096x16x64 (transpose S32768x1024 [1, 0] (extf .f32 qT bitsLt_bf16_f32) transposes_S1024x32768_S32768x1024_1_0) shapeCasts_S32768x1024_S8x4096x16x64) shapeCasts_S8x4096x16x64_S8x32x128x4x4x64)

/-- Each block with the block before it, the first block with zeros before it. -/
def rWindows (k : FVec Ideal S8x4096x4x64 .f32) : FVec Ideal S8x32x256x4x64 .f32 :=
  (concatenate S8x32x256x4x64 2 [⟨S8x32x128x4x64, (extractStridedSlice S8x32x128x4x64 ![0, 0, 0, 0, 0] (shapeCast S8x33x128x4x64 (pad S8x4224x4x64 ![0, 128, 0, 0] ![0, 0, 0, 0] ![0, 0, 0, 0] k (sitofp (F := Ideal) .f32 (constantI S_ 32 0#32)) pads_S8x4096x4x64_S8x4224x4x64_000_12800_000_000 h_S_) shapeCasts_S8x4224x4x64_S8x33x128x4x64) slices_S8x33x128x4x64_S8x32x128x4x64_0_0_0_0_0)⟩, ⟨S8x32x128x4x64, (extractStridedSlice S8x32x128x4x64 ![0, 1, 0, 0, 0] (shapeCast S8x33x128x4x64 (pad S8x4224x4x64 ![0, 128, 0, 0] ![0, 0, 0, 0] ![0, 0, 0, 0] k (sitofp (F := Ideal) .f32 (constantI S_ 32 0#32)) pads_S8x4096x4x64_S8x4224x4x64_000_12800_000_000 h_S_) shapeCasts_S8x4224x4x64_S8x33x128x4x64) slices_S8x33x128x4x64_S8x32x128x4x64_0_1_0_0_0)⟩] concatenates_S8x32x128x4x64_S8x32x128x4x64_S8x32x256x4x64_d2)

/-- The products of queries and keys. -/
def rScores (kw : FVec Ideal S8x32x256x4x64 .f32) (q : FVec Ideal S8x32x128x4x4x64 .f32) : FVec Ideal S8x32x4x4x128x256 .f32 :=
  (transpose S8x32x4x4x128x256 [0, 1, 2, 5, 4, 3] (Host.dotGeneral dot_S8x32x256x4x64_S8x32x128x4x4x64_S8x32x4x256x128x4_4_5_2_24_013_013 none kw q) transposes_S8x32x4x256x128x4_S8x32x4x4x128x256_0_1_2_5_4_3)

/-- The scores with their bias, minus infinity where the key is not seen. -/
def rMasked (valid : IVec S32x128x256 1) (scores : FVec Ideal S8x32x4x4x128x256 .f32) (bias : FVec Ideal S4x4x128x256 .f32) : FVec Ideal S8x32x4x4x128x256 .f32 :=
  (select (broadcastInDim S8x32x4x4x128x256 ![0, 1, 2, 3, 4, 5] bcast_S1x32x1x1x128x256_S8x32x4x4x128x256_0_1_2_3_4_5 (broadcastInDim S1x32x1x1x128x256 ![1, 4, 5] bcast_S32x128x256_S1x32x1x1x128x256_1_4_5 valid)) (addf scores (broadcastInDim S8x32x4x4x128x256 ![0, 1, 2, 3, 4, 5] bcast_S1x1x4x4x128x256_S8x32x4x4x128x256_0_1_2_3_4_5 (broadcastInDim S1x1x4x4x128x256 ![2, 3, 4, 5] bcast_S4x4x128x256_S1x1x4x4x128x256_2_3_4_5 bias))) (broadcastInDim S8x32x4x4x128x256 ![] bcast_S_S8x32x4x4x128x256 (constant S_ .f32 0xFF800000#32)))

/-- The masked scores and the sink of the head. -/
def rAll (masked : FVec Ideal S8x32x4x4x128x256 .f32) (sinks : FVec Ideal S1x16 .f32) : FVec Ideal S8x32x4x4x128x257 .f32 :=
  (concatenate S8x32x4x4x128x257 5 [⟨S8x32x4x4x128x256, masked⟩, ⟨S8x32x4x4x128x1, (broadcastInDim S8x32x4x4x128x1 ![0, 1, 2, 3, 4, 5] bcast_S1x1x4x4x1x1_S8x32x4x4x128x1_0_1_2_3_4_5 (broadcastInDim S1x1x4x4x1x1 ![2, 3] bcast_S4x4_S1x1x4x4x1x1_2_3 (shapeCast S4x4 (shapeCast S16 sinks shapeCasts_S1x16_S16) shapeCasts_S16_S4x4)))⟩] concatenates_S8x32x4x4x128x256_S8x32x4x4x128x1_S8x32x4x4x128x257_d5)

/-- The largest score of a query. -/
def rMax (all : FVec Ideal S8x32x4x4x128x257 .f32) : FVec Ideal S8x32x4x4x128 .f32 :=
  (maximumf (broadcastInDim S8x32x4x4x128 ![] bcast_S_S8x32x4x4x128 (constant S_ .f32 0xFF800000#32)) (Host.reduce FloatOps.maximumf all (constant S_ .f32 0xFF800000#32) reducesTo_S8x32x4x4x128x257_S8x32x4x4x128_d5 h_S_))

/-- The exponentials of the scores less the largest. -/
def rExp (all : FVec Ideal S8x32x4x4x128x257 .f32) (mx : FVec Ideal S8x32x4x4x128 .f32) : FVec Ideal S8x32x4x4x128x257 .f32 :=
  (Host.exp (subf all (broadcastInDim S8x32x4x4x128x257 ![0, 1, 2, 3, 4, 5] bcast_S8x32x4x4x128x1_S8x32x4x4x128x257_0_1_2_3_4_5 (broadcastInDim S8x32x4x4x128x1 ![0, 1, 2, 3, 4] bcast_S8x32x4x4x128_S8x32x4x4x128x1_0_1_2_3_4 mx))))

/-- The sum of the exponentials. -/
def rDen (ex : FVec Ideal S8x32x4x4x128x257 .f32) : FVec Ideal S8x32x4x4x128 .f32 :=
  (Host.reduceAdd ex (constant S_ .f32 0x00000000#32) reducesTo_S8x32x4x4x128x257_S8x32x4x4x128_d5 h_S_)

/-- The weights of the keys. -/
def rProb (ex : FVec Ideal S8x32x4x4x128x257 .f32) (den : FVec Ideal S8x32x4x4x128 .f32) : FVec Ideal S8x32x4x4x128x256 .f32 :=
  (extractStridedSlice S8x32x4x4x128x256 ![0, 0, 0, 0, 0, 0] (Host.divf ex (broadcastInDim S8x32x4x4x128x257 ![0, 1, 2, 3, 4, 5] bcast_S8x32x4x4x128x1_S8x32x4x4x128x257_0_1_2_3_4_5 (broadcastInDim S8x32x4x4x128x1 ![0, 1, 2, 3, 4] bcast_S8x32x4x4x128_S8x32x4x4x128x1_0_1_2_3_4 den))) slices_S8x32x4x4x128x257_S8x32x4x4x128x256_0_0_0_0_0_0)

/-- The weighted sum of the values. -/
def rMix (vw : FVec Ideal S8x32x256x4x64 .f32) (prob : FVec Ideal S8x32x4x4x128x256 .f32) : FVec Ideal S8x32x4x64x4x128 .f32 :=
  (Host.dotGeneral dot_S8x32x256x4x64_S8x32x4x4x128x256_S8x32x4x64x4x128_2_5_4_34_013_012 none vw prob)

/-- The result, features by positions. -/
def rOut (mix : FVec Ideal S8x32x4x64x4x128 .f32) : FVec Ideal S1024x32768 .bf16 :=
  (truncf .bf16 (transpose S1024x32768 [1, 0] (shapeCast S32768x1024 (transpose S8x32x128x4x4x64 [0, 1, 5, 2, 4, 3] mix transposes_S8x32x4x64x4x128_S8x32x128x4x4x64_0_1_5_2_4_3) shapeCasts_S8x32x128x4x4x64_S32768x1024) transposes_S32768x1024_S1024x32768_1_0) bitsLt_bf16_f32)

/-- The reference's result as a function of its five arguments. -/
def rAttn (qT : FVec Ideal S1024x32768 .bf16) (kk : FVec Ideal S32768x256 .bf16) (vT : FVec Ideal S256x32768 .bf16)
    (table : FVec Ideal S32x16 .f32) (sinks : FVec Ideal S1x16 .f32) : FVec Ideal S1024x32768 .bf16 :=
  let all := rAll (rMasked (rValid (rNear rDist)) (rScores (rWindows (rK kk)) (rQ qT))
    (rBias table (rIndex (rBucket (rClip rDist))))) sinks
  let ex := rExp all (rMax all)
  rOut (rMix (rWindows (rV vT)) (rProb ex (rDen ex)))

set_option maxHeartbeats 400000 in
/-- The reference's composed term is `rAttn` of the arguments. -/
theorem res_eq (m : (ℓ : Loc nD τ sig) → Buf (Elt Ideal) ℓ) (c : Dev nD) :
    Value.res_out0 m c = rAttn (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  delta Value.res_out0 Value.res_main_v105 rAttn
  dsimp only
  delta rOut rMix rProb rDen rExp rMax rAll rMasked rScores rWindows rQ rV rK rBias rIndex rBucket rClip rValid rNear rDist
  rfl

end Cert.Swa

end
-- ==== Proof.Swa.RefRead.lean ====
/- The steps of the reference read at an index. -/
module

public import proofs.«01_k».proof.Proof.Swa.RefStages
public import Idealize.ShloMosaic.Lib.Claim

@[expose] public section

set_option maxRecDepth 16384

noncomputable section

namespace Cert.Swa

open Cert.ReferenceIdeal Cert.ReferenceIdeal.Gen Idealize.ShloMosaic Idealize.ShloMosaic.TcCoe Idealize.SL.Sem Idealize.ShloMosaic.StableHlo

/-- The word of query position minus key position. -/
def wDist (i k : Nat) : BitVec 32 := IntOp.subi (IntOp.addi (BitVec.ofNat 32 i) 128#32) (BitVec.ofNat 32 k)

/-- A distance clipped to the window. -/
def wClip (w : BitVec 32) : BitVec 32 := IntOp.minsi (127#32) (IntOp.maxsi (0#32) w)

/-- The bucket of a clipped distance: the distance below sixteen, logarithmic from there on. -/
def wBucket (w : BitVec 32) : BitVec 32 :=
  Scalar.select (IntOp.cmpi CmpIPredicate.slt w 16#32) w
    (IntOp.minsi (IntOp.addi (16#32) (FloatOps.fptosi (F := Ideal) (φ := .f32) 32
      (Ideal.div (Ideal.log (Ideal.div (FloatOps.sitofp (F := Ideal) FTy.f32 (IntOp.maxsi w 1#32))
        (Ideal.ofBits FTy.f32 0x41800000#32))) (Ideal.ofBits FTy.f32 0x40051592#32)
        * Ideal.ofBits FTy.f32 0x41800000#32))) 31#32)

/-- Whether a distance lies in the window. -/
def wNear (w : BitVec 32) : BitVec 1 :=
  IntOp.andi (IntOp.cmpi CmpIPredicate.sge w 0#32) (IntOp.cmpi CmpIPredicate.slt w 128#32)

/-- Whether key `k` of the window of block `n` lies inside the sequence. -/
def wInside (n k : Nat) : BitVec 1 :=
  IntOp.cmpi CmpIPredicate.sge
    (IntOp.subi (IntOp.addi (IntOp.muli (BitVec.ofNat 32 n) 128#32) (BitVec.ofNat 32 k)) 128#32) 0#32

theorem rDist_at (i : Fin 128) (k : Fin 256) : rDist (ix2 i k) = wDist i k := by
  unfold rDist; pointwise; rfl

theorem rValid_at (n : Fin 32) (i : Fin 128) (k : Fin 256) :
    rValid (rNear rDist) (ix3 n i k) = IntOp.andi (wNear (wDist i k)) (wInside n k) := by
  have h : rNear rDist (ix2 i k) = wNear (wDist i k) := by
    unfold rNear; pointwise; rw [rDist_at]; rfl
  rw [← h]; unfold rValid; pointwise; rfl

theorem rBucket_at (i : Fin 128) (k : Fin 256) :
    rBucket (rClip rDist) (ix2 i k) = wBucket (wClip (wDist i k)) := by
  have h : rClip rDist (ix2 i k) = wClip (wDist i k) := by
    unfold rClip; pointwise; rw [rDist_at]; rfl
  rw [← h]; unfold rBucket; pointwise; rfl

theorem rIndex_at (x : IVec S128x256 32) (i : Fin 128) (k : Fin 256) :
    rIndex x (ix2 i k) = Scalar.select (IntOp.cmpi .slt (x (ix2 i k)) 0#32) (IntOp.addi (x (ix2 i k)) 32#32) (x (ix2 i k)) := by
  unfold rIndex; pointwise

set_option maxHeartbeats 1000000 in
theorem gather_at (x : FVec Ideal S32x16 .f32) (y : IVec S128x256x1 32) (i : Fin 128) (k : Fin 256) (h : Fin 16) :
    Host.gather gather_S32x16_S128x256x1_S128x256x16_2_0_n_n_0_2_116 x y (ix3 i k h)
      = x (ix2 ⟨min (y (ix3 i k 0)).toInt.toNat 31, by omega⟩ h) := by
  unfold Host.gather
  congr 1
  funext a
  refine Fin.ext ?_
  let D := gather_S32x16_S128x256x1_S128x256x16_2_0_n_n_0_2_116
  match a with
  | ⟨0, _⟩ =>
    show D.start (ix3 i k h) y (0 : Fin 2) + D.batchCoord (ix3 i k h) (0 : Fin 2) + D.offCoord (ix3 i k h) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x16_S128x256x1_S128x256x16_2_0_n_n_0_2_116.startIndexMap from List.mem_singleton.mpr rfl)]
    have hsi : D.siIdx (ix3 i k h) ⟨List.idxOf (0 : Fin 2) D.startIndexMap,
        List.idxOf_lt_length_iff.2 (List.mem_singleton.mpr rfl)⟩ = ix3 i k 0 := by
      funext b; refine Fin.ext ?_
      match b with
      | ⟨0, _⟩ => rfl
      | ⟨1, _⟩ => rfl
      | ⟨2, _⟩ => rfl
    exact congrArg (fun z => min (y z).toInt.toNat 31) hsi
  | ⟨1, _⟩ =>
    show D.start (ix3 i k h) y (1 : Fin 2) + D.batchCoord (ix3 i k h) (1 : Fin 2) + D.offCoord (ix3 i k h) (1 : Fin 2) = _
    rw [GatherDims.batchCoord_eq_zero _ _ _ List.not_mem_nil]
    unfold GatherDims.start
    rw [dif_neg (by decide)]
    simp only [Nat.add_zero, Nat.zero_add]
    rfl

theorem rBias_at (table : FVec Ideal S32x16 .f32) (x : IVec S128x256 32) (g r : Fin 4) (i : Fin 128) (k : Fin 256) :
    rBias table x (ix4 g r i k)
      = table (ix2 ⟨min (x (ix2 i k)).toInt.toNat 31, by omega⟩ ⟨g.val * 4 + r.val, by omega⟩) := by
  unfold rBias; pointwise; rw [gather_at]; pointwise

theorem rK_at (kk : FVec Ideal S32768x256 .bf16) (b : Fin 8) (p : Fin 4096) (g : Fin 4) (d : Fin 64) :
    rK kk (ix4 b p g d) = kk (ix2 ⟨b.val * 4096 + p.val, by omega⟩ ⟨g.val * 64 + d.val, by omega⟩) := by
  unfold rK; pointwise

theorem rV_at (vT : FVec Ideal S256x32768 .bf16) (b : Fin 8) (p : Fin 4096) (g : Fin 4) (d : Fin 64) :
    rV vT (ix4 b p g d) = vT (ix2 ⟨g.val * 64 + d.val, by omega⟩ ⟨b.val * 4096 + p.val, by omega⟩) := by
  unfold rV; pointwise

theorem rQ_at (qT : FVec Ideal S1024x32768 .bf16) (b : Fin 8) (n : Fin 32) (i : Fin 128) (g r : Fin 4) (d : Fin 64) :
    rQ qT (ix6 b n i g r d)
      = qT (ix2 ⟨g.val * 256 + r.val * 64 + d.val, by omega⟩ ⟨b.val * 4096 + n.val * 128 + i.val, by omega⟩) := by
  unfold rQ; pointwise

/-- The word zero as a float is zero. -/
theorem sitofp_zero : (FloatOps.sitofp FTy.f32 (0#32) : Ideal .f32) = (0 : EReal) := by
  show ((((0#32 : BitVec 32).toInt : ℝ) : EReal)) = 0
  simp

/-- The windows at a key: of the block before for the first half, of the block itself for the second. -/
theorem rWindows_at (x : FVec Ideal S8x4096x4x64 .f32) (b : Fin 8) (n : Fin 32) (k : Fin 256) (g : Fin 4) (d : Fin 64) :
    rWindows x (ix5 b n k g d) =
      if h : k.val < 128 then
        if h1 : 128 ≤ n.val * 128 + k.val ∧ n.val * 128 + k.val - 128 < 4096 then
          x (ix4 b ⟨n.val * 128 + k.val - 128, h1.2⟩ g d)
        else FloatOps.sitofp FTy.f32 0#32
      else
        if h1 : 128 ≤ (1 + n.val) * 128 + (k.val - 128) ∧ (1 + n.val) * 128 + (k.val - 128) - 128 < 4096 then
          x (ix4 b ⟨(1 + n.val) * 128 + (k.val - 128) - 128, h1.2⟩ g d)
        else FloatOps.sitofp FTy.f32 0#32 := by
  unfold rWindows; pointwise

/-- A window at a key of the block itself. -/
theorem rWindows_hi (x : FVec Ideal S8x4096x4x64 .f32) (b : Fin 8) (n : Fin 32) (k : Fin 128) (g : Fin 4) (d : Fin 64) :
    rWindows x (ix5 b n (Fin.natAdd 128 k) g d) = x (ix4 b ⟨n.val * 128 + k.val, by omega⟩ g d) := by
  have hk : (Fin.natAdd 128 k : Fin (128 + 128)).val = 128 + k.val := rfl
  refine (rWindows_at x b n (Fin.natAdd 128 k) g d).trans ?_
  rw [dif_neg (by omega), dif_pos (by omega)]
  exact congrArg x (congrArg (fun p => ix4 b p g d) (Fin.ext (by show (1 + n.val) * 128 + ((Fin.natAdd 128 k : Fin (128 + 128)).val - 128) - 128 = n.val * 128 + k.val; omega)))

/-- A window at a key of the block before it. -/
theorem rWindows_lo (x : FVec Ideal S8x4096x4x64 .f32) (b : Fin 8) (n : Fin 32) (k : Fin 128) (g : Fin 4) (d : Fin 64)
    (hn : 1 ≤ n.val) :
    rWindows x (ix5 b n (Fin.castAdd 128 k) g d) = x (ix4 b ⟨(n.val - 1) * 128 + k.val, by omega⟩ g d) := by
  have hk : (Fin.castAdd 128 k : Fin (128 + 128)).val = k.val := rfl
  refine (rWindows_at x b n (Fin.castAdd 128 k) g d).trans ?_
  rw [dif_pos (by omega), dif_pos (by omega)]
  exact congrArg x (congrArg (fun p => ix4 b p g d) (Fin.ext (by show n.val * 128 + (Fin.castAdd 128 k : Fin (128 + 128)).val - 128 = (n.val - 1) * 128 + k.val; omega)))

/-- The first block has zeros before it. -/
theorem rWindows_pad (x : FVec Ideal S8x4096x4x64 .f32) (b : Fin 8) (n : Fin 32) (k : Fin 128) (g : Fin 4) (d : Fin 64)
    (hn : n.val = 0) :
    rWindows x (ix5 b n (Fin.castAdd 128 k) g d) = (0 : EReal) := by
  have hk : (Fin.castAdd 128 k : Fin (128 + 128)).val = k.val := rfl
  refine (rWindows_at x b n (Fin.castAdd 128 k) g d).trans ?_
  rw [dif_pos (by omega), dif_neg (by omega), sitofp_zero]

theorem rScores_at (kw : FVec Ideal S8x32x256x4x64 .f32) (q : FVec Ideal S8x32x128x4x4x64 .f32)
    (b : Fin 8) (n : Fin 32) (g r : Fin 4) (i : Fin 128) (k : Fin 256) :
    rScores kw q (ix6 b n g r i k) = ∑ d : Fin 64, kw (ix5 b n k g d) * q (ix6 b n i g r d) := by
  unfold rScores; pointwise

theorem rMasked_at (valid : IVec S32x128x256 1) (s : FVec Ideal S8x32x4x4x128x256 .f32) (bias : FVec Ideal S4x4x128x256 .f32)
    (b : Fin 8) (n : Fin 32) (g r : Fin 4) (i : Fin 128) (k : Fin 256) :
    rMasked valid s bias (ix6 b n g r i k)
      = Scalar.select (valid (ix3 n i k)) (s (ix6 b n g r i k) + bias (ix4 g r i k)) (Ideal.ofBits FTy.f32 0xFF800000#32) := by
  unfold rMasked; pointwise

theorem rAll_at (x : FVec Ideal S8x32x4x4x128x256 .f32) (sinks : FVec Ideal S1x16 .f32)
    (b : Fin 8) (n : Fin 32) (g r : Fin 4) (i : Fin 128) (k : Fin 257) :
    rAll x sinks (ix6 b n g r i k) =
      if h : k.val < 256 then x (ix6 b n g r i ⟨k.val, h⟩) else sinks (ix2 0 ⟨g.val * 4 + r.val, by omega⟩) := by
  unfold rAll; pointwise

theorem rAll_lo (x : FVec Ideal S8x32x4x4x128x256 .f32) (sinks : FVec Ideal S1x16 .f32)
    (b : Fin 8) (n : Fin 32) (g r : Fin 4) (i : Fin 128) (k : Fin 256) :
    rAll x sinks (ix6 b n g r i k.castSucc) = x (ix6 b n g r i k) :=
  (rAll_at x sinks b n g r i k.castSucc).trans (dif_pos k.isLt)

theorem rAll_hi (x : FVec Ideal S8x32x4x4x128x256 .f32) (sinks : FVec Ideal S1x16 .f32)
    (b : Fin 8) (n : Fin 32) (g r : Fin 4) (i : Fin 128) :
    rAll x sinks (ix6 b n g r i (Fin.last 256)) = sinks (ix2 0 ⟨g.val * 4 + r.val, by omega⟩) :=
  (rAll_at x sinks b n g r i (Fin.last 256)).trans (dif_neg (Nat.lt_irrefl _))

theorem lift_at (h : S8x32x4x4x128x257.Reduces [5] S8x32x4x4x128) (b : Fin 8) (n : Fin 32) (g r : Fin 4) (i : Fin 128) (k : Fin 257) :
    h.lift (ix5 b n g r i) k = ix6 b n g r i k := by
  funext a; apply Fin.ext
  match a with
  | ⟨0, _⟩ => rfl
  | ⟨1, _⟩ => rfl
  | ⟨2, _⟩ => rfl
  | ⟨3, _⟩ => rfl
  | ⟨4, _⟩ => rfl
  | ⟨5, _⟩ => rfl

theorem reduces_last : S8x32x4x4x128x257.Reduces [5] S8x32x4x4x128 := by decide

theorem maximumf_at {s : Shape} (v w : FVec Ideal s .f32) (j : s.Idx) : maximumf v w j = max (v j) (w j) := rfl

theorem fold_maximumf {n : Nat} (b : Ideal .f32) (v : Fin n → Ideal .f32) :
    Finset.univ.fold (FloatOps.maximumf (F := Ideal) (φ := .f32)) b v = Finset.univ.fold (max : EReal → EReal → EReal) b v := rfl

theorem rMax_at (x : FVec Ideal S8x32x4x4x128x257 .f32) (b : Fin 8) (n : Fin 32) (g r : Fin 4) (i : Fin 128) :
    rMax x (ix5 b n g r i) = max (Ideal.ofBits FTy.f32 0xFF800000#32)
      (Finset.univ.fold max (Ideal.ofBits FTy.f32 0xFF800000#32) fun k : Fin 257 => x (ix6 b n g r i k)) := by
  unfold rMax
  refine (maximumf_at _ _ _).trans ?_
  refine congrArg₂ max rfl ?_
  refine (Host.reduce_eq_fold_single _ _ _ _ reduces_last _ _).trans ?_
  refine (fold_maximumf (n := 257) _ _).trans ?_
  refine congrArg (fun v => Finset.univ.fold max _ v) ?_
  funext k
  exact congrArg x (lift_at reduces_last b n g r i k)

theorem rExp_at (x : FVec Ideal S8x32x4x4x128x257 .f32) (mx : FVec Ideal S8x32x4x4x128 .f32)
    (b : Fin 8) (n : Fin 32) (g r : Fin 4) (i : Fin 128) (k : Fin 257) :
    rExp x mx (ix6 b n g r i k) = Ideal.exp (x (ix6 b n g r i k) - mx (ix5 b n g r i)) := by
  unfold rExp; pointwise

theorem rDen_at (x : FVec Ideal S8x32x4x4x128x257 .f32) (b : Fin 8) (n : Fin 32) (g r : Fin 4) (i : Fin 128) :
    rDen x (ix5 b n g r i) = Ideal.ofBits FTy.f32 0x00000000#32 + ∑ k : Fin 257, x (ix6 b n g r i k) := by
  unfold rDen
  refine (Ideal.hostReduceAdd_single _ reduces_last x _ _).trans ?_
  refine congrArg₂ (· + ·) rfl ?_
  exact Finset.sum_congr rfl fun k _ => congrArg x (lift_at reduces_last b n g r i k)

theorem rProb_at (x : FVec Ideal S8x32x4x4x128x257 .f32) (den : FVec Ideal S8x32x4x4x128 .f32)
    (b : Fin 8) (n : Fin 32) (g r : Fin 4) (i : Fin 128) (k : Fin 256) :
    rProb x den (ix6 b n g r i k) = Ideal.div (x (ix6 b n g r i k.castSucc)) (den (ix5 b n g r i)) := by
  unfold rProb; pointwise; rfl

theorem rMix_at (vw : FVec Ideal S8x32x256x4x64 .f32) (p : FVec Ideal S8x32x4x4x128x256 .f32)
    (b : Fin 8) (n : Fin 32) (g r : Fin 4) (i : Fin 128) (d : Fin 64) :
    rMix vw p (ix6 b n g d r i) = ∑ k : Fin 256, vw (ix5 b n k g d) * p (ix6 b n g r i k) := by
  unfold rMix; pointwise

theorem rOut_at (x : FVec Ideal S8x32x4x64x4x128 .f32) (b : Fin 8) (n : Fin 32) (g r : Fin 4) (i : Fin 128) (d : Fin 64) :
    rOut x (ix2 ⟨g.val * 256 + r.val * 64 + d.val, by omega⟩ ⟨b.val * 4096 + n.val * 128 + i.val, by omega⟩)
      = x (ix6 b n g d r i) := by
  unfold rOut; pointwise

end Cert.Swa

end
-- ==== Proof.Swa.KBias.lean ====
/- The bias array that the kernel's host code prepares, read at an index. -/
module

public import proofs.«01_k».proof.Proof.Gen.KernelIdeal.Value
public import proofs.«01_k».proof.Proof.Swa.RefRead
public import Idealize.ShloMosaic.Lib.Claim
public import Idealize.ShloMosaic.Lib.Pointwise
public import Idealize.ShloMosaic.Lib.Pipeline.ValueKit

@[expose] public section

set_option maxRecDepth 16384

noncomputable section

namespace Cert.Swa

open Cert.KernelIdeal Cert.KernelIdeal.Gen Idealize.ShloMosaic Idealize.ShloMosaic.TcCoe Idealize.SL.Sem Idealize.ShloMosaic.StableHlo

/-- Query position minus key position, keys first. -/
def kDist : IVec S256x128 32 :=
  subi (broadcastInDim S256x128 ![0, 1] bcast_S1x128_S256x128_0_1
      (addi (broadcastInDim S1x128 ![1] bcast_S128_S1x128_1 (iotaInDim S128 32 0))
        (broadcastInDim S1x128 ![] bcast_S_S1x128 (constantI S_ 32 128#32))))
    (broadcastInDim S256x128 ![0, 1] bcast_S256x1_S256x128_0_1
      (broadcastInDim S256x1 ![0] bcast_S256_S256x1_0 (iotaInDim S256 32 0)))

/-- Whether a distance lies in the window. -/
def kNear (dist : IVec S256x128 32) : IVec S256x128 1 :=
  andi (cmpi CmpIPredicate.sge dist (broadcastInDim S256x128 ![] bcast_S_S256x128 (constantI S_ 32 0#32)))
    (cmpi CmpIPredicate.slt dist (broadcastInDim S256x128 ![] bcast_S_S256x128 (constantI S_ 32 128#32)))

/-- The distance clipped to the window. -/
def kClip (dist : IVec S256x128 32) : IVec S256x128 32 :=
  minsi (broadcastInDim S256x128 ![] bcast_S_S256x128 (id (constantI S_ 32 127#32)))
    (maxsi (broadcastInDim S256x128 ![] bcast_S_S256x128 (id (constantI S_ 32 0#32))) dist)

/-- The bucket of a clipped distance. -/
def kBucket (w : IVec S256x128 32) : IVec S256x128 32 :=
  select (cmpi CmpIPredicate.slt w (broadcastInDim S256x128 ![] bcast_S_S256x128 (constantI S_ 32 16#32))) w
    (minsi (addi (broadcastInDim S256x128 ![] bcast_S_S256x128 (constantI S_ 32 16#32))
      (fptosi 32 (mulf (Host.divf (Host.log (Host.divf
          (sitofp (F := Ideal) FTy.f32 (maxsi w (broadcastInDim S256x128 ![] bcast_S_S256x128 (constantI S_ 32 1#32))))
          (broadcastInDim S256x128 ![] bcast_S_S256x128 (constant (F := Ideal) S_ FTy.f32 0x41800000#32))))
        (broadcastInDim S256x128 ![] bcast_S_S256x128 (constant (F := Ideal) S_ FTy.f32 0x40051592#32)))
        (broadcastInDim S256x128 ![] bcast_S_S256x128 (constant (F := Ideal) S_ FTy.f32 0x41800000#32)))))
      (broadcastInDim S256x128 ![] bcast_S_S256x128 (constantI S_ 32 31#32)))

/-- The indicator of each distance's bucket. -/
def kHot (bucket : IVec S256x128 32) : FVec Ideal S256x128x32 .f32 :=
  uitofp (F := Ideal) FTy.f32 (cmpi CmpIPredicate.eq
    (broadcastInDim S256x128x32 ![0, 1, 2] bcast_S256x128x1_S256x128x32_0_1_2
      (broadcastInDim S256x128x1 ![0, 1] bcast_S256x128_S256x128x1_0_1 bucket))
    (broadcastInDim S256x128x32 ![0, 1, 2] bcast_S1x1x32_S256x128x32_0_1_2
      (broadcastInDim S1x1x32 ![2] bcast_S32_S1x1x32_2 (iotaInDim S32 32 0))))

/-- The bias of each head, minus infinity outside the window. -/
def kBias (near : IVec S256x128 1) (table : FVec Ideal S32x16 .f32) (hot : FVec Ideal S256x128x32 .f32) :
    FVec Ideal S16x256x128 .f32 :=
  select (broadcastInDim S16x256x128 ![0, 1, 2] bcast_S1x256x128_S16x256x128_0_1_2
      (broadcastInDim S1x256x128 ![1, 2] bcast_S256x128_S1x256x128_1_2 near))
    (Host.dotGeneral dot_S32x16_S256x128x32_S16x256x128_0_2_1_01_n_n (some ContractPrecision.fp32) table hot)
    (broadcastInDim S16x256x128 ![] bcast_S_S16x256x128 (id (constant S_ FTy.f32 0xFF800000#32)))

set_option maxHeartbeats 4000000 in
/-- The sinks as the region finds them. -/
theorem sinks_eq (m : (ℓ : Loc nD τ sig) → Buf (Elt Ideal) ℓ) (c : Dev nD) (h : Fin 16) :
    V m c main_v43 (ix1 h) = m ((c.tc : Thread nD τ).loc main_arg4) (ix2 (0 : Fin 1) h) := by
  have e : V m c main_v43 = (shapeCast S16 (m ((c.tc : Thread nD τ).loc main_arg4)) shapeCasts_S1x16_S16 : Vec Ideal S16 .f32) := by
    unfold V
    simp only [hostOps0, hostOps0_1, hostOps0_2, hostOps0_3, hostOps0_4, hostOps0_5, hostOps0_6, List.flatten_cons, List.flatten_nil, List.cons_append, List.nil_append, List.append_nil, TRef.binary, TRef.ternary, TRef.unary, TRef.toBuf, TRef.ofBuf, cast_eq]
    after_results_simp
    rfl
  rw [e]
  generalize m ((c.tc : Thread nD τ).loc main_arg4) = s
  pointwise

set_option maxHeartbeats 4000000 in
/-- The biases as the region finds them. -/
theorem bias_eq (m : (ℓ : Loc nD τ sig) → Buf (Elt Ideal) ℓ) (c : Dev nD) :
    V m c main_v42 = kBias (kNear kDist) (m ((c.tc : Thread nD τ).loc main_arg3)) (kHot (kBucket (kClip kDist))) := by
  unfold V
  simp only [hostOps0, hostOps0_1, hostOps0_2, hostOps0_3, hostOps0_4, hostOps0_5, hostOps0_6, List.flatten_cons, List.flatten_nil, List.cons_append, List.nil_append, List.append_nil, TRef.binary, TRef.ternary, TRef.unary, TRef.toBuf, TRef.ofBuf, cast_eq]
  after_results_simp
  delta kBias kNear kHot kBucket kClip kDist
  rfl

theorem kDist_at (k : Fin 256) (i : Fin 128) : kDist (ix2 k i) = wDist i k := by
  unfold kDist; pointwise; rfl

theorem kNear_at (k : Fin 256) (i : Fin 128) : kNear kDist (ix2 k i) = wNear (wDist i k) := by
  unfold kNear; pointwise; rw [kDist_at]; rfl

theorem kBucket_at (k : Fin 256) (i : Fin 128) : kBucket (kClip kDist) (ix2 k i) = wBucket (wClip (wDist i k)) := by
  have h : kClip kDist (ix2 k i) = wClip (wDist i k) := by
    unfold kClip; pointwise; rw [kDist_at]; rfl
  rw [← h]; unfold kBucket; pointwise; rfl

theorem kHot_at (x : IVec S256x128 32) (k : Fin 256) (i : Fin 128) (j : Fin 32) :
    kHot x (ix3 k i j) = FloatOps.uitofp (F := Ideal) FTy.f32 (IntOp.cmpi CmpIPredicate.eq (x (ix2 k i)) (BitVec.ofNat 32 j)) := by
  unfold kHot; pointwise

theorem kBias_at (near : IVec S256x128 1) (table : FVec Ideal S32x16 .f32) (hot : FVec Ideal S256x128x32 .f32)
    (h : Fin 16) (k : Fin 256) (i : Fin 128) :
    kBias near table hot (ix3 h k i)
      = Scalar.select (near (ix2 k i)) (∑ j : Fin 32, table (ix2 j h) * hot (ix3 k i j)) (Ideal.ofBits FTy.f32 0xFF800000#32) := by
  unfold kBias; pointwise; rfl

/-- A sum against the indicator of one index is the term there. -/
theorem hot_sum (f : Fin 32 → EReal) (w : BitVec 32) (hw : w.toNat < 32) :
    ∑ j : Fin 32, f j * FloatOps.uitofp (F := Ideal) FTy.f32 (IntOp.cmpi CmpIPredicate.eq w (BitVec.ofNat 32 j))
      = f ⟨w.toNat, hw⟩ := by
  rw [Finset.sum_eq_single (⟨w.toNat, hw⟩ : Fin 32)]
  · have : IntOp.cmpi CmpIPredicate.eq w (BitVec.ofNat 32 w.toNat) = 1#1 := by
      rw [BitVec.ofNat_toNat, BitVec.setWidth_eq]; simp [IntOp.cmpi]
    show f _ * FloatOps.uitofp (F := Ideal) FTy.f32 (IntOp.cmpi CmpIPredicate.eq w (BitVec.ofNat 32 w.toNat)) = _
    rw [this]
    show f _ * ((((1#1 : BitVec 1).toNat : ℝ)) : EReal) = _
    simp
  · intro j _ hj
    have : IntOp.cmpi CmpIPredicate.eq w (BitVec.ofNat 32 j) = 0#1 := by
      have hne : w ≠ BitVec.ofNat 32 j := by
        rintro rfl
        apply hj
        refine Fin.ext ?_
        show j.val = (BitVec.ofNat 32 j.val).toNat
        rw [BitVec.toNat_ofNat, Nat.mod_eq_of_lt (by omega)]
      show BitVec.ofBool (w == BitVec.ofNat 32 j) = 0#1
      rw [beq_eq_false_iff_ne.mpr hne]; rfl
    rw [this]
    show f _ * ((((0#1 : BitVec 1).toNat : ℝ)) : EReal) = _
    simp
  · intro h; exact absurd (Finset.mem_univ _) h

end Cert.Swa

end
-- ==== Proof.Swa.Softmax.lean ====
/- The kernel's quotient of sums and the reference's sum of quotients, over the extended reals. -/
module

public import proofs.«01_k».proof.Proof.Swa.Head

@[expose] public section

set_option maxRecDepth 16384

noncomputable section

namespace Cert.Swa

open Idealize.ShloMosaic

/-- A factor that is a nonnegative real moves into a sum. -/
theorem sum_mul_real {ι : Type} [Fintype ι] (f : ι → EReal) (c : ℝ) (hc : 0 ≤ c) :
    (∑ k, f k) * (c : EReal) = ∑ k, f k * (c : EReal) := by
  classical
  induction (Finset.univ : Finset ι) using Finset.induction_on with
  | empty => simp
  | insert a s ha ih =>
    rw [Finset.sum_insert ha, Finset.sum_insert ha,
      EReal.right_distrib_of_nonneg_of_ne_top (by exact_mod_cast hc) (EReal.coe_ne_top c), ih]

/-- The sum of real numbers, as an extended real. -/
theorem coe_sum {ι : Type} [Fintype ι] (f : ι → ℝ) : ((∑ k, f k : ℝ) : EReal) = ∑ k, (f k : EReal) := by
  classical
  induction (Finset.univ : Finset ι) using Finset.induction_on with
  | empty => simp
  | insert a s ha ih => rw [Finset.sum_insert ha, Finset.sum_insert ha, EReal.coe_add, ih]

/-- The exponential of a score that isn't `⊤`, less a real number, is a nonnegative real. -/
theorem exp_real (x : EReal) (M : ℝ) (hx : x ≠ ⊤) : ∃ e : ℝ, 0 ≤ e ∧ Ideal.exp (x - (M : EReal)) = (e : EReal) := by
  induction x with
  | bot => exact ⟨0, le_rfl, by rw [EReal.bot_sub]; rfl⟩
  | coe r => exact ⟨Real.exp (r - M), (Real.exp_pos _).le, by rw [← EReal.coe_sub]; rfl⟩
  | top => exact absurd rfl hx

/-- A statement about every index of two halves. -/
theorem forall_halves (P : Fin (128 + 128) → Prop) :
    (∀ k, P k) ↔ (∀ k, P (Fin.castAdd 128 k)) ∧ ∀ k, P (Fin.natAdd 128 k) :=
  ⟨fun h => ⟨fun _ => h _, fun _ => h _⟩, fun h k => Fin.addCases (motive := P) h.1 h.2 k⟩

/-- The largest of all the scores is the largest of the two halves' and the sink. -/
theorem max_all (all : Fin (128 + 128 + 1) → EReal) (sp sc : Fin 128 → EReal) (s : EReal)
    (h1 : ∀ k, all (Fin.castAdd 128 k).castSucc = sp k) (h2 : ∀ k, all (Fin.natAdd 128 k).castSucc = sc k)
    (h3 : all (Fin.last _) = s) :
    max ⊥ (Finset.univ.fold max ⊥ all) = max (max (Finset.univ.fold max ⊥ sp) (Finset.univ.fold max ⊥ sc)) s := by
  refine eq_of_forall_ge_iff fun c => ?_
  simp only [max_le_iff, Finset.fold_max_le, Finset.mem_univ, true_imp_iff, bot_le, true_and]
  rw [Fin.forall_fin_succ', forall_halves]
  simp only [h1, h2, h3]

/-- The kernel's attention of two blocks of keys and a sink is the reference's over all of them: the values of keys whose
    score is `⊥` don't matter. -/
theorem softmax_eq (all : Fin (128 + 128 + 1) → EReal) (v : Fin (128 + 128) → EReal) (sp sc vp vc : Fin 128 → EReal) (s : EReal)
    (hb : s ≠ ⊥) (ht : s ≠ ⊤)
    (h1 : ∀ k, all (Fin.castAdd 128 k).castSucc = sp k) (h2 : ∀ k, all (Fin.natAdd 128 k).castSucc = sc k)
    (h3 : all (Fin.last _) = s) (hp : ∀ k, sp k ≠ ⊤) (hc : ∀ k, sc k ≠ ⊤)
    (hv1 : ∀ k, sp k = ⊥ ∨ v (Fin.castAdd 128 k) = vp k) (hv2 : ∀ k, v (Fin.natAdd 128 k) = vc k) :
    kAttn sp sc vp vc s = ∑ k, v k * Ideal.div (Ideal.exp (all k.castSucc - max ⊥ (Finset.univ.fold max ⊥ all)))
      (0 + ∑ j, Ideal.exp (all j - max ⊥ (Finset.univ.fold max ⊥ all))) := by
  rw [max_all all sp sc s h1 h2 h3]
  unfold kAttn
  dsimp only
  generalize hM : max (max (Finset.univ.fold max ⊥ sp) (Finset.univ.fold max ⊥ sc)) s = M
  have hMt : M ≠ ⊤ := by
    rw [← hM]
    refine ne_of_lt ?_
    simp only [max_lt_iff, Finset.fold_max_lt, Finset.mem_univ, true_imp_iff]
    exact ⟨⟨⟨bot_lt_top, fun k => lt_top_iff_ne_top.mpr (hp k)⟩, bot_lt_top, fun k => lt_top_iff_ne_top.mpr (hc k)⟩,
      lt_top_iff_ne_top.mpr ht⟩
  have hMb : M ≠ ⊥ := by
    rintro rfl
    exact hb (le_bot_iff.mp (hM ▸ le_max_right _ _))
  lift M to ℝ using ⟨hMt, hMb⟩
  clear hM
  choose ep ep0 hep using fun k => exp_real (sp k) M (hp k)
  choose ec ec0 hec using fun k => exp_real (sc k) M (hc k)
  lift s to ℝ using ⟨ht, hb⟩
  have hes : Ideal.exp ((s : EReal) - (M : EReal)) = ((Real.exp (s - M) : ℝ) : EReal) := by
    rw [← EReal.coe_sub]; rfl
  have hd : ∑ j, Ideal.exp (all j - (M : EReal)) = (((∑ k, ep k) + (∑ k, ec k) + Real.exp (s - M) : ℝ) : EReal) := by
    rw [Fin.sum_univ_castSucc, Fin.sum_univ_add, h3, hes]
    simp only [h1, h2, hep, hec, EReal.coe_add, coe_sum]
  have hpos : 0 < (∑ k, ep k) + (∑ k, ec k) + Real.exp (s - M) :=
    add_pos_of_nonneg_of_pos (add_nonneg (Finset.sum_nonneg fun k _ => ep0 k) (Finset.sum_nonneg fun k _ => ec0 k)) (Real.exp_pos _)
  rw [zero_add, hd]
  have hd' : (∑ k, Ideal.exp (sp k - (M : EReal))) + (∑ k, Ideal.exp (sc k - (M : EReal))) + Ideal.exp ((s : EReal) - (M : EReal))
      = (((∑ k, ep k) + (∑ k, ec k) + Real.exp (s - M) : ℝ) : EReal) := by
    rw [hes]; simp only [hep, hec, EReal.coe_add, coe_sum]
  rw [hd']
  generalize (∑ k, ep k) + (∑ k, ec k) + Real.exp (s - M) = D at hpos
  simp only [Ideal.div_coe hpos.ne']
  have hD : 0 ≤ 1 / D := by positivity
  rw [EReal.right_distrib_of_nonneg_of_ne_top (by exact_mod_cast hD) (EReal.coe_ne_top _),
    sum_mul_real _ _ hD, sum_mul_real _ _ hD, Fin.sum_univ_add]
  congr 1
  · refine Finset.sum_congr rfl fun k _ => ?_
    rw [h1]
    rcases hv1 k with h | h
    · rw [h, EReal.bot_sub]
      show vp k * (0 : EReal) * _ = _ * ((0 : EReal) * _)
      rw [mul_zero, zero_mul, mul_zero]
    · rw [h, mul_assoc]
  · refine Finset.sum_congr rfl fun k _ => ?_
    rw [h2, hv2, mul_assoc]

end Cert.Swa

end
-- ==== Proof.Swa.Words.lean ====
/- The distances' buckets are rows of the bias table, and which keys of a window lie inside the sequence. -/
module

public import proofs.«01_k».proof.Proof.Swa.RefRead
public import proofs.«01_k».proof.Proof.Swa.Consts

@[expose] public section

set_option maxRecDepth 16384

noncomputable section

namespace Cert.Swa

open Idealize.ShloMosaic

/-- A key of the window lies inside the sequence unless it is of the block before the first. -/
theorem inside_eq (n : Fin 32) (k : Fin 256) :
    wInside n k = if 1 ≤ n.val ∨ 128 ≤ k.val then 1#1 else 0#1 :=
  (by decide +kernel : ∀ (n : Fin 32) (k : Fin 256), wInside n k = if 1 ≤ n.val ∨ 128 ≤ k.val then 1#1 else 0#1) n k

/-- A clipped distance is a number below 128. -/
theorem clip_lt (i : Fin 128) (k : Fin 256) : (wClip (wDist i k)).toNat < 128 :=
  (by decide +kernel : ∀ (i : Fin 128) (k : Fin 256), (wClip (wDist i k)).toNat < 128) i k

/-- The whole part of a real number between 0 and 100 isn't clamped by wider bounds. -/
theorem clamp_eq (lo hi : ℤ) (hlo : lo ≤ 0) (hhi : 100 ≤ hi) (r : ℝ) (h0 : 0 ≤ r) (h1 : r ≤ 100) :
    Ideal.toIntClamped lo hi ((r : ℝ) : EReal) = ⌊r⌋ := by
  rw [Ideal.toIntClamped_coe, if_pos h0]
  have a : (0 : ℤ) ≤ ⌊r⌋ := Int.floor_nonneg.mpr h0
  have b : ⌊r⌋ ≤ 100 := by
    have : ⌊r⌋ ≤ ⌊(100 : ℝ)⌋ := Int.floor_le_floor h1
    simpa using this
  omega

/-- The whole part of a real number between 0 and 100, as a word. -/
theorem trunc_word (r : ℝ) (h0 : 0 ≤ r) (h1 : r ≤ 100) :
    (FloatOps.fptosi (F := Ideal) (φ := .f32) 32 ((r : ℝ) : EReal)).toNat ≤ 100 := by
  show (Ideal.fptosi 32 ((r : ℝ) : EReal)).toNat ≤ 100
  unfold Ideal.fptosi
  rw [clamp_eq _ _ (by norm_num) (by norm_num) r h0 h1]
  have a : (0 : ℤ) ≤ ⌊r⌋ := Int.floor_nonneg.mpr h0
  have b : ⌊r⌋ ≤ 100 := by
    have : ⌊r⌋ ≤ ⌊(100 : ℝ)⌋ := Int.floor_le_floor h1
    simpa using this
  obtain ⟨n, hn⟩ := Int.eq_ofNat_of_zero_le a
  rw [hn] at b ⊢
  have hb : n ≤ 100 := by omega
  rw [show (BitVec.ofInt 32 ((n : ℕ) : ℤ)) = BitVec.ofNat 32 n from BitVec.ofInt_natCast 32 n, BitVec.toNat_ofNat, Nat.mod_eq_of_lt (by omega)]
  exact hb

/-- Sixteen more than a small word, at most 31, is below 32. -/
theorem min_lt (x : BitVec 32) (h : x.toNat ≤ 100) : (IntOp.minsi (IntOp.addi (16#32) x) 31#32).toNat < 32 := by
  obtain ⟨n, hn, rfl⟩ : ∃ n : Fin 101, n.val = x.toNat ∧ x = BitVec.ofNat 32 n.val :=
    ⟨⟨x.toNat, by omega⟩, rfl, by simp⟩
  clear h hn
  exact (by decide +kernel : ∀ n : Fin 101, (IntOp.minsi (IntOp.addi (16#32) (BitVec.ofNat 32 n.val)) 31#32).toNat < 32) n

/-- The bucket of a distance between 0 and 127 is a row of the table. -/
theorem bucket_lt (w : BitVec 32) (hw : w.toNat < 128) : (wBucket w).toNat < 32 := by
  unfold wBucket
  by_cases h : w.toNat < 16
  · have e : IntOp.cmpi CmpIPredicate.slt w 16#32 = 1#1 := by
      obtain ⟨n, rfl⟩ : ∃ n : Fin 16, w = BitVec.ofNat 32 n.val := ⟨⟨w.toNat, h⟩, by simp⟩
      exact (by decide +kernel : ∀ n : Fin 16, IntOp.cmpi CmpIPredicate.slt (BitVec.ofNat 32 n.val) 16#32 = 1#1) n
    rw [e]; show w.toNat < 32; omega
  · have e : IntOp.cmpi CmpIPredicate.slt w 16#32 = 0#1 ∧ IntOp.maxsi w 1#32 = w ∧ w.toInt = w.toNat := by
      obtain ⟨n, hn, rfl⟩ : ∃ n : Fin 112, n.val + 16 = w.toNat ∧ w = BitVec.ofNat 32 (n.val + 16) :=
        ⟨⟨w.toNat - 16, by omega⟩, by show w.toNat - 16 + 16 = _; omega, by
          show w = BitVec.ofNat 32 (w.toNat - 16 + 16)
          rw [Nat.sub_add_cancel (by omega)]; simp⟩
      exact (by decide +kernel : ∀ n : Fin 112, IntOp.cmpi CmpIPredicate.slt (BitVec.ofNat 32 (n.val + 16)) 16#32 = 0#1
        ∧ IntOp.maxsi (BitVec.ofNat 32 (n.val + 16)) 1#32 = BitVec.ofNat 32 (n.val + 16)
        ∧ (BitVec.ofNat 32 (n.val + 16)).toInt = (BitVec.ofNat 32 (n.val + 16)).toNat) n
    obtain ⟨e1, e2, e3⟩ := e
    rw [e1, e2]
    show (IntOp.minsi (IntOp.addi (16#32) _) 31#32).toNat < 32
    refine min_lt _ ?_
    rw [bits_sixteen, bits_log8]
    have e4 : FloatOps.sitofp (F := Ideal) FTy.f32 w = ((w.toNat : ℝ) : EReal) := by
      show (((w.toInt : ℝ)) : EReal) = _
      rw [e3]; simp
    rw [e4, Ideal.div_coe (y := 16) (by norm_num), ← EReal.coe_mul, mul_one_div]
    have hy : (1 : ℝ) ≤ (w.toNat : ℝ) / 16 := by
      rw [le_div_iff₀ (by norm_num)]
      have : (16 : ℝ) ≤ (w.toNat : ℝ) := by exact_mod_cast (by omega : 16 ≤ w.toNat)
      linarith
    have hy' : (w.toNat : ℝ) / 16 ≤ 8 := by
      rw [div_le_iff₀ (by norm_num)]
      have : (w.toNat : ℝ) ≤ 128 := by exact_mod_cast (by omega : w.toNat ≤ 128)
      linarith
    have e5 : Ideal.log ((((w.toNat : ℝ) / 16 : ℝ)) : EReal) = ((Real.log ((w.toNat : ℝ) / 16) : ℝ) : EReal) := by
      show (if ((w.toNat : ℝ) / 16) ≤ 0 then ⊥ else ((Real.log ((w.toNat : ℝ) / 16) : ℝ) : EReal)) = _
      rw [if_neg (by linarith)]
    have l0 : 0 ≤ Real.log ((w.toNat : ℝ) / 16) := Real.log_nonneg hy
    have l1 : Real.log ((w.toNat : ℝ) / 16) ≤ 7 := by
      have := Real.log_le_sub_one_of_pos (show (0 : ℝ) < (w.toNat : ℝ) / 16 by linarith)
      linarith
    rw [e5, Ideal.div_coe (by norm_num), ← EReal.coe_mul, mul_one_div, ← EReal.coe_mul]
    refine trunc_word _ (by positivity) ?_
    rw [div_mul_eq_mul_div, div_le_iff₀ (by norm_num)]
    nlinarith

/-- The row that the reference reads is the bucket. -/
theorem row_eq (w : BitVec 32) (h : w.toNat < 32) :
    min (Scalar.select (IntOp.cmpi .slt w 0#32) (IntOp.addi w 32#32) w).toInt.toNat 31 = w.toNat := by
  obtain ⟨n, rfl⟩ : ∃ n : Fin 32, w = BitVec.ofNat 32 n.val := ⟨⟨w.toNat, h⟩, by simp⟩
  exact (by decide +kernel : ∀ n : Fin 32, min (Scalar.select (IntOp.cmpi .slt (BitVec.ofNat 32 n.val) 0#32)
    (IntOp.addi (BitVec.ofNat 32 n.val) 32#32) (BitVec.ofNat 32 n.val)).toInt.toNat 31 = (BitVec.ofNat 32 n.val).toNat) n

end Cert.Swa

end
-- ==== Proof.Swa.Cell.lean ====
/- One head's output at one query, from blocks that hold the arguments' rows, is the reference's. -/
module

public import proofs.«01_k».proof.Proof.Swa.Pieces
public import proofs.«01_k».proof.Proof.Swa.Softmax
public import proofs.«01_k».proof.Proof.Swa.RefRead
public import proofs.«01_k».proof.Proof.Swa.Words

@[expose] public section

set_option maxRecDepth 16384

noncomputable section

namespace Cert.Swa

open Idealize.ShloMosaic

/-- The row of the bias table for query `i` and key `k` of a window. -/
def row (i : Fin 128) (k : Fin 256) : Fin 32 := ⟨(wBucket (wClip (wDist i k))).toNat, bucket_lt _ (clip_lt i k)⟩

/-- The row that the reference reads, as an index. -/
theorem mk_row (w : BitVec 32) (hw : w.toNat < 32)
    (h : min (Scalar.select (IntOp.cmpi .slt w 0#32) (IntOp.addi w 32#32) w).toInt.toNat 31 < 32) :
    (⟨min (Scalar.select (IntOp.cmpi .slt w 0#32) (IntOp.addi w 32#32) w).toInt.toNat 31, h⟩ : Fin 32) = ⟨w.toNat, hw⟩ :=
  Fin.ext (row_eq w hw)

/-- Neither infinity. -/
def Bounded (x : EReal) : Prop := x ≠ ⊤ ∧ x ≠ ⊥

/-- A sum of products of reals isn't `⊤`. -/
theorem dot_ne_top {n : ℕ} (f g : Fin n → EReal) (hf : ∀ e, Bounded (f e)) (hg : ∀ e, Bounded (g e)) : ∑ e, f e * g e ≠ ⊤ := by
  choose f' hf' using fun e => (⟨(f e).toReal, EReal.coe_toReal (hf e).1 (hf e).2⟩ : ∃ r : ℝ, (r : EReal) = f e)
  choose g' hg' using fun e => (⟨(g e).toReal, EReal.coe_toReal (hg e).1 (hg e).2⟩ : ∃ r : ℝ, (r : EReal) = g e)
  simp only [← hf', ← hg', ← EReal.coe_mul]
  rw [← coe_sum]
  exact EReal.coe_ne_top _

theorem sel_one {α : Type} (a b : α) : Scalar.select (1#1 : BitVec 1) a b = a := rfl
theorem sel_zero {α : Type} (a b : α) : Scalar.select (0#1 : BitVec 1) a b = b := rfl
theorem and_one (a : BitVec 1) : IntOp.andi a 1#1 = a := (by decide : ∀ a : BitVec 1, IntOp.andi a 1#1 = a) a
theorem and_zero (a : BitVec 1) : IntOp.andi a 0#1 = 0#1 := (by decide : ∀ a : BitVec 1, IntOp.andi a 0#1 = 0#1) a
theorem bit_cases (a : BitVec 1) : a = 1#1 ∨ a = 0#1 := (by decide : ∀ a : BitVec 1, a = 1#1 ∨ a = 0#1) a

/-- A bias of minus infinity masks the score. -/
theorem masked_sum (w : BitVec 1) (s t : EReal) : s + Scalar.select w t ⊥ = Scalar.select w (s + t) ⊥ := by
  rcases bit_cases w with rfl | rfl
  · rfl
  · rw [sel_zero, sel_zero, EReal.add_bot]

theorem masked_ne_top (w : BitVec 1) (s t : EReal) (hs : s ≠ ⊤) (ht : t ≠ ⊤) : Scalar.select w (s + t) ⊥ ≠ ⊤ := by
  rcases bit_cases w with rfl | rfl
  · exact (EReal.add_lt_top hs ht).ne
  · exact bot_ne_top

/-- Whether a block is the first of its sequence. -/
theorem first_eq (n : Fin 32) : Scalar.cmpi CmpIPredicate.eq (BitVec.ofNat 32 n.val) 0#32 = if n.val = 0 then 1#1 else 0#1 :=
  (by decide +kernel : ∀ n : Fin 32, Scalar.cmpi CmpIPredicate.eq (BitVec.ofNat 32 n.val) 0#32 = if n.val = 0 then 1#1 else 0#1) n

section

open Cert.ReferenceIdeal

/-- The reference's masked scores. -/
def scoresOf (qT : FVec Ideal S1024x32768 .bf16) (kk : FVec Ideal S32768x256 .bf16) (table : FVec Ideal S32x16 .f32) :
    FVec Ideal S8x32x4x4x128x256 .f32 :=
  rMasked (rValid (rNear rDist)) (rScores (rWindows (rK kk)) (rQ qT)) (rBias table (rIndex (rBucket (rClip rDist))))

attribute [local irreducible] wBucket wClip wDist wNear rIndex rBucket

theorem scoresOf_at (qT : FVec Ideal S1024x32768 .bf16) (kk : FVec Ideal S32768x256 .bf16) (table : FVec Ideal S32x16 .f32)
    (b : Fin 8) (n : Fin 32) (g r : Fin 4) (i : Fin 128) (k : Fin 256) :
    scoresOf qT kk table (ix6 b n g r i k)
      = Scalar.select (IntOp.andi (wNear (wDist i k)) (if 1 ≤ n.val ∨ 128 ≤ k.val then 1#1 else 0#1))
          ((∑ d : Fin 64, rWindows (rK kk) (ix5 b n k g d)
              * qT (ix2 (⟨g.val * 256 + r.val * 64 + d.val, by omega⟩ : Fin 1024) (⟨b.val * 4096 + n.val * 128 + i.val, by omega⟩ : Fin 32768)))
            + table (ix2 (row i k) (⟨g.val * 4 + r.val, by omega⟩ : Fin 16))) ⊥ := by
  unfold scoresOf
  rw [rMasked_at, rValid_at, inside_eq, rScores_at, rBias_at, neg_inf]
  have e : ∀ (x : BitVec 32) (hx : min x.toInt.toNat 31 < 32),
      x = Scalar.select (IntOp.cmpi .slt (wBucket (wClip (wDist i k))) 0#32) (IntOp.addi (wBucket (wClip (wDist i k))) 32#32) (wBucket (wClip (wDist i k))) →
      (⟨min x.toInt.toNat 31, hx⟩ : Fin 32) = row i k := by
    rintro x hx rfl
    exact mk_row _ _ _
  rw [e _ _ (by rw [rIndex_at, rBucket_at])]
  simp only [rQ_at]

/-- The reference's result at an index. -/
theorem rAttn_at (qT : FVec Ideal S1024x32768 .bf16) (kk : FVec Ideal S32768x256 .bf16) (vT : FVec Ideal S256x32768 .bf16)
    (table : FVec Ideal S32x16 .f32) (sinks : FVec Ideal S1x16 .f32)
    (b : Fin 8) (n : Fin 32) (g r : Fin 4) (d : Fin 64) (i : Fin 128) (all : Fin (128 + 128 + 1) → EReal)
    (hall : ∀ k : Fin 257, all k = rAll (scoresOf qT kk table) sinks (ix6 b n g r i k)) :
    rAttn qT kk vT table sinks (ix2 (⟨g.val * 256 + r.val * 64 + d.val, by omega⟩ : Fin 1024) (⟨b.val * 4096 + n.val * 128 + i.val, by omega⟩ : Fin 32768))
      = ∑ k : Fin (128 + 128), rWindows (rV vT) (ix5 b n k g d)
          * Ideal.div (Ideal.exp (all k.castSucc - max ⊥ (Finset.univ.fold max ⊥ all)))
              (0 + ∑ j, Ideal.exp (all j - max ⊥ (Finset.univ.fold max ⊥ all))) := by
  have hall' : all = fun k : Fin 257 => rAll (scoresOf qT kk table) sinks (ix6 b n g r i k) := funext hall
  unfold rAttn
  rw [show rMasked (rValid (rNear rDist)) (rScores (rWindows (rK kk)) (rQ qT)) (rBias table (rIndex (rBucket (rClip rDist)))) = scoresOf qT kk table from rfl]
  generalize rAll (scoresOf qT kk table) sinks = A at hall'
  rw [rOut_at, rMix_at]
  refine Finset.sum_congr rfl fun k _ => congrArg _ ?_
  rw [rProb_at, rDen_at, bits_zero]
  simp only [rExp_at, rMax_at, neg_inf]
  rw [hall']

end

/-- One head's output at one query, from the blocks of grid point `b`, `n`. -/
theorem cell_eq (qT : FVec Ideal Cert.ReferenceIdeal.S1024x32768 .bf16) (kk : FVec Ideal Cert.ReferenceIdeal.S32768x256 .bf16)
    (vT : FVec Ideal Cert.ReferenceIdeal.S256x32768 .bf16)
    (table : FVec Ideal Cert.ReferenceIdeal.S32x16 .f32) (sinks : FVec Ideal Cert.ReferenceIdeal.S1x16 .f32)
    (fq : ∀ j, Bounded (qT j)) (fk : ∀ j, Bounded (kk j)) (ft : ∀ j, Bounded (table j)) (fs : ∀ j, Bounded (sinks j))
    (x0 : Vec Ideal Cert.KernelIdeal.S16 .f32) (x1 : Vec Ideal Cert.KernelIdeal.S1024x128 .bf16) (x2 x3 : Vec Ideal Cert.KernelIdeal.S128x256 .bf16)
    (x4 x5 : Vec Ideal Cert.KernelIdeal.S256x128 .bf16) (x6 : Vec Ideal Cert.KernelIdeal.S16x256x128 .f32) (b : Fin 8) (n : Fin 32)
    (h0 : ∀ h : Fin 16, x0 (ix1 h) = sinks (ix2 (0 : Fin 1) h))
    (h1 : ∀ (f : Fin 1024) (i : Fin 128), x1 (ix2 f i) = qT (ix2 f (⟨b.val * 4096 + n.val * 128 + i.val, by omega⟩ : Fin 32768)))
    (h2 : 1 ≤ n.val → ∀ (k : Fin 128) (e : Fin 256), x2 (ix2 k e) = kk (ix2 (⟨b.val * 4096 + (n.val - 1) * 128 + k.val, by omega⟩ : Fin 32768) e))
    (h3 : ∀ (k : Fin 128) (e : Fin 256), x3 (ix2 k e) = kk (ix2 (⟨b.val * 4096 + n.val * 128 + k.val, by omega⟩ : Fin 32768) e))
    (h4 : 1 ≤ n.val → ∀ (e : Fin 256) (k : Fin 128), x4 (ix2 e k) = vT (ix2 e (⟨b.val * 4096 + (n.val - 1) * 128 + k.val, by omega⟩ : Fin 32768)))
    (h5 : ∀ (e : Fin 256) (k : Fin 128), x5 (ix2 e k) = vT (ix2 e (⟨b.val * 4096 + n.val * 128 + k.val, by omega⟩ : Fin 32768)))
    (h6 : ∀ (h : Fin 16) (k : Fin 256) (i : Fin 128), x6 (ix3 h k i) = Scalar.select (wNear (wDist i k)) (table (ix2 (row i k) h)) ⊥)
    (g r : Fin 4) (d : Fin 64) (i : Fin 128) :
    kCell (Scalar.cmpi CmpIPredicate.eq (BitVec.ofNat 32 n.val) 0#32) x0 x1 x2 x3 x4 x5 x6 (⟨g.val * 4 + r.val, by omega⟩ : Fin 16) d i
      = rAttn qT kk vT table sinks (ix2 (⟨g.val * 256 + r.val * 64 + d.val, by omega⟩ : Fin 1024) (⟨b.val * 4096 + n.val * 128 + i.val, by omega⟩ : Fin 32768)) := by
  rw [rAttn_at qT kk vT table sinks b n g r d i _ fun _ => rfl]
  unfold kCell
  have eg : ∀ e : Fin 64, (⟨64 * ((g.val * 4 + r.val) / 4) + e.val, by omega⟩ : Fin 256) = ⟨g.val * 64 + e.val, by omega⟩ :=
    fun e => Fin.ext (by show 64 * ((g.val * 4 + r.val) / 4) + e.val = g.val * 64 + e.val; omega)
  have eh : ∀ e : Fin 64, (⟨64 * (g.val * 4 + r.val) + e.val, by omega⟩ : Fin 1024) = ⟨g.val * 256 + r.val * 64 + e.val, by omega⟩ :=
    fun e => Fin.ext (by show 64 * (g.val * 4 + r.val) + e.val = g.val * 256 + r.val * 64 + e.val; omega)
  simp only [eg, eh, h0, h1, h3, h5, h6, masked_sum, first_eq]
  refine softmax_eq _ _ _ _ _ _ _ (fs _).2 (fs _).1 (fun k => ?_) (fun k => ?_) (rAll_hi _ _ b n g r i) (fun k => ?_) (fun k => ?_) (fun k => ?_) (fun k => ?_)
  · refine (rAll_lo _ _ b n g r i (Fin.castAdd 128 k)).trans ((scoresOf_at qT kk table b n g r i (Fin.castAdd 128 k)).trans ?_)
    have hk : ((Fin.castAdd 128 k : Fin (128 + 128)) : Fin 256) = (⟨k.val, by omega⟩ : Fin 256) := rfl
    rcases Nat.eq_zero_or_pos n.val with hn | hn
    · rw [if_neg (by rw [hk]; show ¬ (1 ≤ n.val ∨ 128 ≤ k.val); omega), and_zero, sel_zero, if_pos hn, sel_one]
    · have hn : 1 ≤ n.val := hn
      rw [if_pos (Or.inl hn), and_one, if_neg (by omega), sel_zero, hk]
      simp only [h2 hn]
      refine congrArg (fun s => Scalar.select _ (s + _) ⊥) (Finset.sum_congr rfl fun e _ => congrArg (· * _) ?_)
      exact (rWindows_lo _ b n k g e hn).trans ((rK_at kk b _ g e).trans (congrArg (fun p => kk (ix2 p _)) (Fin.ext (by show b.val * 4096 + ((n.val - 1) * 128 + k.val) = b.val * 4096 + (n.val - 1) * 128 + k.val; omega))))
  · refine (rAll_lo _ _ b n g r i (Fin.natAdd 128 k)).trans ((scoresOf_at qT kk table b n g r i (Fin.natAdd 128 k)).trans ?_)
    have hk : ((Fin.natAdd 128 k : Fin (128 + 128)) : Fin 256) = (⟨128 + k.val, by omega⟩ : Fin 256) := rfl
    rw [if_pos (Or.inr (by rw [hk]; show 128 ≤ 128 + k.val; omega)), and_one, hk]
    refine congrArg (fun s => Scalar.select _ (s + _) ⊥) (Finset.sum_congr rfl fun e _ => congrArg (· * _) ?_)
    exact (rWindows_hi _ b n k g e).trans ((rK_at kk b _ g e).trans (congrArg (fun p => kk (ix2 p _)) (Fin.ext (by show b.val * 4096 + (n.val * 128 + k.val) = b.val * 4096 + n.val * 128 + k.val; omega))))
  · rcases Nat.eq_zero_or_pos n.val with hn | hn
    · rw [if_pos hn, sel_one]; exact bot_ne_top
    · rw [if_neg (by omega), sel_zero]
      refine masked_ne_top _ _ _ (dot_ne_top _ _ (fun e => ?_) fun e => fq _) (ft _).1
      rw [h2 hn]; exact fk _
  · exact masked_ne_top _ _ _ (dot_ne_top _ _ (fun e => fk _) fun e => fq _) (ft _).1
  · rcases Nat.eq_zero_or_pos n.val with hn | hn
    · left; rw [if_pos hn, sel_one]
    · right
      rw [h4 hn]
      exact (rWindows_lo _ b n k g d hn).trans ((rV_at vT b _ g d).trans (congrArg (fun p => vT (ix2 _ p)) (Fin.ext (by show b.val * 4096 + ((n.val - 1) * 128 + k.val) = b.val * 4096 + (n.val - 1) * 128 + k.val; omega))))
  · exact (rWindows_hi _ b n k g d).trans ((rV_at vT b _ g d).trans (congrArg (fun p => vT (ix2 _ p)) (Fin.ext (by show b.val * 4096 + (n.val * 128 + k.val) = b.val * 4096 + n.val * 128 + k.val; omega))))

end Cert.Swa

end
-- ==== Proof.Swa.Array.lean ====
/- The kernel's output array holds the reference's values. -/
module

public import proofs.«01_k».proof.Proof.Swa.Block
public import proofs.«01_k».proof.Proof.Swa.KBias
public import proofs.«01_k».proof.Proof.Swa.Cell
public import Idealize.ShloMosaic.Lib.Pipeline.ValueKit

@[expose] public section

set_option maxRecDepth 16384

noncomputable section

namespace Cert.Swa

open Cert.KernelIdeal Cert.KernelIdeal.Gen Idealize.ShloMosaic Idealize.ShloMosaic.TcCoe Idealize.SL.Sem

/-- The sequence of a grid point. -/
def seqOf (t : Fin cfg0.N) : Fin 8 := ⟨t.val / 32, by have : t.val < 256 := t.isLt; omega⟩
/-- The block of a grid point within its sequence. -/
def blkOf (t : Fin cfg0.N) : Fin 32 := ⟨t.val % 32, by omega⟩

/-- The grid's coordinates and the blocks that each window holds at a point. -/
theorem idx : ∀ t : Fin cfg0.N, (grid0.coords t 1).val = t.val % 32 ∧ win0_0.index t = ![0] ∧ win0_1.index t = ![0, t.val]
    ∧ win0_2.index t = ![t.val - 1, 0] ∧ win0_3.index t = ![t.val, 0] ∧ win0_4.index t = ![0, t.val - 1]
    ∧ win0_5.index t = ![0, t.val] ∧ win0_6.index t = ![0, 0, 0] ∧ win0_7.index t = ![0, t.val] :=
  (by decide +kernel : ∀ t : Fin grid0.N, (grid0.coords t 1).val = t.val % 32 ∧ win0_0.index t = ![0] ∧ win0_1.index t = ![0, t.val]
    ∧ win0_2.index t = ![t.val - 1, 0] ∧ win0_3.index t = ![t.val, 0] ∧ win0_4.index t = ![0, t.val - 1]
    ∧ win0_5.index t = ![0, t.val] ∧ win0_6.index t = ![0, 0, 0] ∧ win0_7.index t = ![0, t.val])

section
variable (m : (ℓ : Loc nD τ sig) → Buf (Elt Ideal) ℓ) (c : Dev nD) (t : Fin cfg0.N)

theorem blk0 (h : Fin 16) : iblk m c 0 t (ix1 h) = m ((c.tc : Thread nD τ).loc main_arg4) (ix2 (0 : Fin 1) h) := by
  rw [← sinks_eq m c h]
  blk_point [iblk, idx t]

theorem blk1 (f : Fin 1024) (i : Fin 128) : iblk m c 1 t (ix2 f i)
    = m ((c.tc : Thread nD τ).loc main_arg0) (ix2 f (⟨(seqOf t).val * 4096 + (blkOf t).val * 128 + i.val, by omega⟩ : Fin 32768)) := by
  unfold seqOf blkOf
  blk_point [iblk, V, idx t]

theorem blk2 (hn : 1 ≤ (blkOf t).val) (k : Fin 128) (e : Fin 256) : iblk m c 2 t (ix2 k e)
    = m ((c.tc : Thread nD τ).loc main_arg1) (ix2 (⟨(seqOf t).val * 4096 + ((blkOf t).val - 1) * 128 + k.val, by omega⟩ : Fin 32768) e) := by
  have hn' : 1 ≤ t.val % 32 := hn
  unfold seqOf blkOf
  blk_point [iblk, V, idx t]

theorem blk3 (k : Fin 128) (e : Fin 256) : iblk m c 3 t (ix2 k e)
    = m ((c.tc : Thread nD τ).loc main_arg1) (ix2 (⟨(seqOf t).val * 4096 + (blkOf t).val * 128 + k.val, by omega⟩ : Fin 32768) e) := by
  unfold seqOf blkOf
  blk_point [iblk, V, idx t]

theorem blk4 (hn : 1 ≤ (blkOf t).val) (e : Fin 256) (k : Fin 128) : iblk m c 4 t (ix2 e k)
    = m ((c.tc : Thread nD τ).loc main_arg2) (ix2 e (⟨(seqOf t).val * 4096 + ((blkOf t).val - 1) * 128 + k.val, by omega⟩ : Fin 32768)) := by
  have hn' : 1 ≤ t.val % 32 := hn
  unfold seqOf blkOf
  blk_point [iblk, V, idx t]

theorem blk5 (e : Fin 256) (k : Fin 128) : iblk m c 5 t (ix2 e k)
    = m ((c.tc : Thread nD τ).loc main_arg2) (ix2 e (⟨(seqOf t).val * 4096 + (blkOf t).val * 128 + k.val, by omega⟩ : Fin 32768)) := by
  unfold seqOf blkOf
  blk_point [iblk, V, idx t]

theorem blk6 (h : Fin 16) (k : Fin 256) (i : Fin 128) : iblk m c 6 t (ix3 h k i)
    = Scalar.select (wNear (wDist i k)) (m ((c.tc : Thread nD τ).loc main_arg3) (ix2 (row i k) h)) (⊥ : EReal) := by
  have e : iblk m c 6 t (ix3 h k i) = V m c main_v42 (ix3 h k i) := by
    blk_point [iblk, idx t]
  rw [e, bias_eq]
  generalize m ((c.tc : Thread nD τ).loc main_arg3) = table
  refine (kBias_at _ table _ h k i).trans ?_
  rw [kNear_at, neg_inf]
  simp only [kHot_at, kBucket_at]
  exact congrArg (fun s => Scalar.select _ s ⊥) (hot_sum (fun j => table (ix2 j h)) _ (bucket_lt _ (clip_lt i k)))

/-- The kernel's output array is the reference's result of the arguments. -/
theorem array_eq (fq : ∀ j, Bounded (m ((c.tc : Thread nD τ).loc main_arg0) j)) (fk : ∀ j, Bounded (m ((c.tc : Thread nD τ).loc main_arg1) j))
    (ft : ∀ j, Bounded (m ((c.tc : Thread nD τ).loc main_arg3) j)) (fs : ∀ j, Bounded (m ((c.tc : Thread nD τ).loc main_arg4) j)) :
    (dats m 0 c).arrAt 7 cfg0.N = rAttn (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_covers 7 _ (by decide +kernel) fun t _ y => ?_
  blk_simp
  rw [after0_7]
  obtain ⟨f, i, rfl⟩ : ∃ (f : Fin 1024) (i : Fin 128), y = ix2 f i := ⟨y 0, y 1, funext fun a => by fin_cases a <;> rfl⟩
  obtain ⟨g, r, d, rfl⟩ : ∃ (g r : Fin 4) (d : Fin 64), f = (⟨g.val * 256 + r.val * 64 + d.val, by omega⟩ : Fin 1024) :=
    ⟨⟨f.val / 256, by omega⟩, ⟨f.val / 64 % 4, by omega⟩, ⟨f.val % 64, by omega⟩,
      Fin.ext (by show f.val = f.val / 256 * 256 + f.val / 64 % 4 * 64 + f.val % 64; omega)⟩
  have ey : (win0_7.blk t).view.emb (ix2 (⟨g.val * 256 + r.val * 64 + d.val, by omega⟩ : Fin 1024) i)
      = ix2 (⟨g.val * 256 + r.val * 64 + d.val, by omega⟩ : Fin 1024) (⟨(seqOf t).val * 4096 + (blkOf t).val * 128 + i.val, by omega⟩ : Fin 32768) := by
    unfold seqOf blkOf
    blk_ext [idx t]
  refine Eq.trans ?_ (congrArg _ ey).symm
  refine Eq.trans ?_ (cell_eq _ _ _ _ _ fq fk ft fs (iblk m c 0 t) (iblk m c 1 t) (iblk m c 2 t) (iblk m c 3 t) (iblk m c 4 t)
    (iblk m c 5 t) (iblk m c 6 t) (seqOf t) (blkOf t) (blk0 m c t) (blk1 m c t) (blk2 m c t) (blk3 m c t) (blk4 m c t)
    (blk5 m c t) (blk6 m c t) g r d i)
  unfold outsAt0 out0_A_7
  refine (View.read_writes_apply_of_pieces _ _ _ _ (pieces_eq c _ _ _ _ _ _ _ _ _ _ _ _ _ _ _ _ _ _ _ _ _ _ _ _) _
    (cover0_A_7 c _ _ _ _ _ _ _ _ _ _ _ _ _ _ _ _ _ _ _ _ _ _ _ _ _)).trans ?_
  unfold kOut
  have e1 : (⟨(g.val * 256 + r.val * 64 + d.val) / 64, by omega⟩ : Fin 16) = ⟨g.val * 4 + r.val, by omega⟩ :=
    Fin.ext (by show (g.val * 256 + r.val * 64 + d.val) / 64 = g.val * 4 + r.val; omega)
  have e2 : (⟨(g.val * 256 + r.val * 64 + d.val) % 64, by omega⟩ : Fin 64) = d :=
    Fin.ext (by show (g.val * 256 + r.val * 64 + d.val) % 64 = d.val; omega)
  rw [(idx t).1]
  show kCell _ _ _ _ _ _ _ _ ⟨(g.val * 256 + r.val * 64 + d.val) / 64, _⟩ ⟨(g.val * 256 + r.val * 64 + d.val) % 64, _⟩ i = _
  rw [e1, e2]
  rfl

end

end Cert.Swa

end
-- ==== Proof.Swa.Claims.lean ====
/- The attention's claims: its frames, its ideal program, and its equation with the reference. -/
module

public import proofs.«01_k».proof.Defs
public import proofs.«01_k».proof.Proof.Gen.Kernel.Frame
public import proofs.«01_k».proof.Proof.Swa.Array
public import Idealize.ShloMosaic.Lib.Quiescent
public import Idealize.ShloMosaic.Adequacy
public import Idealize.ShloMosaic.Init

@[expose] public section

set_option maxRecDepth 16384

noncomputable section

namespace Cert.Swa

open Idealize.ShloMosaic Idealize.SL.Sem Idealize.ShloMosaic.TcCoe

/-- The side conditions of the precondition's operations. -/
theorem preFacts : Cert.Pre_finite.Facts where
  bitsLt_bf16_f32 := by decide
  bcast_S_S1024x32768 := by decide
  bcast_S_S32768x256 := by decide
  bcast_S_S32x16 := by decide
  bcast_S_S1x16 := by decide

instance : Cert.Pre_finite.Facts := preFacts

/-- A number whose absolute value is below infinity is real. -/
theorem bounded_of (x : EReal) (h : BitVec.ofBool (decide (max x (-x) < Ideal.ofBits FTy.f32 0x7F800000#32)) = 1#1) : Bounded x := by
  rw [pos_inf] at h
  have h' : max x (-x) < ⊤ := by
    by_contra hc
    rw [decide_eq_false hc] at h
    exact absurd h (by decide)
  rw [max_lt_iff] at h'
  refine ⟨h'.1.ne, ?_⟩
  rintro rfl
  exact absurd h'.2 (by simp)

/-- What the precondition says of the queries, keys, biases and sinks: all are real numbers. -/
theorem bounded_args (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ j, Bounded (m ((c.tc : Thread Cert.KernelIdeal.nD Cert.KernelIdeal.τ).loc Cert.KernelIdeal.main_arg0) j))
    ∧ (∀ j, Bounded (m ((c.tc : Thread Cert.KernelIdeal.nD Cert.KernelIdeal.τ).loc Cert.KernelIdeal.main_arg1) j))
    ∧ (∀ j, Bounded (m ((c.tc : Thread Cert.KernelIdeal.nD Cert.KernelIdeal.τ).loc Cert.KernelIdeal.main_arg3) j))
    ∧ (∀ j, Bounded (m ((c.tc : Thread Cert.KernelIdeal.nD Cert.KernelIdeal.τ).loc Cert.KernelIdeal.main_arg4) j)) := by
  obtain ⟨h0, h1, h2, h3⟩ := h c
  refine ⟨fun j => bounded_of _ ?_, fun j => bounded_of _ ?_, fun j => bounded_of _ ?_, fun j => bounded_of _ ?_⟩
  · exact congrFun h0 j
  · exact congrFun h1 j
  · exact congrFun h2 j
  · exact congrFun h3 j

/-- The kernel and its ideal program run and leave their arguments and the counters. -/
theorem frame_k : Cert.quiescent_Kernel := fun m ρ _ => Cert.Kernel.Gen.frame m ρ
theorem frame_ki : Cert.quiescent_KernelIdeal := fun m ρ _ => Cert.KernelIdeal.Gen.frame m ρ
theorem frame_ki' : Cert.quiescent_KernelIdeal_pre_finite := fun m ρ _ => Cert.KernelIdeal.Gen.frame m ρ

/-- The reference runs and leaves its arguments and the counters. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem frame_ri' : Cert.quiescent_ReferenceIdeal_pre_finite := fun m ρ _ => frame_ri m ρ trivial

/-- The mask stands for minus infinity. -/
theorem preserved : Cert.preserves_Kernel_KernelIdeal :=
  IdealRules.named_const.statement Cert.KernelIdeal.κ "mask" .f32 0xF149F2CA#32 ⊥ rfl

/-- Kernel and reference compute the same array. -/
theorem algebraic : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  obtain ⟨f0, f1, f3, f4⟩ := bounded_args m hpre c
  refine (res_eq m' c).trans (Eq.trans ?_ (array_eq m c f0 f1 f3 f4).symm)
  rw [e0, e1, e2, e3, e4]

end Cert.Swa

end
-- ==== Proof.Proj.Norm.lean ====
/- The root-mean-square norm of one row, over the extended reals. -/
module

public import Idealize.ShloMosaic.PureOps.Ideal

@[expose] public section

noncomputable section

namespace Cert.Proj

open Idealize.ShloMosaic

/-- Entry `e` of a row `x` divided by its root mean square and scaled by the gains `g`. -/
def norm (x g : Fin 2048 → EReal) (e : Fin 2048) : EReal :=
  x e * Ideal.rsqrt (Ideal.div (∑ k, x k * x k) (Ideal.ofBits .f32 0x45000000#32) + Ideal.ofBits .f32 0x358637BD#32) * g e

/-- The pattern of zero. -/
theorem bits_zero : Ideal.ofBits .f32 0x00000000#32 = 0 := by
  simp [Ideal.ofBits, Ideal.ieee]

end Cert.Proj

end
-- ==== Proof.Proj.Ref.lean ====
/- The reference of the input projections: its results by name, and read at an index. -/
module

public import proofs.«01_k».proof.Proof.Gen.Reference2Ideal.Run
public import proofs.«01_k».proof.Proof.Proj.Norm
public import Idealize.ShloMosaic.Lib.Pointwise
public import Idealize.ShloMosaic.Lib.Claim

@[expose] public section

set_option maxRecDepth 16384

noncomputable section

namespace Cert.Proj

open Cert.Reference2Ideal Cert.Reference2Ideal.Gen Idealize.ShloMosaic Idealize.ShloMosaic.TcCoe Idealize.SL.Sem Idealize.ShloMosaic.StableHlo

/-- The normed rows. -/
def rNorm (x : FVec Ideal S32768x2048 .f32) (g : FVec Ideal S1x2048 .f32) : FVec Ideal S32768x2048 .f32 :=
  mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 g)

/-- The recurrence's inputs, feature by token. -/
def rU (n : FVec Ideal S32768x2048 .f32) (w : FVec Ideal S1024x2048 .bf16) : FVec Ideal S1024x32768 .f32 :=
  transpose S1024x32768 [1, 0] (Host.dotGeneral dot_S32768x2048_S2048x1024_S32768x1024_1_0_0_1_n_n none n (transpose S2048x1024 [1, 0] (extf .f32 w bitsLt_bf16_f32) transposes_S1024x2048_S2048x1024_1_0)) transposes_S32768x1024_S1024x32768_1_0

/-- The queries, feature by token. -/
def rQ (n : FVec Ideal S32768x2048 .f32) (w : FVec Ideal S1024x2048 .bf16) : FVec Ideal S1024x32768 .bf16 :=
  truncf .bf16 (rU n w) bitsLt_bf16_f32

/-- The values, feature by token. -/
def rV (n : FVec Ideal S32768x2048 .f32) (w : FVec Ideal S256x2048 .bf16) : FVec Ideal S256x32768 .bf16 :=
  truncf .bf16 (transpose S256x32768 [1, 0] (Host.dotGeneral dot_S32768x2048_S2048x256_S32768x256_1_0_0_1_n_n none n (transpose S2048x256 [1, 0] (extf .f32 w bitsLt_bf16_f32) transposes_S256x2048_S2048x256_1_0)) transposes_S32768x256_S256x32768_1_0) bitsLt_bf16_f32

/-- The keys, token by feature. -/
def rK (n : FVec Ideal S32768x2048 .f32) (w : FVec Ideal S2048x256 .bf16) : FVec Ideal S32768x256 .bf16 :=
  truncf .bf16 (Host.dotGeneral dot_S32768x2048_S2048x256_S32768x256_1_0_0_1_n_n none n (extf .f32 w bitsLt_bf16_f32)) bitsLt_bf16_f32

theorem rNorm_at (x : FVec Ideal S32768x2048 .f32) (g : FVec Ideal S1x2048 .f32) (i : Fin 32768) (e : Fin 2048) :
    rNorm x g (ix2 i e) = norm (fun k => x (ix2 i k)) (fun k => g (ix2 0 k)) e := by
  unfold rNorm norm; pointwise

theorem rU_at (n : FVec Ideal S32768x2048 .f32) (w : FVec Ideal S1024x2048 .bf16) (f : Fin 1024) (i : Fin 32768) :
    rU n w (ix2 f i) = ∑ e : Fin 2048, n (ix2 i e) * w (ix2 f e) := by
  unfold rU; pointwise

theorem rQ_at (n : FVec Ideal S32768x2048 .f32) (w : FVec Ideal S1024x2048 .bf16) (f : Fin 1024) (i : Fin 32768) :
    rQ n w (ix2 f i) = ∑ e : Fin 2048, n (ix2 i e) * w (ix2 f e) := by
  rw [← rU_at]; unfold rQ; pointwise

theorem rV_at (n : FVec Ideal S32768x2048 .f32) (w : FVec Ideal S256x2048 .bf16) (f : Fin 256) (i : Fin 32768) :
    rV n w (ix2 f i) = ∑ e : Fin 2048, n (ix2 i e) * w (ix2 f e) := by
  unfold rV; pointwise

theorem rK_at (n : FVec Ideal S32768x2048 .f32) (w : FVec Ideal S2048x256 .bf16) (i : Fin 32768) (f : Fin 256) :
    rK n w (ix2 i f) = ∑ e : Fin 2048, n (ix2 i e) * w (ix2 e f) := by
  unfold rK; pointwise

end Cert.Proj

end
-- ==== Proof.Proj.Array.lean ====
/- The input projections: the kernel's arrays hold the reference's values. -/
module

public import proofs.«01_k».proof.Proof.Gen.Kernel2Ideal.Value
public import proofs.«01_k».proof.Proof.Proj.Ref
public import Idealize.ShloMosaic.Lib.WholeRead
public import Idealize.ShloMosaic.Lib.Pipeline.ValueKit

@[expose] public section

set_option maxRecDepth 16384

noncomputable section

namespace Cert.Proj

open Cert.Kernel2Ideal Cert.Kernel2Ideal.Gen Idealize.ShloMosaic Idealize.ShloMosaic.TcCoe Idealize.SL.Sem

theorem pay1_at (x : Vec Ideal S512x2048 .f32) (g : Vec Ideal S1x2048 .f32) (i : Fin 512) (e : Fin 2048) :
    k0_pay1 x g (ix2 i e) = norm (fun k => x (ix2 i k)) (fun k => g (ix2 0 k)) e := by
  unfold k0_pay1 norm; pointwise

theorem pay2_at (x : Vec Ideal S512x2048 .f32) (g : Vec Ideal S1x2048 .f32) (w : Vec Ideal S1024x2048 .bf16) (f : Fin 1024) (i : Fin 512) :
    k0_pay2 x g w (ix2 f i) = ∑ e : Fin 2048, w (ix2 f e) * k0_pay1 x g (ix2 i e) := by
  unfold k0_pay2; generalize k0_pay1 x g = n; pointwise

theorem pay3_at (x : Vec Ideal S512x2048 .f32) (g : Vec Ideal S1x2048 .f32) (w : Vec Ideal S1024x2048 .bf16) (f : Fin 1024) (i : Fin 512) :
    k0_pay3 x g w (ix2 f i) = ∑ e : Fin 2048, w (ix2 f e) * k0_pay1 x g (ix2 i e) := by
  unfold k0_pay3; generalize k0_pay1 x g = n; pointwise

theorem pay4_at (x : Vec Ideal S512x2048 .f32) (g : Vec Ideal S1x2048 .f32) (w : Vec Ideal S256x2048 .bf16) (f : Fin 256) (i : Fin 512) :
    k0_pay4 x g w (ix2 f i) = ∑ e : Fin 2048, w (ix2 f e) * k0_pay1 x g (ix2 i e) := by
  unfold k0_pay4; generalize k0_pay1 x g = n; pointwise

theorem pay5_at (x : Vec Ideal S512x2048 .f32) (g : Vec Ideal S1x2048 .f32) (w : Vec Ideal S2048x256 .bf16) (i : Fin 512) (f : Fin 256) :
    k0_pay5 x g w (ix2 i f) = ∑ e : Fin 2048, k0_pay1 x g (ix2 i e) * w (ix2 e f) := by
  unfold k0_pay5; generalize k0_pay1 x g = n; pointwise

/-- The blocks that each window holds at a grid point. -/
theorem idx : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![0, t.val] ∧ win0_7.index t = ![0, t.val] ∧ win0_8.index t = ![0, t.val] ∧ win0_9.index t = ![t.val, 0] :=
  (by decide +kernel : ∀ t : Fin grid0.N, win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![0, t.val] ∧ win0_7.index t = ![0, t.val] ∧ win0_8.index t = ![0, t.val] ∧ win0_9.index t = ![t.val, 0])

/-- The token of row `i` of a grid point's block. -/
def tok (t : Fin cfg0.N) (i : Fin 512) : Fin 32768 := ⟨t.val * 512 + i.val, by have : t.val < 64 := t.isLt; omega⟩

section
variable (m : (ℓ : Loc nD τ sig) → Buf (Elt Ideal) ℓ) (c : Dev nD) (t : Fin cfg0.N)

theorem blk0 (i : Fin 512) (e : Fin 2048) : iblk m c 0 t (ix2 i e) = m ((c.tc : Thread nD τ).loc main_arg0) (ix2 (tok t i) e) := by
  unfold tok; blk_point [iblk, V, idx t]

theorem blk1 (e : Fin 2048) : iblk m c 1 t (ix2 (0 : Fin 1) e) = m ((c.tc : Thread nD τ).loc main_arg1) (ix2 (0 : Fin 1) e) := by
  blk_point [iblk, V, idx t]

theorem blk2 (f : Fin 1024) (e : Fin 2048) : iblk m c 2 t (ix2 f e) = m ((c.tc : Thread nD τ).loc main_arg2) (ix2 f e) := by
  blk_point [iblk, V, idx t]

theorem blk3 (f : Fin 1024) (e : Fin 2048) : iblk m c 3 t (ix2 f e) = m ((c.tc : Thread nD τ).loc main_arg3) (ix2 f e) := by
  blk_point [iblk, V, idx t]

theorem blk4 (f : Fin 256) (e : Fin 2048) : iblk m c 4 t (ix2 f e) = m ((c.tc : Thread nD τ).loc main_arg4) (ix2 f e) := by
  blk_point [iblk, V, idx t]

theorem blk5 (e : Fin 2048) (f : Fin 256) : iblk m c 5 t (ix2 e f) = m ((c.tc : Thread nD τ).loc main_arg5) (ix2 e f) := by
  blk_point [iblk, V, idx t]

/-- The normed rows of a grid point are the reference's. -/
theorem norm_eq (i : Fin 512) (e : Fin 2048) : k0_pay1 (iblk m c 0 t) (iblk m c 1 t) (ix2 i e)
    = rNorm (m ((c.tc : Thread nD τ).loc main_arg0)) (m ((c.tc : Thread nD τ).loc main_arg1)) (ix2 (tok t i) e) := by
  refine (pay1_at _ _ i e).trans (Eq.trans ?_ (rNorm_at _ _ (tok t i) e).symm)
  exact congrArg₂ (fun a b => norm a b e) (funext fun k => blk0 m c t i k) (funext fun k => blk1 m c t k)

theorem array6 : (dats m 0 c).arrAt 6 cfg0.N = rU (rNorm (m ((c.tc : Thread nD τ).loc main_arg0)) (m ((c.tc : Thread nD τ).loc main_arg1)))
    (m ((c.tc : Thread nD τ).loc main_arg2)) := by
  refine (dats m 0 c).arrAt_eq_of_covers 6 _ (by decide +kernel) fun t _ y => ?_
  blk_simp
  rw [after0_6]
  frame_out
  obtain ⟨f, i, rfl⟩ : ∃ (f : Fin 1024) (i : Fin 512), y = ix2 f i := ⟨y 0, y 1, funext fun a => by fin_cases a <;> rfl⟩
  have ey : (win0_6.blk t).view.emb (ix2 f i) = ix2 f (tok t i) := by unfold tok; blk_ext [idx t]
  refine Eq.trans ?_ (congrArg _ ey).symm
  refine (pay2_at _ _ _ f i).trans (Eq.trans ?_ (rU_at _ _ f (tok t i)).symm)
  refine Finset.sum_congr rfl fun e _ => ?_
  rw [norm_eq, blk2]
  exact mul_comm _ _

theorem array7 : (dats m 0 c).arrAt 7 cfg0.N = rQ (rNorm (m ((c.tc : Thread nD τ).loc main_arg0)) (m ((c.tc : Thread nD τ).loc main_arg1)))
    (m ((c.tc : Thread nD τ).loc main_arg3)) := by
  refine (dats m 0 c).arrAt_eq_of_covers 7 _ (by decide +kernel) fun t _ y => ?_
  blk_simp
  rw [after0_7]
  frame_out
  obtain ⟨f, i, rfl⟩ : ∃ (f : Fin 1024) (i : Fin 512), y = ix2 f i := ⟨y 0, y 1, funext fun a => by fin_cases a <;> rfl⟩
  have ey : (win0_7.blk t).view.emb (ix2 f i) = ix2 f (tok t i) := by unfold tok; blk_ext [idx t]
  refine Eq.trans ?_ (congrArg _ ey).symm
  refine (pay3_at _ _ _ f i).trans (Eq.trans ?_ (rQ_at _ _ f (tok t i)).symm)
  refine Finset.sum_congr rfl fun e _ => ?_
  rw [norm_eq, blk3]
  exact mul_comm _ _

theorem array8 : (dats m 0 c).arrAt 8 cfg0.N = rV (rNorm (m ((c.tc : Thread nD τ).loc main_arg0)) (m ((c.tc : Thread nD τ).loc main_arg1)))
    (m ((c.tc : Thread nD τ).loc main_arg4)) := by
  refine (dats m 0 c).arrAt_eq_of_covers 8 _ (by decide +kernel) fun t _ y => ?_
  blk_simp
  rw [after0_8]
  frame_out
  obtain ⟨f, i, rfl⟩ : ∃ (f : Fin 256) (i : Fin 512), y = ix2 f i := ⟨y 0, y 1, funext fun a => by fin_cases a <;> rfl⟩
  have ey : (win0_8.blk t).view.emb (ix2 f i) = ix2 f (tok t i) := by unfold tok; blk_ext [idx t]
  refine Eq.trans ?_ (congrArg _ ey).symm
  refine (pay4_at _ _ _ f i).trans (Eq.trans ?_ (rV_at _ _ f (tok t i)).symm)
  refine Finset.sum_congr rfl fun e _ => ?_
  rw [norm_eq, blk4]
  exact mul_comm _ _

theorem array9 : (dats m 0 c).arrAt 9 cfg0.N = rK (rNorm (m ((c.tc : Thread nD τ).loc main_arg0)) (m ((c.tc : Thread nD τ).loc main_arg1)))
    (m ((c.tc : Thread nD τ).loc main_arg5)) := by
  refine (dats m 0 c).arrAt_eq_of_covers 9 _ (by decide +kernel) fun t _ y => ?_
  blk_simp
  rw [after0_9]
  frame_out
  obtain ⟨i, f, rfl⟩ : ∃ (i : Fin 512) (f : Fin 256), y = ix2 i f := ⟨y 0, y 1, funext fun a => by fin_cases a <;> rfl⟩
  have ey : (win0_9.blk t).view.emb (ix2 i f) = ix2 (tok t i) f := by unfold tok; blk_ext [idx t]
  refine Eq.trans ?_ (congrArg _ ey).symm
  refine (pay5_at _ _ _ i f).trans (Eq.trans ?_ (rK_at _ _ (tok t i) f).symm)
  refine Finset.sum_congr rfl fun e _ => ?_
  rw [norm_eq, blk5]

end

end Cert.Proj

end
-- ==== Proof.Proj.Claims.lean ====
/- The input projections' claims: their frames and their equation with the reference. -/
module

public import proofs.«01_k».proof.Defs
public import proofs.«01_k».proof.Proof.Gen.Kernel2.Frame
public import proofs.«01_k».proof.Proof.Proj.Array
public import Idealize.ShloMosaic.Lib.Quiescent
public import Idealize.ShloMosaic.Adequacy
public import Idealize.ShloMosaic.Init

@[expose] public section

set_option maxRecDepth 16384

noncomputable section

namespace Cert.Proj

open Idealize.ShloMosaic Idealize.SL.Sem Idealize.ShloMosaic.TcCoe

/-- The kernel and its ideal program run and leave their arguments and the counters. -/
theorem frame_k : Cert.quiescent_Kernel2 := fun m ρ _ => Cert.Kernel2.Gen.frame m ρ
theorem frame_ki : Cert.quiescent_Kernel2Ideal := fun m ρ _ => Cert.Kernel2Ideal.Gen.frame m ρ

/-- The reference runs and leaves its arguments and the counters. -/
theorem frame_ri : Cert.quiescent_Reference2Ideal := fun m ρ _ =>
  (θ_run Cert.Reference2Ideal.defs _ _).mono (fun r h => ⟨fun c => (h c).2.2.2.2,
      Idealize.ShloMosaic.sem_eq_zero_of_no_sems (by decide) r.2⟩)
    (Cert.Reference2Ideal.Value.run (F := Ideal) m ρ)

/-- Kernel and reference compute the same four arrays. -/
theorem algebraic : Cert.algebraic_Kernel2Ideal_Reference2Ideal := by
  intro m ρ m' ρ' hpre hagree
  refine ⟨_, _, _, _, Cert.Kernel2Ideal.Value.run_blocks (F := Ideal) m ρ, ?_⟩
  refine (θ_run Cert.Reference2Ideal.defs _ _).mono (fun _ h c =>
      ⟨(h c).1.trans ?_, (h c).2.1.trans ?_, (h c).2.2.1.trans ?_, (h c).2.2.2.1.trans ?_, (h c).2.2.2.2⟩)
    (Cert.Reference2Ideal.Value.run (F := Ideal) m' ρ')
  all_goals obtain ⟨e0, e1, e2, e3, e4, e5⟩ := hagree c
  · rw [e0, e1, e2]; exact (array6 m c).symm
  · rw [e0, e1, e3]; exact (array7 m c).symm
  · rw [e0, e1, e4]; exact (array8 m c).symm
  · rw [e0, e1, e5]; exact (array9 m c).symm

end Cert.Proj

end
-- ==== Proof.MemKv.Ref.lean ====
/- The reference of the memory's keys and values: its results by name, and read at an index. -/
module

public import proofs.«01_k».proof.Proof.Gen.Reference3Ideal.Run
public import proofs.«01_k».proof.Proof.Proj.Norm
public import Idealize.ShloMosaic.Lib.Pointwise
public import Idealize.ShloMosaic.Lib.Claim

@[expose] public section

set_option maxRecDepth 16384

noncomputable section

namespace Cert.MemKv

open Cert.Reference3Ideal Cert.Reference3Ideal.Gen Idealize.ShloMosaic Idealize.ShloMosaic.TcCoe Idealize.SL.Sem Idealize.ShloMosaic.StableHlo

/-- The normed memory rows. -/
def rNorm (x : FVec Ideal S8x256x2048 .f32) (g : FVec Ideal S1x2048 .f32) : FVec Ideal S8x256x2048 .f32 :=
  mulf (mulf x (broadcastInDim S8x256x2048 ![0, 1, 2] bcast_S8x256x1_S8x256x2048_0_1_2 (Host.rsqrt (addf (Host.divf (broadcastInDim S8x256x1 ![0, 1] bcast_S8x256_S8x256x1_0_1 (Host.reduceAdd (mulf x x) (constant S_ .f32 0x00000000#32) reducesTo_S8x256x2048_S8x256_d2 h_S_)) (broadcastInDim S8x256x1 ![] bcast_S_S8x256x1 (constant S_ .f32 0x45000000#32))) (broadcastInDim S8x256x1 ![] bcast_S_S8x256x1 (constant S_ .f32 0x358637BD#32)))))) (broadcastInDim S8x256x2048 ![0, 1, 2] bcast_S1x1x2048_S8x256x2048_0_1_2 (broadcastInDim S1x1x2048 ![1, 2] bcast_S1x2048_S1x1x2048_1_2 g))

/-- Keys and values together, as two halves. -/
def rKv (n : FVec Ideal S8x256x2048 .f32) (w : FVec Ideal S2048x1024 .bf16) : FVec Ideal S8x256x2x512 .f32 :=
  shapeCast _ (Host.dotGeneral dot_S8x256x2048_S2048x1024_S8x256x1024_2_0_01_1_n_n none n (extf .f32 w bitsLt_bf16_f32)) shapeCasts_S8x256x1024_S8x256x2x512

/-- The keys. -/
def rK (n : FVec Ideal S8x256x2048 .f32) (w : FVec Ideal S2048x1024 .bf16) : FVec Ideal S8x256x512 .bf16 :=
  truncf .bf16 (shapeCast _ (extractStridedSlice S8x256x1x512 ![0, 0, 0, 0] (rKv n w) slices_S8x256x2x512_S8x256x1x512_0_0_0_0) shapeCasts_S8x256x1x512_S8x256x512) bitsLt_bf16_f32

/-- The values. -/
def rV (n : FVec Ideal S8x256x2048 .f32) (w : FVec Ideal S2048x1024 .bf16) : FVec Ideal S8x256x512 .bf16 :=
  truncf .bf16 (shapeCast _ (extractStridedSlice S8x256x1x512 ![0, 0, 1, 0] (rKv n w) slices_S8x256x2x512_S8x256x1x512_0_0_1_0) shapeCasts_S8x256x1x512_S8x256x512) bitsLt_bf16_f32

theorem rNorm_at (x : FVec Ideal S8x256x2048 .f32) (g : FVec Ideal S1x2048 .f32) (b : Fin 8) (i : Fin 256) (e : Fin 2048) :
    rNorm x g (ix3 b i e) = Proj.norm (fun k => x (ix3 b i k)) (fun k => g (ix2 0 k)) e := by
  unfold rNorm Proj.norm; pointwise

theorem rK_at (n : FVec Ideal S8x256x2048 .f32) (w : FVec Ideal S2048x1024 .bf16) (b : Fin 8) (i : Fin 256) (f : Fin 512) :
    rK n w (ix3 b i f) = ∑ e : Fin 2048, n (ix3 b i e) * w (ix2 e ⟨f.val, by omega⟩) := by
  unfold rK rKv; pointwise

theorem rV_at (n : FVec Ideal S8x256x2048 .f32) (w : FVec Ideal S2048x1024 .bf16) (b : Fin 8) (i : Fin 256) (f : Fin 512) :
    rV n w (ix3 b i f) = ∑ e : Fin 2048, n (ix3 b i e) * w (ix2 e ⟨512 + f.val, by omega⟩) := by
  unfold rV rKv; pointwise

end Cert.MemKv

end
-- ==== Proof.MemKv.Array.lean ====
/- The memory's keys and values: the kernel's arrays hold the reference's values. -/
module

public import proofs.«01_k».proof.Proof.Gen.Kernel3Ideal.Value
public import proofs.«01_k».proof.Proof.MemKv.Ref
public import Idealize.ShloMosaic.Lib.WholeRead
public import Idealize.ShloMosaic.Lib.Pipeline.ValueKit

@[expose] public section

set_option maxRecDepth 16384

noncomputable section

namespace Cert.MemKv

open Cert.Kernel3Ideal Cert.Kernel3Ideal.Gen Idealize.ShloMosaic Idealize.ShloMosaic.TcCoe Idealize.SL.Sem

theorem pay1_at (x : Vec Ideal S1x256x2048 .f32) (g : Vec Ideal S1x2048 .f32) (w : Vec Ideal S2048x1024 .bf16) (i : Fin 256) (f : Fin 1024) :
    k0_pay1 x g w (ix2 i f) = ∑ e : Fin 2048, Proj.norm (fun k => x (ix3 0 i k)) (fun k => g (ix2 0 k)) e * w (ix2 e f) := by
  unfold k0_pay1 Proj.norm; pointwise

theorem pay2_at (x : Vec Ideal S1x256x2048 .f32) (g : Vec Ideal S1x2048 .f32) (w : Vec Ideal S2048x1024 .bf16) (i : Fin 256) (f : Fin 512) :
    k0_pay2 x g w (ix3 0 i f) = k0_pay1 x g w (ix2 i ⟨f.val, by omega⟩) := by
  unfold k0_pay2; generalize k0_pay1 x g w = n; pointwise

theorem pay3_at (x : Vec Ideal S1x256x2048 .f32) (g : Vec Ideal S1x2048 .f32) (w : Vec Ideal S2048x1024 .bf16) (i : Fin 256) (f : Fin 512) :
    k0_pay3 x g w (ix3 0 i f) = k0_pay1 x g w (ix2 i ⟨512 + f.val, by omega⟩) := by
  unfold k0_pay3; generalize k0_pay1 x g w = n; pointwise

/-- The blocks that each window holds at a grid point. -/
theorem idx : ∀ t : Fin cfg0.N, win0_0.index t = ![t.val, 0, 0] ∧ win0_1.index t = ![0, 0]
    ∧ win0_2.index t = ![0, 0] ∧ win0_3.index t = ![t.val, 0, 0] ∧ win0_4.index t = ![t.val, 0, 0] :=
  (by decide +kernel : ∀ t : Fin grid0.N, win0_0.index t = ![t.val, 0, 0] ∧ win0_1.index t = ![0, 0]
    ∧ win0_2.index t = ![0, 0] ∧ win0_3.index t = ![t.val, 0, 0] ∧ win0_4.index t = ![t.val, 0, 0])

/-- The batch row of a grid point. -/
def bat (t : Fin cfg0.N) : Fin 8 := ⟨t.val, t.isLt⟩

section
variable (m : (ℓ : Loc nD τ sig) → Buf (Elt Ideal) ℓ) (c : Dev nD) (t : Fin cfg0.N)

theorem blk0 (i : Fin 256) (e : Fin 2048) : iblk m c 0 t (ix3 (0 : Fin 1) i e) = m ((c.tc : Thread nD τ).loc main_arg0) (ix3 (bat t) i e) := by
  unfold bat; blk_point [iblk, V, idx t]

theorem blk1 (e : Fin 2048) : iblk m c 1 t (ix2 (0 : Fin 1) e) = m ((c.tc : Thread nD τ).loc main_arg1) (ix2 (0 : Fin 1) e) := by
  blk_point [iblk, V, idx t]

theorem blk2 (e : Fin 2048) (f : Fin 1024) : iblk m c 2 t (ix2 e f) = m ((c.tc : Thread nD τ).loc main_arg2) (ix2 e f) := by
  blk_point [iblk, V, idx t]

/-- The normed rows of a grid point are the reference's. -/
theorem norm_eq (i : Fin 256) (e : Fin 2048) :
    Proj.norm (fun k => iblk m c 0 t (ix3 (0 : Fin 1) i k)) (fun k => iblk m c 1 t (ix2 (0 : Fin 1) k)) e
    = rNorm (m ((c.tc : Thread nD τ).loc main_arg0)) (m ((c.tc : Thread nD τ).loc main_arg1)) (ix3 (bat t) i e) := by
  refine Eq.trans ?_ (rNorm_at _ _ (bat t) i e).symm
  exact congrArg₂ (fun a b => Proj.norm a b e) (funext fun k => blk0 m c t i k) (funext fun k => blk1 m c t k)

theorem array3 : (dats m 0 c).arrAt 3 cfg0.N = rK (rNorm (m ((c.tc : Thread nD τ).loc main_arg0)) (m ((c.tc : Thread nD τ).loc main_arg1)))
    (m ((c.tc : Thread nD τ).loc main_arg2)) := by
  refine (dats m 0 c).arrAt_eq_of_covers 3 _ (by decide +kernel) fun t _ y => ?_
  blk_simp
  rw [after0_3]
  frame_out
  obtain ⟨z, i, f, rfl⟩ : ∃ (z : Fin 1) (i : Fin 256) (f : Fin 512), y = ix3 z i f := ⟨y 0, y 1, y 2, funext fun a => by fin_cases a <;> rfl⟩
  obtain rfl : z = 0 := Subsingleton.elim _ _
  have ey : (win0_3.blk t).view.emb (ix3 (0 : Fin 1) i f) = ix3 (bat t) i f := by unfold bat; blk_ext [idx t]
  refine Eq.trans ?_ (congrArg _ ey).symm
  refine (pay2_at _ _ _ i f).trans ((pay1_at _ _ _ _ _).trans (Eq.trans ?_ (rK_at _ _ (bat t) i f).symm))
  refine Finset.sum_congr rfl fun e _ => ?_
  rw [norm_eq, blk2]

theorem array4 : (dats m 0 c).arrAt 4 cfg0.N = rV (rNorm (m ((c.tc : Thread nD τ).loc main_arg0)) (m ((c.tc : Thread nD τ).loc main_arg1)))
    (m ((c.tc : Thread nD τ).loc main_arg2)) := by
  refine (dats m 0 c).arrAt_eq_of_covers 4 _ (by decide +kernel) fun t _ y => ?_
  blk_simp
  rw [after0_4]
  frame_out
  obtain ⟨z, i, f, rfl⟩ : ∃ (z : Fin 1) (i : Fin 256) (f : Fin 512), y = ix3 z i f := ⟨y 0, y 1, y 2, funext fun a => by fin_cases a <;> rfl⟩
  obtain rfl : z = 0 := Subsingleton.elim _ _
  have ey : (win0_4.blk t).view.emb (ix3 (0 : Fin 1) i f) = ix3 (bat t) i f := by unfold bat; blk_ext [idx t]
  refine Eq.trans ?_ (congrArg _ ey).symm
  refine (pay3_at _ _ _ i f).trans ((pay1_at _ _ _ _ _).trans (Eq.trans ?_ (rV_at _ _ (bat t) i f).symm))
  refine Finset.sum_congr rfl fun e _ => ?_
  rw [norm_eq, blk2]

end

end Cert.MemKv

end
-- ==== Proof.MemKv.Claims.lean ====
/- The claims of the memory's keys and values: their frames and their equation with the reference. -/
module

public import proofs.«01_k».proof.Defs
public import proofs.«01_k».proof.Proof.Gen.Kernel3.Frame
public import proofs.«01_k».proof.Proof.MemKv.Array
public import Idealize.ShloMosaic.Lib.Quiescent
public import Idealize.ShloMosaic.Adequacy
public import Idealize.ShloMosaic.Init

@[expose] public section

set_option maxRecDepth 16384

noncomputable section

namespace Cert.MemKv

open Idealize.ShloMosaic Idealize.SL.Sem Idealize.ShloMosaic.TcCoe

/-- The kernel and its ideal program run and leave their arguments and the counters. -/
theorem frame_k : Cert.quiescent_Kernel3 := fun m ρ _ => Cert.Kernel3.Gen.frame m ρ
theorem frame_ki : Cert.quiescent_Kernel3Ideal := fun m ρ _ => Cert.Kernel3Ideal.Gen.frame m ρ

/-- The reference runs and leaves its arguments and the counters. -/
theorem frame_ri : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- Kernel and reference compute the same two arrays. -/
theorem algebraic : Cert.algebraic_Kernel3Ideal_Reference3Ideal := by
  intro m ρ m' ρ' hpre hagree
  refine ⟨_, _, Cert.Kernel3Ideal.Value.run_blocks (F := Ideal) m ρ, ?_⟩
  refine (θ_run Cert.Reference3Ideal.defs _ _).mono (fun _ h c =>
      ⟨(h c).1.trans ?_, (h c).2.1.trans ?_, (h c).2.2⟩)
    (Cert.Reference3Ideal.Value.run (F := Ideal) m' ρ')
  all_goals obtain ⟨e0, e1, e2⟩ := hagree c
  · rw [e0, e1, e2]; exact (array3 m c).symm
  · rw [e0, e1, e2]; exact (array4 m c).symm

end Cert.MemKv

end
-- ==== Proof.Mix.Norm.lean ====
/- With real gains the root-mean-square norm of any row is real. -/
module

public import proofs.«01_k».proof.Proof.Proj.Norm
public import proofs.«01_k».proof.Proof.Swa.Cell

@[expose] public section

noncomputable section

namespace Cert.Mix

open Idealize.ShloMosaic Cert.Swa

/-- The pattern of 2048. -/
theorem bits_dim : Ideal.ofBits .f32 0x45000000#32 = ((2048 : ℝ) : EReal) := by
  simp only [Ideal.ofBits, Ideal.ieee]
  rw [if_neg (by decide), if_neg (by decide)]
  exact congrArg _ (by simp; norm_num)

/-- The pattern of the norm's small constant is a positive real. -/
theorem bits_eps : ∃ r : ℝ, 0 < r ∧ Ideal.ofBits .f32 0x358637BD#32 = (r : EReal) := by
  refine ⟨8796093 / 8796093022208, by norm_num, ?_⟩
  simp only [Ideal.ofBits, Ideal.ieee]
  rw [if_neg (by decide), if_neg (by decide)]
  exact congrArg _ (by simp; norm_num)

/-- A square isn't negative. -/
theorem sq_nonneg' (x : EReal) : 0 ≤ x * x := by
  induction x with
  | bot => rw [EReal.bot_mul_bot]; exact le_top
  | top => rw [EReal.top_mul_top]; exact le_top
  | coe r => rw [← EReal.coe_mul]; exact_mod_cast mul_self_nonneg r

/-- The norm of a row that has an infinite entry is zero everywhere. -/
theorem norm_inf (x g : Fin 2048 → EReal) (k : Fin 2048) (hk : x k * x k = ⊤) (e : Fin 2048) : Cert.Proj.norm x g e = 0 := by
  obtain ⟨r, hr, he⟩ := bits_eps
  have hs : ∑ j, x j * x j = ⊤ := top_le_iff.mp (hk ▸ Finset.single_le_sum (f := fun j => x j * x j) (fun j _ => sq_nonneg' (x j)) (Finset.mem_univ k))
  unfold Cert.Proj.norm
  rw [hs, bits_dim, Ideal.div_coe (by norm_num), EReal.top_mul_coe_of_pos (by norm_num), he, EReal.top_add_coe]
  simp

/-- The norm of a row is real whenever the gains are. -/
theorem norm_bounded (x g : Fin 2048 → EReal) (hg : ∀ e, Bounded (g e)) (e : Fin 2048) : Bounded (Cert.Proj.norm x g e) := by
  by_cases hx : ∀ k, Bounded (x k)
  · choose y hy using fun k => (⟨(x k).toReal, EReal.coe_toReal (hx k).1 (hx k).2⟩ : ∃ r : ℝ, (r : EReal) = x k)
    choose z hz using fun k => (⟨(g k).toReal, EReal.coe_toReal (hg k).1 (hg k).2⟩ : ∃ r : ℝ, (r : EReal) = g k)
    obtain ⟨r, hr, he⟩ := bits_eps
    have hs : 0 ≤ ∑ k, y k * y k := Finset.sum_nonneg fun k _ => mul_self_nonneg _
    have hp : 0 < (∑ k, y k * y k) * (1 / 2048) + r := add_pos_of_nonneg_of_pos (by positivity) hr
    unfold Cert.Proj.norm
    simp only [← hy, ← hz, ← EReal.coe_mul]
    rw [← coe_sum, bits_dim, Ideal.div_coe (by norm_num), he, ← EReal.coe_mul, ← EReal.coe_add, Ideal.rsqrt_coe, if_neg hp.not_gt, if_neg hp.ne', ← EReal.coe_mul, ← EReal.coe_mul]
    exact ⟨EReal.coe_ne_top _, EReal.coe_ne_bot _⟩
  · obtain ⟨k, hk⟩ := not_forall.mp hx
    have hk' : x k * x k = ⊤ := by
      generalize x k = a at hk
      induction a with
      | bot => exact EReal.bot_mul_bot
      | top => exact EReal.top_mul_top
      | coe r => exact absurd ⟨EReal.coe_ne_top _, EReal.coe_ne_bot _⟩ hk
    rw [norm_inf x g k hk' e]
    exact ⟨EReal.zero_ne_top, EReal.zero_ne_bot⟩

/-- A sum of products of reals is real. -/
theorem dot_bounded {n : ℕ} (f g : Fin n → EReal) (hf : ∀ e, Bounded (f e)) (hg : ∀ e, Bounded (g e)) : Bounded (∑ e, f e * g e) := by
  choose f' hf' using fun e => (⟨(f e).toReal, EReal.coe_toReal (hf e).1 (hf e).2⟩ : ∃ r : ℝ, (r : EReal) = f e)
  choose g' hg' using fun e => (⟨(g e).toReal, EReal.coe_toReal (hg e).1 (hg e).2⟩ : ∃ r : ℝ, (r : EReal) = g e)
  simp only [← hf', ← hg', ← EReal.coe_mul]
  rw [← coe_sum]
  exact ⟨EReal.coe_ne_top _, EReal.coe_ne_bot _⟩

end Cert.Mix

end
-- ==== Proof.Mix.Softmax.lean ====
/- The kernel's quotient of sums and the reference's sum of quotients, for real scores. -/
module

public import proofs.«01_k».proof.Proof.Mix.Norm

@[expose] public section

noncomputable section

namespace Cert.Mix

open Idealize.ShloMosaic Cert.Swa

/-- The weighted mean of `v` under the exponentials of the scores `s`. -/
def attn {n : ℕ} (s v : Fin n → EReal) : EReal :=
  Ideal.div (∑ k, Ideal.exp (s k - Finset.univ.fold max ⊥ s) * v k) (∑ k, Ideal.exp (s k - Finset.univ.fold max ⊥ s))

/-- The largest of real scores is real. -/
theorem max_real {n : ℕ} (s : Fin (n + 1) → EReal) (hs : ∀ k, Bounded (s k)) : Bounded (Finset.univ.fold max ⊥ s) := by
  refine ⟨ne_of_lt ?_, ne_of_gt ?_⟩
  · rw [Finset.fold_max_lt]
    exact ⟨bot_lt_top, fun k _ => lt_top_iff_ne_top.mpr (hs k).1⟩
  · rw [Finset.lt_fold_max]
    exact Or.inr ⟨0, Finset.mem_univ _, bot_lt_iff_ne_bot.mpr (hs 0).2⟩

/-- The kernel's attention of real scores is the reference's, whatever the values. -/
theorem softmax_eq {n : ℕ} (s v : Fin (n + 1) → EReal) (hs : ∀ k, Bounded (s k)) :
    attn s v = ∑ k, v k * Ideal.div (Ideal.exp (s k - max ⊥ (Finset.univ.fold max ⊥ s))) (∑ j, Ideal.exp (s j - max ⊥ (Finset.univ.fold max ⊥ s))) := by
  have hm := max_real s hs
  unfold attn
  rw [max_eq_right bot_le]
  generalize Finset.univ.fold max ⊥ s = M at hm
  lift M to ℝ using hm
  choose y hy using fun k => (⟨(s k).toReal, EReal.coe_toReal (hs k).1 (hs k).2⟩ : ∃ r : ℝ, (r : EReal) = s k)
  have he : ∀ k, Ideal.exp (s k - (M : EReal)) = ((Real.exp (y k - M) : ℝ) : EReal) := fun k => by
    rw [← hy, ← EReal.coe_sub]; rfl
  simp only [he]
  rw [← coe_sum]
  have hpos : 0 < ∑ k, Real.exp (y k - M) := Finset.sum_pos (fun k _ => Real.exp_pos _) Finset.univ_nonempty
  generalize ∑ k, Real.exp (y k - M) = D at hpos
  simp only [Ideal.div_coe hpos.ne']
  rw [sum_mul_real _ _ (by positivity)]
  refine Finset.sum_congr rfl fun k _ => ?_
  rw [mul_comm ((Real.exp _ : ℝ) : EReal) (v k), mul_assoc]

end Cert.Mix

end
-- ==== Proof.Mix.Cell.lean ====
/- One row of the mixing layer: gate, projection and attention over the memory, by entries. -/
module

public import proofs.«01_k».proof.Proof.Mix.Softmax

@[expose] public section

noncomputable section

namespace Cert.Mix

open Idealize.ShloMosaic

/-- The tanh form of gelu. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- Gelu of the recurrence's output at feature `f`, times its gate. -/
def gated (y : Fin 1024 → EReal) (w : Fin 1024 → Fin 1024 → EReal) (b : Fin 1024 → EReal) (f : Fin 1024) : EReal :=
  gelu (y f) * Ideal.logistic ((∑ e, w f e * gelu (y e)) + b f)

/-- The residual with both mixers' outputs projected. -/
def mixed (x : Fin 2048 → EReal) (y a : Fin 1024 → EReal) (w : Fin 1024 → Fin 1024 → EReal) (b : Fin 1024 → EReal)
    (wy wa : Fin 1024 → Fin 2048 → EReal) (j : Fin 2048) : EReal :=
  x j + (∑ f, gated y w b f * wy f j) + ∑ f, a f * wa f j

/-- A query of the memory. -/
def query (h g : Fin 2048 → EReal) (w : Fin 2048 → Fin 512 → EReal) (d : Fin 512) : EReal :=
  ∑ e, Cert.Proj.norm h g e * w e d

/-- Feature `d` of the head that feature `f` belongs to. -/
def feat (f : Fin 512) (d : Fin 128) : Fin 512 := ⟨f.val / 128 * 128 + d.val, by omega⟩

/-- The score of a memory row under the head of feature `f`. -/
def score (q : Fin 512 → EReal) (km : Fin 256 → Fin 512 → EReal) (f : Fin 512) (k : Fin 256) : EReal :=
  (∑ d : Fin 128, q (feat f d) * km k (feat f d)) * Ideal.ofBits .f32 0x3DB504F3#32

/-- The row with the memory's attention projected and added. -/
def out (h : Fin 2048 → EReal) (q : Fin 512 → EReal) (km vm : Fin 256 → Fin 512 → EReal) (w : Fin 512 → Fin 2048 → EReal)
    (j : Fin 2048) : EReal :=
  h j + ∑ f, attn (score q km f) (fun k => vm k f) * w f j

/-- A feature of the head at offset `o`. -/
theorem feat_of (f : Fin 512) (d : Fin 128) (o : ℕ) (ho : o = f.val / 128 * 128) (h : o + d.val < 512) : (⟨o + d.val, h⟩ : Fin 512) = feat f d :=
  Fin.ext (by show o + d.val = f.val / 128 * 128 + d.val; omega)

end Cert.Mix

end
-- ==== Proof.Mix.Kernel.lean ====
/- The mixing kernel's steps read at an index. -/
module

public import proofs.«01_k».proof.Proof.Gen.Kernel4Ideal.Value
public import proofs.«01_k».proof.Proof.Mix.Cell
public import Idealize.ShloMosaic.Lib.Pointwise

@[expose] public section

set_option maxRecDepth 16384

noncomputable section

namespace Cert.Mix

open Cert.Kernel4Ideal Cert.Kernel4Ideal.Gen Idealize.ShloMosaic Idealize.ShloMosaic.TcCoe Idealize.SL.Sem

theorem pay2_at (y : Vec Ideal S1024x512 .f32) (w : Vec Ideal S1024x1024 .bf16) (b : Vec Ideal S1024x1 .f32) (x : Vec Ideal S512x2048 .f32)
    (wy : Vec Ideal S1024x2048 .bf16) (a : Vec Ideal S1024x512 .bf16) (wa : Vec Ideal S1024x2048 .bf16) (i : Fin 512) (j : Fin 2048) :
    k0_pay2 y w b x wy a wa (ix2 i j)
      = mixed (fun j => x (ix2 i j)) (fun f => y (ix2 f i)) (fun f => a (ix2 f i)) (fun f e => w (ix2 f e)) (fun f => b (ix2 f 0))
          (fun f j => wy (ix2 f j)) (fun f j => wa (ix2 f j)) j := by
  unfold k0_pay2 mixed gated gelu; pointwise

theorem pay3_at (y : Vec Ideal S1024x512 .f32) (w : Vec Ideal S1024x1024 .bf16) (b : Vec Ideal S1024x1 .f32) (x : Vec Ideal S512x2048 .f32)
    (wy : Vec Ideal S1024x2048 .bf16) (a : Vec Ideal S1024x512 .bf16) (wa : Vec Ideal S1024x2048 .bf16) (i : Fin 512) :
    k0_pay3 y w b x wy a wa (ix2 i 0)
      = ∑ k : Fin 2048, k0_pay2 y w b x wy a wa (ix2 i k) * k0_pay2 y w b x wy a wa (ix2 i k) := by
  unfold k0_pay3; generalize k0_pay2 y w b x wy a wa = h; pointwise

theorem pay4_at (h : FVec Ideal S512x2048 .f32) (g : Vec Ideal S1x2048 .f32) (s : FVec Ideal S512x1 .f32) (w : Vec Ideal S2048x512 .bf16)
    (i : Fin 512) (d : Fin 512) (hs : s (ix2 i 0) = ∑ k : Fin 2048, h (ix2 i k) * h (ix2 i k)) :
    k0_pay4 h g s w (ix2 i d) = query (fun k => h (ix2 i k)) (fun k => g (ix2 0 k)) (fun e d => w (ix2 e d)) d := by
  unfold query Cert.Proj.norm
  rw [← hs]
  unfold k0_pay4; pointwise

/-- The output of a head from its scores. -/
theorem pay7_at (s : FVec Ideal S512x256 .f32) (v : Vec Ideal S1x256x128 .bf16) (i : Fin 512) (d : Fin 128) :
    k0_pay7 s v (ix2 i d) = attn (fun k : Fin 256 => s (ix2 i k)) (fun k : Fin 256 => v (ix3 0 k d)) := by
  unfold k0_pay7 attn; pointwise
  rw [Cert.Swa.neg_inf]

theorem pay6_at (h : FVec Ideal S512x2048 .f32) (g : Vec Ideal S1x2048 .f32) (s : FVec Ideal S512x1 .f32) (w : Vec Ideal S2048x512 .bf16)
    (k : Vec Ideal S1x256x128 .bf16) (i : Fin 512) (r : Fin 256) :
    k0_pay6 h g s w k (ix2 i r) = (∑ d : Fin 128, k0_pay4 h g s w (ix2 i ⟨128 + d.val, by omega⟩) * k (ix3 0 r d)) * Ideal.ofBits .f32 0x3DB504F3#32 := by
  unfold k0_pay6; generalize k0_pay4 h g s w = q; pointwise

theorem pay5_at (h : FVec Ideal S512x2048 .f32) (g : Vec Ideal S1x2048 .f32) (s : FVec Ideal S512x1 .f32) (w : Vec Ideal S2048x512 .bf16)
    (k v : Vec Ideal S1x256x128 .bf16) (i : Fin 512) (d : Fin 128) :
    k0_pay5 h g s w k v (ix2 i d)
      = attn (fun r : Fin 256 => (∑ e : Fin 128, k0_pay4 h g s w (ix2 i ⟨e.val, by omega⟩) * k (ix3 0 r e)) * Ideal.ofBits .f32 0x3DB504F3#32)
          (fun r : Fin 256 => v (ix3 0 r d)) := by
  unfold k0_pay5 attn; generalize k0_pay4 h g s w = q; pointwise
  rw [Cert.Swa.neg_inf]

theorem pay8_at (q : FVec Ideal S512x512 .bf16) (k v : Vec Ideal S1x256x128 .bf16) (i : Fin 512) (d : Fin 128) :
    k0_pay8 q k v (ix2 i d)
      = attn (fun r : Fin 256 => (∑ e : Fin 128, q (ix2 i ⟨256 + e.val, by omega⟩) * k (ix3 0 r e)) * Ideal.ofBits .f32 0x3DB504F3#32)
          (fun r : Fin 256 => v (ix3 0 r d)) := by
  unfold k0_pay8 attn; pointwise
  rw [Cert.Swa.neg_inf]

theorem pay9_at (q : FVec Ideal S512x512 .bf16) (k : Vec Ideal S1x256x128 .bf16) (i : Fin 512) (r : Fin 256) :
    k0_pay9 q k (ix2 i r) = ∑ e : Fin 128, q (ix2 i ⟨384 + e.val, by omega⟩) * k (ix3 0 r e) := by
  unfold k0_pay9; pointwise

/-- The four heads' outputs side by side, at a feature. -/
def heads (a b c d : Fin 128 → EReal) (f : Fin 512) : EReal :=
  if h0 : f.val < 128 then a ⟨f.val, h0⟩ else if h1 : f.val - 128 < 128 then b ⟨f.val - 128, h1⟩
  else if h2 : f.val - 128 - 128 < 128 then c ⟨f.val - 128 - 128, h2⟩ else d ⟨f.val - 128 - 128 - 128, by omega⟩

theorem pay1_at (h : FVec Ideal S512x2048 .f32) (o0 o1 o2 : FVec Ideal S512x128 .bf16) (s : FVec Ideal S512x256 .f32) (c : Ideal .f32)
    (v : Vec Ideal S1x256x128 .bf16) (w : Vec Ideal S512x2048 .bf16) (i : Fin 512) (j : Fin 2048) :
    k0_pay1 h o0 o1 o2 s c v w (ix2 i j)
      = h (ix2 i j) + ∑ f : Fin 512, heads (fun d => o0 (ix2 i d)) (fun d => o1 (ix2 i d)) (fun d => o2 (ix2 i d))
          (fun d => attn (fun r : Fin 256 => s (ix2 i r) * c) (fun r : Fin 256 => v (ix3 0 r d))) f * w (ix2 f j) := by
  unfold k0_pay1 heads attn; pointwise
  rw [Cert.Swa.neg_inf]

end Cert.Mix

end
-- ==== Proof.Mix.KernelRow.lean ====
/- A row of the mixing kernel's block, from the rows of what it loads. -/
module

public import proofs.«01_k».proof.Proof.Mix.Kernel

@[expose] public section

set_option maxRecDepth 16384

noncomputable section

namespace Cert.Mix

open Cert.Kernel4Ideal Cert.Kernel4Ideal.Gen Idealize.ShloMosaic Idealize.ShloMosaic.TcCoe Idealize.SL.Sem

/-- A head's attention, at offset `o` of the features, is the attention of each of its features. -/
theorem head_eq (q : Fin 512 → EReal) (km vm : Fin 256 → Fin 512 → EReal) (q' : Fin 128 → EReal) (k v : Fin 256 → Fin 128 → EReal)
    (f : Fin 512) (d : Fin 128) (hq : ∀ e, q' e = q (feat f e)) (hk : ∀ r e, k r e = km r (feat f e)) (hv : ∀ r, v r d = vm r f) :
    attn (fun r => (∑ e : Fin 128, q' e * k r e) * Ideal.ofBits .f32 0x3DB504F3#32) (fun r => v r d) = attn (score q km f) (fun r => vm r f) := by
  unfold score
  simp only [hq, hk, hv]

theorem row_at (h : FVec Ideal S512x2048 .f32) (g : Vec Ideal S1x2048 .f32) (s : FVec Ideal S512x1 .f32) (w : Vec Ideal S2048x512 .bf16)
    (k0 v0 k1 v1 k2 v2 k3 v3 : Vec Ideal S1x256x128 .bf16) (wo : Vec Ideal S512x2048 .bf16) (km vm : Fin 256 → Fin 512 → EReal)
    (i : Fin 512) (j : Fin 2048) (hs : s (ix2 i 0) = ∑ k : Fin 2048, h (ix2 i k) * h (ix2 i k))
    (hk0 : ∀ (r : Fin 256) (d : Fin 128), k0 (ix3 0 r d) = km r ⟨0 + d.val, by omega⟩) (hv0 : ∀ (r : Fin 256) (d : Fin 128), v0 (ix3 0 r d) = vm r ⟨0 + d.val, by omega⟩)
    (hk1 : ∀ (r : Fin 256) (d : Fin 128), k1 (ix3 0 r d) = km r ⟨128 + d.val, by omega⟩) (hv1 : ∀ (r : Fin 256) (d : Fin 128), v1 (ix3 0 r d) = vm r ⟨128 + d.val, by omega⟩)
    (hk2 : ∀ (r : Fin 256) (d : Fin 128), k2 (ix3 0 r d) = km r ⟨256 + d.val, by omega⟩) (hv2 : ∀ (r : Fin 256) (d : Fin 128), v2 (ix3 0 r d) = vm r ⟨256 + d.val, by omega⟩)
    (hk3 : ∀ (r : Fin 256) (d : Fin 128), k3 (ix3 0 r d) = km r ⟨384 + d.val, by omega⟩) (hv3 : ∀ (r : Fin 256) (d : Fin 128), v3 (ix3 0 r d) = vm r ⟨384 + d.val, by omega⟩) :
    k0_pay1 h (k0_pay5 h g s w k0 v0) (k0_pay7 (k0_pay6 h g s w k1) v1) (k0_pay8 (k0_pay4 h g s w) k2 v2) (k0_pay9 (k0_pay4 h g s w) k3)
        (Scalar.ofBits .f32 0x3DB504F3#32) v3 wo (ix2 i j)
      = out (fun k => h (ix2 i k)) (query (fun k => h (ix2 i k)) (fun k => g (ix2 0 k)) (fun e d => w (ix2 e d))) km vm (fun f j => wo (ix2 f j)) j := by
  have hq : ∀ d : Fin 512, k0_pay4 h g s w (ix2 i d) = query (fun k => h (ix2 i k)) (fun k => g (ix2 0 k)) (fun e d => w (ix2 e d)) d :=
    fun d => pay4_at h g s w i d hs
  refine (pay1_at _ _ _ _ _ _ _ _ i j).trans ?_
  unfold out
  refine congrArg (h (ix2 i j) + ·) (Finset.sum_congr rfl fun f _ => congrArg (· * wo (ix2 f j)) ?_)
  have hc : (Scalar.ofBits .f32 0x3DB504F3#32 : Ideal .f32) = Ideal.ofBits .f32 0x3DB504F3#32 := rfl
  unfold heads
  split_ifs with h0 h1 h2
  · refine (pay5_at _ _ _ _ _ _ i _).trans ?_
    refine head_eq _ km vm _ (fun r e => k0 (ix3 0 r e)) (fun r e => v0 (ix3 0 r e)) f ⟨f.val, h0⟩ (fun e => ?_) (fun r e => ?_) (fun r => ?_)
    · rw [hq]; exact congrArg _ (Fin.ext (by show e.val = f.val / 128 * 128 + e.val; omega))
    · exact (hk0 r e).trans (congrArg _ (feat_of f e 0 (by omega) _))
    · exact (hv0 r _).trans (congrArg _ (Fin.ext (by show 0 + f.val = f.val; omega)))
  · refine (pay7_at _ _ i _).trans ?_
    simp only [pay6_at]
    refine head_eq _ km vm _ (fun r e => k1 (ix3 0 r e)) (fun r e => v1 (ix3 0 r e)) f ⟨f.val - 128, h1⟩ (fun e => ?_) (fun r e => ?_) (fun r => ?_)
    · rw [hq]; exact congrArg _ (feat_of f e 128 (by omega) _)
    · exact (hk1 r e).trans (congrArg _ (feat_of f e 128 (by omega) _))
    · exact (hv1 r _).trans (congrArg _ (Fin.ext (by show 128 + (f.val - 128) = f.val; omega)))
  · refine (pay8_at _ _ _ i _).trans ?_
    refine head_eq _ km vm _ (fun r e => k2 (ix3 0 r e)) (fun r e => v2 (ix3 0 r e)) f ⟨f.val - 128 - 128, h2⟩ (fun e => ?_) (fun r e => ?_) (fun r => ?_)
    · rw [hq]; exact congrArg _ (feat_of f e 256 (by omega) _)
    · exact (hk2 r e).trans (congrArg _ (feat_of f e 256 (by omega) _))
    · exact (hv2 r _).trans (congrArg _ (Fin.ext (by show 256 + (f.val - 128 - 128) = f.val; omega)))
  · simp only [pay9_at, hc]
    refine head_eq _ km vm _ (fun r e => k3 (ix3 0 r e)) (fun r e => v3 (ix3 0 r e)) f ⟨f.val - 128 - 128 - 128, by omega⟩ (fun e => ?_) (fun r e => ?_) (fun r => ?_)
    · rw [hq]; exact congrArg _ (feat_of f e 384 (by omega) _)
    · exact (hk3 r e).trans (congrArg _ (feat_of f e 384 (by omega) _))
    · exact (hv3 r _).trans (congrArg _ (Fin.ext (by show 384 + (f.val - 128 - 128 - 128) = f.val; omega)))

end Cert.Mix

end
-- ==== Proof.Mix.Ref.lean ====
/- The mixing layer's reference in named steps. -/
module

public import proofs.«01_k».proof.Proof.Gen.Reference4Ideal.Run
public import Idealize.ShloMosaic.PureOps.Ideal
public import Idealize.ShloMosaic.Lib.Claim

@[expose] public section

set_option maxRecDepth 16384

noncomputable section

namespace Cert.Mix

open Cert.Reference4Ideal Cert.Reference4Ideal.Gen Idealize.ShloMosaic Idealize.ShloMosaic.TcCoe Idealize.SL.Sem Idealize.ShloMosaic.StableHlo

/-- The recurrence's output, token by feature. -/
def rX (y : FVec Ideal S1024x32768 .f32) : FVec Ideal S32768x1024 .f32 :=
  transpose S32768x1024 [1, 0] y transposes_S1024x32768_S32768x1024_1_0

/-- Its gelu. -/
def rGelu (x : FVec Ideal S32768x1024 .f32) : FVec Ideal S32768x1024 .f32 :=
  mulf x (mulf (broadcastInDim S32768x1024 ![] bcast_S_S32768x1024 (constant S_ .f32 0x3F000000#32)) (addf (broadcastInDim S32768x1024 ![] bcast_S_S32768x1024 (constant S_ .f32 0x3F800000#32)) (Host.tanh (mulf (broadcastInDim S32768x1024 ![] bcast_S_S32768x1024 (constant S_ .f32 0x3F4C422A#32)) (addf x (mulf (broadcastInDim S32768x1024 ![] bcast_S_S32768x1024 (constant S_ .f32 0x3D372713#32)) (mulf (mulf x x) x)))))))

/-- The gate. -/
def rGate (y : FVec Ideal S32768x1024 .f32) (w : FVec Ideal S1024x1024 .bf16) (b : FVec Ideal S1024x1 .f32) : FVec Ideal S32768x1024 .f32 :=
  Host.divf (broadcastInDim S32768x1024 ![] bcast_S_S32768x1024 (constant S_ .f32 0x3F800000#32)) (addf (broadcastInDim S32768x1024 ![] bcast_S_S32768x1024 (constant S_ .f32 0x3F800000#32)) (Host.exp (Host.negf (addf (Host.dotGeneral dot_S32768x1024_S1024x1024_S32768x1024_1_0_0_1_n_n none y (transpose S1024x1024 [1, 0] (extf .f32 w bitsLt_bf16_f32) transposes_S1024x1024_S1024x1024_1_0)) (broadcastInDim S32768x1024 ![0, 1] bcast_S1x1024_S32768x1024_0_1 (transpose S1x1024 [1, 0] b transposes_S1024x1_S1x1024_1_0))))))

/-- The residual with both mixers' outputs projected. -/
def rMixed (x : FVec Ideal S32768x2048 .f32) (y : FVec Ideal S32768x1024 .f32) (a : FVec Ideal S1024x32768 .bf16) (w : FVec Ideal S2048x2048 .bf16) : FVec Ideal S32768x2048 .f32 :=
  addf x (Host.dotGeneral dot_S32768x2048_S2048x2048_S32768x2048_1_0_0_1_n_n none (concatenate S32768x2048 1 [⟨S32768x1024, y⟩, ⟨S32768x1024, (transpose S32768x1024 [1, 0] (extf .f32 a bitsLt_bf16_f32) transposes_S1024x32768_S32768x1024_1_0)⟩] concatenates_S32768x1024_S32768x1024_S32768x2048_d1) (extf .f32 w bitsLt_bf16_f32))

/-- The normed rows. -/
def rNorm (x : FVec Ideal S32768x2048 .f32) (g : FVec Ideal S1x2048 .f32) : FVec Ideal S32768x2048 .f32 :=
  mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 g)

/-- The queries by batch, position, head and feature. -/
def rQuery (n : FVec Ideal S32768x2048 .f32) (w : FVec Ideal S2048x512 .bf16) : FVec Ideal S8x4096x4x128 .f32 :=
  shapeCast _ (Host.dotGeneral dot_S32768x2048_S2048x512_S32768x512_1_0_0_1_n_n none n (extf .f32 w bitsLt_bf16_f32)) shapeCasts_S32768x512_S8x4096x4x128

/-- The memory's keys or values by batch, row, head and feature. -/
def rMem (k : FVec Ideal S8x256x512 .bf16) : FVec Ideal S8x256x4x128 .f32 :=
  shapeCast _ (extf .f32 k bitsLt_bf16_f32) shapeCasts_S8x256x512_S8x256x4x128

/-- The scaled scores. -/
def rScore (q : FVec Ideal S8x4096x4x128 .f32) (k : FVec Ideal S8x256x4x128 .f32) : FVec Ideal S8x4x4096x256 .f32 :=
  mulf (Host.dotGeneral dot_S8x4096x4x128_S8x256x4x128_S8x4x4096x256_3_3_1_1_02_02 none q k) (broadcastInDim S8x4x4096x256 ![] bcast_S_S8x4x4096x256 (constant S_ .f32 0x3DB504F3#32))

/-- The largest score of a query. -/
def rMax (s : FVec Ideal S8x4x4096x256 .f32) : FVec Ideal S8x4x4096 .f32 :=
  maximumf (broadcastInDim S8x4x4096 ![] bcast_S_S8x4x4096 (constant S_ .f32 0xFF800000#32)) (Host.reduce FloatOps.maximumf s (constant S_ .f32 0xFF800000#32) reducesTo_S8x4x4096x256_S8x4x4096_d3 h_S_)

/-- The exponentials of the scores less the largest. -/
def rExp (s : FVec Ideal S8x4x4096x256 .f32) (mx : FVec Ideal S8x4x4096 .f32) : FVec Ideal S8x4x4096x256 .f32 :=
  Host.exp (subf s (broadcastInDim S8x4x4096x256 ![0, 1, 2, 3] bcast_S8x4x4096x1_S8x4x4096x256_0_1_2_3 (broadcastInDim S8x4x4096x1 ![0, 1, 2] bcast_S8x4x4096_S8x4x4096x1_0_1_2 mx)))

/-- The weights of the memory's rows. -/
def rProb (e : FVec Ideal S8x4x4096x256 .f32) : FVec Ideal S8x4x4096x256 .f32 :=
  Host.divf e (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd e (constant S_ .f32 0x00000000#32) reducesTo_S8x4x4096x256_S8x4x4096_d3 h_S_)))

/-- The weighted sums of the values, token by feature. -/
def rAttn (v : FVec Ideal S8x256x4x128 .f32) (p : FVec Ideal S8x4x4096x256 .f32) : FVec Ideal S32768x512 .f32 :=
  shapeCast _ (transpose S8x4096x4x128 [0, 3, 1, 2] (Host.dotGeneral dot_S8x256x4x128_S8x4x4096x256_S8x4x128x4096_1_3_3_2_02_01 none v p) transposes_S8x4x128x4096_S8x4096x4x128_0_3_1_2) shapeCasts_S8x4096x4x128_S32768x512

/-- The result: the memory's attention projected and added. -/
def rOut (h : FVec Ideal S32768x2048 .f32) (o : FVec Ideal S32768x512 .f32) (w : FVec Ideal S512x2048 .bf16) : FVec Ideal S32768x2048 .f32 :=
  addf h (Host.dotGeneral dot_S32768x512_S512x2048_S32768x2048_1_0_0_1_n_n none o (extf .f32 w bitsLt_bf16_f32))

/-- The rows before the memory's attention. -/
def rRow (x : FVec Ideal S32768x2048 .f32) (y : FVec Ideal S1024x32768 .f32) (a : FVec Ideal S1024x32768 .bf16) (w : FVec Ideal S1024x1024 .bf16)
    (b : FVec Ideal S1024x1 .f32) (wo : FVec Ideal S2048x2048 .bf16) : FVec Ideal S32768x2048 .f32 :=
  rMixed x (mulf (rGelu (rX y)) (rGate (rGelu (rX y)) w b)) a wo

/-- The scores of a normed row. -/
def rScores (h : FVec Ideal S32768x2048 .f32) (g : FVec Ideal S1x2048 .f32) (wq : FVec Ideal S2048x512 .bf16) (km : FVec Ideal S8x256x512 .bf16) :
    FVec Ideal S8x4x4096x256 .f32 :=
  rScore (rQuery (rNorm h g) wq) (rMem km)

/-- The reference from the rows before the memory's attention. -/
def rTail (h : FVec Ideal S32768x2048 .f32) (g : FVec Ideal S1x2048 .f32) (wq : FVec Ideal S2048x512 .bf16) (km vm : FVec Ideal S8x256x512 .bf16)
    (w : FVec Ideal S512x2048 .bf16) : FVec Ideal S32768x2048 .f32 :=
  rOut h (rAttn (rMem vm) (rProb (rExp (rScores h g wq km) (rMax (rScores h g wq km))))) w

set_option maxHeartbeats 400000 in
/-- The reference's composed term in these steps. -/
theorem res_eq (m : (ℓ : Loc nD τ sig) → Buf (Elt Ideal) ℓ) (c : Dev nD) :
    Value.res_out0 m c = rTail (rRow (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))) (m ((c.tc : Thread nD τ).loc main_arg6))
      (m ((c.tc : Thread nD τ).loc main_arg7)) (m ((c.tc : Thread nD τ).loc main_arg8)) (m ((c.tc : Thread nD τ).loc main_arg9))
      (m ((c.tc : Thread nD τ).loc main_arg10)) := by
  delta Value.res_out0 Value.res_main_v71 rTail rScores rRow rOut rAttn rProb rExp rMax rScore rMem rQuery rNorm rMixed rGate rGelu rX
  rfl

end Cert.Mix

end
-- ==== Proof.Mix.RefRead.lean ====
/- The steps of the mixing layer's reference read at an index. -/
module

public import proofs.«01_k».proof.Proof.Mix.Ref
public import proofs.«01_k».proof.Proof.Mix.Cell
public import Idealize.ShloMosaic.Lib.Pointwise
public import Idealize.ShloMosaic.Lib.Claim

@[expose] public section

set_option maxRecDepth 16384

noncomputable section

namespace Cert.Mix

open Cert.Reference4Ideal Cert.Reference4Ideal.Gen Idealize.ShloMosaic Idealize.ShloMosaic.TcCoe Idealize.SL.Sem Idealize.ShloMosaic.StableHlo

theorem rGelu_at (y : FVec Ideal S1024x32768 .f32) (i : Fin 32768) (f : Fin 1024) :
    rGelu (rX y) (ix2 i f) = gelu (y (ix2 f i)) := by
  have h : rX y (ix2 i f) = y (ix2 f i) := by unfold rX; pointwise
  unfold gelu
  rw [← h, mul_comm (rX y (ix2 i f)) (rX y (ix2 i f) * rX y (ix2 i f))]
  unfold rGelu; generalize rX y = x; pointwise

theorem rGate_at (y : FVec Ideal S32768x1024 .f32) (w : FVec Ideal S1024x1024 .bf16) (b : FVec Ideal S1024x1 .f32) (i : Fin 32768) (f : Fin 1024) :
    rGate y w b (ix2 i f) = Ideal.logistic ((∑ e : Fin 1024, y (ix2 i e) * w (ix2 f e)) + b (ix2 f 0)) := by
  unfold rGate Ideal.logistic; pointwise

theorem rMixed_at (x : FVec Ideal S32768x2048 .f32) (y : FVec Ideal S32768x1024 .f32) (a : FVec Ideal S1024x32768 .bf16) (w : FVec Ideal S2048x2048 .bf16)
    (i : Fin 32768) (j : Fin 2048) :
    rMixed x y a w (ix2 i j) = x (ix2 i j) + ∑ f : Fin 2048, (if h : f.val < 1024 then y (ix2 i ⟨f.val, h⟩) else a (ix2 (⟨f.val - 1024, by omega⟩ : Fin 1024) i)) * w (ix2 f j) := by
  unfold rMixed; pointwise

theorem rNorm_at (x : FVec Ideal S32768x2048 .f32) (g : FVec Ideal S1x2048 .f32) (i : Fin 32768) (e : Fin 2048) :
    rNorm x g (ix2 i e) = Cert.Proj.norm (fun k => x (ix2 i k)) (fun k => g (ix2 0 k)) e := by
  unfold rNorm Cert.Proj.norm; pointwise

theorem rQuery_at (n : FVec Ideal S32768x2048 .f32) (w : FVec Ideal S2048x512 .bf16) (b : Fin 8) (p : Fin 4096) (h : Fin 4) (d : Fin 128) :
    rQuery n w (ix4 b p h d) = ∑ e : Fin 2048, n (ix2 (⟨b.val * 4096 + p.val, by omega⟩ : Fin 32768) e) * w (ix2 e (⟨h.val * 128 + d.val, by omega⟩ : Fin 512)) := by
  unfold rQuery; pointwise

theorem rMem_at (k : FVec Ideal S8x256x512 .bf16) (b : Fin 8) (r : Fin 256) (h : Fin 4) (d : Fin 128) :
    rMem k (ix4 b r h d) = k (ix3 b r (⟨h.val * 128 + d.val, by omega⟩ : Fin 512)) := by
  unfold rMem; pointwise

theorem rScore_at (q : FVec Ideal S8x4096x4x128 .f32) (k : FVec Ideal S8x256x4x128 .f32) (b : Fin 8) (h : Fin 4) (p : Fin 4096) (r : Fin 256) :
    rScore q k (ix4 b h p r) = (∑ d : Fin 128, q (ix4 b p h d) * k (ix4 b r h d)) * Ideal.ofBits .f32 0x3DB504F3#32 := by
  unfold rScore; pointwise

theorem lift_at (h : S8x4x4096x256.Reduces [3] S8x4x4096) (b : Fin 8) (n : Fin 4) (p : Fin 4096) (k : Fin 256) :
    h.lift (ix3 b n p) k = ix4 b n p k := by
  funext a; apply Fin.ext
  match a with
  | ⟨0, _⟩ => rfl
  | ⟨1, _⟩ => rfl
  | ⟨2, _⟩ => rfl
  | ⟨3, _⟩ => rfl

theorem reduces_last : S8x4x4096x256.Reduces [3] S8x4x4096 := by decide

theorem maximumf_at {s : Shape} (v w : FVec Ideal s .f32) (j : s.Idx) : maximumf v w j = max (v j) (w j) := rfl

theorem fold_maximumf {n : Nat} (b : Ideal .f32) (v : Fin n → Ideal .f32) :
    Finset.univ.fold (FloatOps.maximumf (F := Ideal) (φ := .f32)) b v = Finset.univ.fold (max : EReal → EReal → EReal) b v := rfl

theorem rMax_at (s : FVec Ideal S8x4x4096x256 .f32) (b : Fin 8) (h : Fin 4) (p : Fin 4096) :
    rMax s (ix3 b h p) = max ⊥ (Finset.univ.fold max ⊥ fun r : Fin 256 => s (ix4 b h p r)) := by
  rw [← Cert.Swa.neg_inf]
  unfold rMax
  refine (maximumf_at _ _ _).trans ?_
  refine congrArg₂ max rfl ?_
  refine (Host.reduce_eq_fold_single _ _ _ _ reduces_last _ _).trans ?_
  refine (fold_maximumf (n := 256) _ _).trans ?_
  refine congrArg (fun v => Finset.univ.fold max _ v) ?_
  funext k
  exact congrArg s (lift_at reduces_last b h p k)

theorem rExp_at (s : FVec Ideal S8x4x4096x256 .f32) (mx : FVec Ideal S8x4x4096 .f32) (b : Fin 8) (h : Fin 4) (p : Fin 4096) (r : Fin 256) :
    rExp s mx (ix4 b h p r) = Ideal.exp (s (ix4 b h p r) - mx (ix3 b h p)) := by
  unfold rExp; pointwise

theorem rProb_at (e : FVec Ideal S8x4x4096x256 .f32) (b : Fin 8) (h : Fin 4) (p : Fin 4096) (r : Fin 256) :
    rProb e (ix4 b h p r) = Ideal.div (e (ix4 b h p r)) (∑ j : Fin 256, e (ix4 b h p j)) := by
  unfold rProb; pointwise

theorem rAttn_at (v : FVec Ideal S8x256x4x128 .f32) (p : FVec Ideal S8x4x4096x256 .f32) (i : Fin 32768) (f : Fin 512) :
    rAttn v p (ix2 i f)
      = ∑ r : Fin 256, v (ix4 (⟨i.val / 4096, by omega⟩ : Fin 8) r (⟨f.val / 128, by omega⟩ : Fin 4) (⟨f.val % 128, by omega⟩ : Fin 128))
          * p (ix4 (⟨i.val / 4096, by omega⟩ : Fin 8) (⟨f.val / 128, by omega⟩ : Fin 4) (⟨i.val % 4096, by omega⟩ : Fin 4096) r) := by
  unfold rAttn; pointwise

theorem rOut_at (h : FVec Ideal S32768x2048 .f32) (o : FVec Ideal S32768x512 .f32) (w : FVec Ideal S512x2048 .bf16) (i : Fin 32768) (j : Fin 2048) :
    rOut h o w (ix2 i j) = h (ix2 i j) + ∑ f : Fin 512, o (ix2 i f) * w (ix2 f j) := by
  unfold rOut; pointwise

end Cert.Mix

end
-- ==== Proof.Mix.RefRow.lean ====
/- A row of the mixing layer's reference. -/
module

public import proofs.«01_k».proof.Proof.Mix.RefRead

@[expose] public section

set_option maxRecDepth 16384

noncomputable section

namespace Cert.Mix

open Cert.Reference4Ideal Cert.Reference4Ideal.Gen Idealize.ShloMosaic Idealize.ShloMosaic.TcCoe Idealize.SL.Sem Idealize.ShloMosaic.StableHlo Cert.Swa

theorem mulf_at {s : Shape} (v w : FVec Ideal s .f32) (j : s.Idx) : mulf v w j = v j * w j := rfl

/-- A sum over the two mixers' features, split at the first one's. -/
theorem sum_halves (y a : Fin 1024 → EReal) (w : Fin 2048 → EReal) :
    ∑ f : Fin 2048, (if h : f.val < 1024 then y ⟨f.val, h⟩ else a ⟨f.val - 1024, by omega⟩) * w f
      = (∑ f : Fin 1024, y f * w ⟨f.val, by omega⟩) + ∑ f : Fin 1024, a f * w ⟨1024 + f.val, by omega⟩ := by
  refine (Fin.sum_univ_add (a := 1024) (b := 1024) _).trans ?_
  refine congrArg₂ (· + ·) (Finset.sum_congr rfl fun f _ => ?_) (Finset.sum_congr rfl fun f _ => ?_)
  · have hf : (Fin.castAdd 1024 f).val < 1024 := f.isLt
    rw [dif_pos hf]; rfl
  · have hf : ¬ (Fin.natAdd 1024 f).val < 1024 := by show ¬ 1024 + f.val < 1024; omega
    rw [dif_neg hf]
    exact congrArg₂ (· * ·) (congrArg a (Fin.ext (by show 1024 + f.val - 1024 = f.val; omega))) rfl

theorem rRow_at (x : FVec Ideal S32768x2048 .f32) (y : FVec Ideal S1024x32768 .f32) (a : FVec Ideal S1024x32768 .bf16) (w : FVec Ideal S1024x1024 .bf16)
    (b : FVec Ideal S1024x1 .f32) (wo : FVec Ideal S2048x2048 .bf16) (i : Fin 32768) (j : Fin 2048) :
    rRow x y a w b wo (ix2 i j)
      = mixed (fun j => x (ix2 i j)) (fun f => y (ix2 f i)) (fun f => a (ix2 f i)) (fun f e => w (ix2 f e)) (fun f => b (ix2 f 0))
          (fun f j => wo (ix2 (⟨f.val, by omega⟩ : Fin 2048) j)) (fun f j => wo (ix2 (⟨1024 + f.val, by omega⟩ : Fin 2048) j)) j := by
  have hg : ∀ f : Fin 1024, mulf (rGelu (rX y)) (rGate (rGelu (rX y)) w b) (ix2 i f)
      = gated (fun f => y (ix2 f i)) (fun f e => w (ix2 f e)) (fun f => b (ix2 f 0)) f := fun f => by
    refine (mulf_at _ _ _).trans ?_
    unfold gated
    rw [rGate_at, rGelu_at]
    refine congrArg (fun z => _ * Ideal.logistic (z + _)) (Finset.sum_congr rfl fun e _ => ?_)
    rw [rGelu_at]
    exact mul_comm _ _
  unfold rRow mixed
  rw [rMixed_at, add_assoc]
  refine congrArg (x (ix2 i j) + ·) ?_
  refine (sum_halves (fun f => mulf (rGelu (rX y)) (rGate (rGelu (rX y)) w b) (ix2 i f)) (fun f => a (ix2 f i)) (fun f => wo (ix2 f j))).trans ?_
  simp only [hg]

/-- The scores of token `i` under the head of feature `f`. -/
theorem rScores_at (h : FVec Ideal S32768x2048 .f32) (g : FVec Ideal S1x2048 .f32) (wq : FVec Ideal S2048x512 .bf16) (km : FVec Ideal S8x256x512 .bf16)
    (i : Fin 32768) (f : Fin 512) (r : Fin 256) :
    rScores h g wq km (ix4 (⟨i.val / 4096, by omega⟩ : Fin 8) (⟨f.val / 128, by omega⟩ : Fin 4) (⟨i.val % 4096, by omega⟩ : Fin 4096) r)
      = score (query (fun k => h (ix2 i k)) (fun k => g (ix2 0 k)) (fun e d => wq (ix2 e d)))
          (fun r d => km (ix3 (⟨i.val / 4096, by omega⟩ : Fin 8) r d)) f r := by
  have hi : (⟨i.val / 4096 * 4096 + i.val % 4096, by omega⟩ : Fin 32768) = i := Fin.ext (by show i.val / 4096 * 4096 + i.val % 4096 = i.val; omega)
  unfold rScores score query
  rw [rScore_at]
  refine congrArg (· * _) (Finset.sum_congr rfl fun d _ => ?_)
  rw [rQuery_at, rMem_at]
  refine congrArg₂ (· * ·) (Finset.sum_congr rfl fun e _ => ?_) rfl
  rw [rNorm_at]
  show Cert.Proj.norm (fun k => h (ix2 (⟨i.val / 4096 * 4096 + i.val % 4096, _⟩ : Fin 32768) k)) _ e * _ = _
  rw [hi]
  rfl

/-- Scores are real when the gains, the query weights and the keys are. -/
theorem score_bounded (h : Fin 2048 → EReal) (g : Fin 2048 → EReal) (wq : Fin 2048 → Fin 512 → EReal) (km : Fin 256 → Fin 512 → EReal)
    (hg : ∀ e, Bounded (g e)) (hw : ∀ e d, Bounded (wq e d)) (hk : ∀ r d, Bounded (km r d)) (f : Fin 512) (r : Fin 256) :
    Bounded (score (query h g wq) km f r) := by
  have hs : Bounded (∑ d : Fin 128, query h g wq (feat f d) * km r (feat f d)) :=
    dot_bounded _ _ (fun d => dot_bounded _ _ (fun e => norm_bounded h g hg e) fun e => hw e _) fun d => hk r _
  have hb : Bounded (Ideal.ofBits .f32 0x3DB504F3#32) := by
    simp only [Ideal.ofBits, Ideal.ieee]
    rw [if_neg (by decide), if_neg (by decide)]
    exact ⟨EReal.coe_ne_top _, EReal.coe_ne_bot _⟩
  have := dot_bounded (n := 1) (fun _ => _) (fun _ => _) (fun _ => hs) (fun _ => hb)
  rwa [Fin.sum_univ_one] at this

theorem rTail_at (h : FVec Ideal S32768x2048 .f32) (g : FVec Ideal S1x2048 .f32) (wq : FVec Ideal S2048x512 .bf16) (km vm : FVec Ideal S8x256x512 .bf16)
    (w : FVec Ideal S512x2048 .bf16) (hg : ∀ j, Bounded (g j)) (hw : ∀ j, Bounded (wq j)) (hk : ∀ j, Bounded (km j)) (i : Fin 32768) (j : Fin 2048) :
    rTail h g wq km vm w (ix2 i j)
      = out (fun k => h (ix2 i k)) (query (fun k => h (ix2 i k)) (fun k => g (ix2 0 k)) (fun e d => wq (ix2 e d)))
          (fun r d => km (ix3 (⟨i.val / 4096, by omega⟩ : Fin 8) r d)) (fun r d => vm (ix3 (⟨i.val / 4096, by omega⟩ : Fin 8) r d))
          (fun f j => w (ix2 f j)) j := by
  unfold rTail out
  rw [rOut_at]
  refine congrArg (h (ix2 i j) + ·) (Finset.sum_congr rfl fun f _ => congrArg (· * w (ix2 f j)) ?_)
  rw [rAttn_at, softmax_eq (n := 255) _ _ (fun k => score_bounded _ _ _ _ (fun e => hg _) (fun e d => hw _) (fun r d => hk _) f k)]
  refine Finset.sum_congr rfl fun r _ => ?_
  rw [rMem_at, rProb_at]
  simp only [rExp_at, rMax_at, rScores_at]
  have hf : (⟨f.val / 128 * 128 + f.val % 128, by omega⟩ : Fin 512) = f := Fin.ext (by show f.val / 128 * 128 + f.val % 128 = f.val; omega)
  exact congrArg (fun z => vm (ix3 (⟨i.val / 4096, _⟩ : Fin 8) r z) * _) hf

end Cert.Mix

end
-- ==== Proof.Mix.Array.lean ====
/- The mixing layer: the kernel's array holds the reference's values. -/
module

public import proofs.«01_k».proof.Proof.Mix.KernelRow
public import proofs.«01_k».proof.Proof.Mix.RefRow
public import Idealize.ShloMosaic.Lib.WholeRead
public import Idealize.ShloMosaic.Lib.Pipeline.ValueKit

@[expose] public section

set_option maxRecDepth 16384

noncomputable section

namespace Cert.Mix

open Cert.Kernel4Ideal Cert.Kernel4Ideal.Gen Idealize.ShloMosaic Idealize.ShloMosaic.TcCoe Idealize.SL.Sem

/-- The blocks that each window holds at a grid point. -/
theorem idx : ∀ t : Fin cfg0.N, win0_0.index t = ![t.val, 0] ∧ win0_1.index t = ![0, t.val]
    ∧ win0_2.index t = ![0, t.val] ∧ win0_3.index t = ![0, 0] ∧ win0_4.index t = ![0, 0] ∧ win0_5.index t = ![0, 0]
    ∧ win0_6.index t = ![0, 0] ∧ win0_7.index t = ![0, 0] ∧ win0_8.index t = ![t.val / 8, 0, 0] ∧ win0_9.index t = ![t.val / 8, 0, 0]
    ∧ win0_10.index t = ![0, 0] ∧ win0_11.index t = ![t.val, 0] :=
  (by decide +kernel : ∀ t : Fin grid0.N, win0_0.index t = ![t.val, 0] ∧ win0_1.index t = ![0, t.val]
    ∧ win0_2.index t = ![0, t.val] ∧ win0_3.index t = ![0, 0] ∧ win0_4.index t = ![0, 0] ∧ win0_5.index t = ![0, 0]
    ∧ win0_6.index t = ![0, 0] ∧ win0_7.index t = ![0, 0] ∧ win0_8.index t = ![t.val / 8, 0, 0] ∧ win0_9.index t = ![t.val / 8, 0, 0]
    ∧ win0_10.index t = ![0, 0] ∧ win0_11.index t = ![t.val, 0])

/-- The token of row `i` of a grid point's block. -/
def tok (t : Fin cfg0.N) (i : Fin 512) : Fin 32768 := ⟨t.val * 512 + i.val, by have : t.val < 64 := t.isLt; omega⟩

/-- The batch that a token is of. -/
theorem tok_batch (t : Fin cfg0.N) (i : Fin 512) : (⟨(tok t i).val / 4096, by have := (tok t i).isLt; omega⟩ : Fin 8) = ⟨t.val / 8, by have : t.val < 64 := t.isLt; omega⟩ :=
  Fin.ext (by show (t.val * 512 + i.val) / 4096 = t.val / 8; omega)

section
variable (m : (ℓ : Loc nD τ sig) → Buf (Elt Ideal) ℓ) (c : Dev nD) (t : Fin cfg0.N)

theorem blk0 (i : Fin 512) (e : Fin 2048) : iblk m c 0 t (ix2 i e) = m ((c.tc : Thread nD τ).loc main_arg0) (ix2 (tok t i) e) := by
  unfold tok; blk_point [iblk, V, idx t]

theorem blk1 (f : Fin 1024) (i : Fin 512) : iblk m c 1 t (ix2 f i) = m ((c.tc : Thread nD τ).loc main_arg1) (ix2 f (tok t i)) := by
  unfold tok; blk_point [iblk, V, idx t]

theorem blk2 (f : Fin 1024) (i : Fin 512) : iblk m c 2 t (ix2 f i) = m ((c.tc : Thread nD τ).loc main_arg2) (ix2 f (tok t i)) := by
  unfold tok; blk_point [iblk, V, idx t]

theorem blk3 (f e : Fin 1024) : iblk m c 3 t (ix2 f e) = m ((c.tc : Thread nD τ).loc main_arg3) (ix2 f e) := by
  blk_point [iblk, V, idx t]

theorem blk4 (f : Fin 1024) : iblk m c 4 t (ix2 f (0 : Fin 1)) = m ((c.tc : Thread nD τ).loc main_arg4) (ix2 f (0 : Fin 1)) := by
  blk_point [iblk, V, idx t]

theorem blk5 (f j : Fin 2048) : iblk m c 5 t (ix2 f j) = m ((c.tc : Thread nD τ).loc main_arg5) (ix2 f j) := by
  blk_point [iblk, V, idx t]

theorem blk6 (e : Fin 2048) : iblk m c 6 t (ix2 (0 : Fin 1) e) = m ((c.tc : Thread nD τ).loc main_arg6) (ix2 (0 : Fin 1) e) := by
  blk_point [iblk, V, idx t]

theorem blk7 (e : Fin 2048) (d : Fin 512) : iblk m c 7 t (ix2 e d) = m ((c.tc : Thread nD τ).loc main_arg7) (ix2 e d) := by
  blk_point [iblk, V, idx t]

theorem blk8 (r : Fin 256) (d : Fin 512) : iblk m c 8 t (ix3 (0 : Fin 1) r d)
    = m ((c.tc : Thread nD τ).loc main_arg8) (ix3 (⟨t.val / 8, by have : t.val < 64 := t.isLt; omega⟩ : Fin 8) r d) := by
  blk_point [iblk, V, idx t]

theorem blk9 (r : Fin 256) (d : Fin 512) : iblk m c 9 t (ix3 (0 : Fin 1) r d)
    = m ((c.tc : Thread nD τ).loc main_arg9) (ix3 (⟨t.val / 8, by have : t.val < 64 := t.isLt; omega⟩ : Fin 8) r d) := by
  blk_point [iblk, V, idx t]

theorem blk10 (f : Fin 512) (j : Fin 2048) : iblk m c 10 t (ix2 f j) = m ((c.tc : Thread nD τ).loc main_arg10) (ix2 f j) := by
  blk_point [iblk, V, idx t]

/-- The rows of a grid point before the memory's attention are the reference's. -/
theorem row_eq (i : Fin 512) (j : Fin 2048) : k0_pay10 (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 i j)
    = rRow (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) (ix2 (tok t i) j) := by
  unfold k0_pay10
  simp (disch := decide) only [View.ld_unit_lit']
  refine (pay2_at _ _ _ _ _ _ _ i j).trans (Eq.trans ?_ (rRow_at _ _ _ _ _ _ (tok t i) j).symm)
  simp only [blk0, blk1, blk2, blk3, blk4]
  refine congrArg₂ (fun wy wa => mixed _ _ _ _ _ wy wa j) (funext fun f => funext fun j => ?_) (funext fun f => funext fun j => ?_)
  · refine Eq.trans (congrArg (iblk m c 5 t) (funext fun a => ?_)) (blk5 m c t ⟨f.val, by omega⟩ j)
    fin_cases a <;> apply Fin.ext <;> simp
  · refine Eq.trans (congrArg (iblk m c 5 t) (funext fun a => ?_)) (blk5 m c t ⟨1024 + f.val, by omega⟩ j)
    fin_cases a <;> apply Fin.ext <;> simp

theorem array_eq (hg : ∀ j, Cert.Swa.Bounded (m ((c.tc : Thread nD τ).loc main_arg6) j)) (hw : ∀ j, Cert.Swa.Bounded (m ((c.tc : Thread nD τ).loc main_arg7) j))
    (hk : ∀ j, Cert.Swa.Bounded (m ((c.tc : Thread nD τ).loc main_arg8) j)) :
    (dats m 0 c).arrAt 11 cfg0.N = rTail (rRow (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))) (m ((c.tc : Thread nD τ).loc main_arg6))
      (m ((c.tc : Thread nD τ).loc main_arg7)) (m ((c.tc : Thread nD τ).loc main_arg8)) (m ((c.tc : Thread nD τ).loc main_arg9))
      (m ((c.tc : Thread nD τ).loc main_arg10)) := by
  refine (dats m 0 c).arrAt_eq_of_covers 11 _ (by decide +kernel) fun t _ y => ?_
  blk_simp
  rw [after0_11]
  frame_out
  obtain ⟨i, j, rfl⟩ : ∃ (i : Fin 512) (j : Fin 2048), y = ix2 i j := ⟨y 0, y 1, funext fun a => by fin_cases a <;> rfl⟩
  have ey : (win0_11.blk t).view.emb (ix2 i j) = ix2 (tok t i) j := by unfold tok; blk_ext [idx t]
  refine Eq.trans ?_ (congrArg _ ey).symm
  have hsum : k0_pay11 (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 i 0)
      = ∑ k : Fin 2048, k0_pay10 (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 i k)
        * k0_pay10 (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 i k) := by
    unfold k0_pay11 k0_pay10
    exact pay3_at _ _ _ _ _ _ _ i
  have hrow := row_eq m c t i
  unfold k0_pay12
  simp (disch := decide) only [View.ld_unit_lit']
  generalize k0_pay10 (iblk m c 0 t) (iblk m c 1 t) (iblk m c 2 t) (iblk m c 3 t) (iblk m c 4 t) (iblk m c 5 t)
      (iblk m c 6 t) (iblk m c 7 t) (iblk m c 8 t) (iblk m c 9 t) (iblk m c 10 t) = h at hsum hrow ⊢
  generalize k0_pay11 (iblk m c 0 t) (iblk m c 1 t) (iblk m c 2 t) (iblk m c 3 t) (iblk m c 4 t) (iblk m c 5 t)
      (iblk m c 6 t) (iblk m c 7 t) (iblk m c 8 t) (iblk m c 9 t) (iblk m c 10 t) = s at hsum ⊢
  refine (row_at h _ s _ _ _ _ _ _ _ _ _ _ (fun r d => iblk m c 8 t (ix3 (0 : Fin 1) r d)) (fun r d => iblk m c 9 t (ix3 (0 : Fin 1) r d)) i j hsum
    ?_ ?_ ?_ ?_ ?_ ?_ ?_ ?_).trans ?_
  iterate 8 exact fun r d => congrArg (iblk m c _ t) (funext fun a => by fin_cases a <;> apply Fin.ext <;> simp)
  refine Eq.trans ?_ (rTail_at _ _ _ _ _ _ hg hw hk (tok t i) j).symm
  simp only [hrow, blk6, blk7, blk8, blk9, blk10, tok_batch]

end

end Cert.Mix

end
-- ==== Proof.Mix.Claims.lean ====
/- The mixing layer's claims: its frames and its equation with the reference. -/
module

public import proofs.«01_k».proof.Defs
public import proofs.«01_k».proof.Proof.Gen.Kernel4.Frame
public import proofs.«01_k».proof.Proof.Mix.Array
public import proofs.«01_k».proof.Proof.Swa.Claims
public import Idealize.ShloMosaic.Lib.Quiescent
public import Idealize.ShloMosaic.Adequacy
public import Idealize.ShloMosaic.Init

@[expose] public section

set_option maxRecDepth 16384

noncomputable section

namespace Cert.Mix

open Idealize.ShloMosaic Idealize.SL.Sem Idealize.ShloMosaic.TcCoe

/-- The side conditions of the precondition's operations. -/
theorem preFacts : Cert.Pre_finite4.Facts where
  bcast_S_S1x2048 := by decide
  bitsLt_bf16_f32 := by decide
  bcast_S_S2048x512 := by decide
  bcast_S_S8x256x512 := by decide

instance : Cert.Pre_finite4.Facts := preFacts

/-- What the precondition says of the norm's gains, the query weights and the memory's keys: all are real numbers. -/
theorem bounded_args (m : (ℓ : Loc Cert.Kernel4Ideal.nD Cert.Kernel4Ideal.τ Cert.Kernel4Ideal.sig) → Buf (Elt Ideal) ℓ)
    (h : Cert.Pre_Kernel4Ideal_finite4 m) (c : Dev Cert.Kernel4Ideal.nD) :
    (∀ j, Cert.Swa.Bounded (m ((c.tc : Thread Cert.Kernel4Ideal.nD Cert.Kernel4Ideal.τ).loc Cert.Kernel4Ideal.main_arg6) j))
    ∧ (∀ j, Cert.Swa.Bounded (m ((c.tc : Thread Cert.Kernel4Ideal.nD Cert.Kernel4Ideal.τ).loc Cert.Kernel4Ideal.main_arg7) j))
    ∧ (∀ j, Cert.Swa.Bounded (m ((c.tc : Thread Cert.Kernel4Ideal.nD Cert.Kernel4Ideal.τ).loc Cert.Kernel4Ideal.main_arg8) j)) := by
  obtain ⟨h0, h1, h2⟩ := h c
  refine ⟨fun j => Cert.Swa.bounded_of _ ?_, fun j => Cert.Swa.bounded_of _ ?_, fun j => Cert.Swa.bounded_of _ ?_⟩
  · exact congrFun h0 j
  · exact congrFun h1 j
  · exact congrFun h2 j

/-- The kernel and its ideal program run and leave their arguments and the counters. -/
theorem frame_k : Cert.quiescent_Kernel4 := fun m ρ _ => Cert.Kernel4.Gen.frame m ρ
theorem frame_ki : Cert.quiescent_Kernel4Ideal := fun m ρ _ => Cert.Kernel4Ideal.Gen.frame m ρ
theorem frame_ki' : Cert.quiescent_Kernel4Ideal_pre_finite4 := fun m ρ _ => Cert.Kernel4Ideal.Gen.frame m ρ

/-- The reference runs and leaves its arguments and the counters. -/
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)
theorem frame_ri' : Cert.quiescent_Reference4Ideal_pre_finite4 := fun m ρ _ => frame_ri m ρ trivial

/-- Kernel and reference compute the same array. -/
theorem algebraic : Cert.algebraic_Kernel4Ideal_Reference4Ideal_pre_finite4 := by
  intro m ρ m' ρ' hpre hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  obtain ⟨e0, e1, e2, e3, e4, e5, e6, e7, e8, e9, e10⟩ := hagree c
  obtain ⟨hg, hw, hk⟩ := bounded_args m hpre c
  refine (res_eq m' c).trans (Eq.trans ?_ (array_eq m c hg hw hk).symm)
  rw [e0, e1, e2, e3, e4, e5, e6, e7, e8, e9, e10]

end Cert.Mix

end
-- ==== Proof.Peer.Tile.lean ====
/- One tile of the coefficients: its gate, summed over the heads, times gelu of its scores. -/
module

public import proofs.«01_k».proof.Proof.Gen.Kernel5Ideal.Skeleton
public import proofs.«01_k».proof.Proof.Swa.Head
public import Idealize.ShloMosaic.Lib.BitcastPair

@[expose] public section

set_option maxRecDepth 16384

noncomputable section

namespace Cert.Peer

open Cert.Kernel5Ideal Cert.Kernel5Ideal.Gen Idealize.ShloMosaic Idealize.ShloMosaic.TcCoe Idealize.SL.Sem

/-- The half of a word that the experts of one parity read: the low half for the even, the high one for the odd. -/
def half (p : ℕ) (w : BitVec 32) : EReal := (FloatOps.ofBits .bf16 (w.extractLsb' (16 * p) 16) : Ideal .bf16)

/-- The halves of a row's words, the two of each in turn down sixteen rows. -/
def rowTile (o : ℕ) (hs : S1x512.Slices ![0, o] S1x128) (w : IVec S1x512 32) : FVec Ideal S16x128 .bf16 :=
  bitcastToFloat .bf16 (bitcast S16x128 16 (broadcastTo S8x128 (shapeCast S1x128 (extractStridedSlice S1x128 ![0, o] w hs)
    shapeCasts_S1x128_S1x128) broadcasts_S1x128_S8x128) bitcasts_S8x128_w32_S16x128_w16)

theorem rowTile_at (o : ℕ) (hs : S1x512.Slices ![0, o] S1x128) (ho : o + 128 ≤ 512) (w : IVec S1x512 32) (b : Fin 16) (l : Fin 128) :
    rowTile o hs w (ix2 b l) = half (b.val % 2) (w (ix2 0 (⟨o + l.val, by omega⟩ : Fin 512))) := by
  have e : ∀ a : Fin 8, broadcastTo S8x128 (shapeCast S1x128 (extractStridedSlice S1x128 ![0, o] w hs)
      shapeCasts_S1x128_S1x128) broadcasts_S1x128_S8x128 (ix2 a l) = w (ix2 0 (⟨o + l.val, by omega⟩ : Fin 512)) := by
    intro a; pointwise
  unfold rowTile half
  rw [← e ⟨b.val / 2, by omega⟩]
  refine congrArg (FloatOps.ofBits (F := Ideal) .bf16) ((bitcast_32_16 _ _ _).trans ?_)
  refine congrArg₂ (fun (x : BitVec 32) (n : ℕ) => x.extractLsb' n 16) (congrArg _ (funext fun a => ?_)) rfl
  fin_cases a <;> rfl

/-- One head's share of a tile's gate. -/
def headTerm (o : ℕ) (hs : S1x512.Slices ![0, o] S1x128) (c w : IVec S1x512 32) (r v : Vec Ideal S1x128x128 .bf16) :
    FVec Ideal S8x16x128 .bf16 :=
  mulf (broadcastTo S8x16x128 (shapeCast S1x16x128 (rowTile o hs w) shapeCasts_S16x128_S1x16x128) broadcasts_S1x16x128_S8x16x128)
    (select (cmpf .olt (shapeCast S8x16x128 (shapeCast S128x128 r shapeCasts_S1x128x128_S128x128) shapeCasts_S128x128_S8x16x128)
        (broadcastTo S8x16x128 (shapeCast S1x16x128 (rowTile o hs c) shapeCasts_S16x128_S1x16x128) broadcasts_S1x16x128_S8x16x128))
      (shapeCast S8x16x128 (shapeCast S128x128 v shapeCasts_S1x128x128_S128x128) shapeCasts_S128x128_S8x16x128)
      (broadcast S8x16x128 (Scalar.ofBits .bf16 0x0000#16)))

/-- A row of the ranks or the weights, from its block. -/
def row (x : Vec Ideal S1x1x512 .i32) : IVec S1x512 32 := shapeCast S1x512 x shapeCasts_S1x1x512_S1x512

/-- The tile written: gelu of the scores times the gate, transposed. -/
def tile (a : FVec Ideal S128x128 .f32) (g : FVec Ideal S8x16x128 .bf16) : FVec Ideal S128x128 .bf16 :=
  shapeCast S128x128 (transpose S128x128 [1, 0] (mulf (truncf .bf16 (divf a (addf (broadcast S128x128 (Scalar.ofBits .f32 0x3F800000#32))
    (exp2 (mulf a (addf (broadcast S128x128 (Named.named κ "gelu1" 0xC0135761#32))
      (mulf (broadcast S128x128 (Named.named κ "gelu2" 0xBDD2D3E8#32)) (mulf a a))))))) bitsLt_bf16_f32)
    (shapeCast S128x128 g shapeCasts_S8x16x128_S128x128)) transposes_S128x128_p1_0_S128x128) shapeCasts_S128x128_S128x128

/-- The gelu the kernel takes, at one score. -/
def kgelu (a : EReal) : EReal :=
  Ideal.div a (1 + Ideal.exp2 (a * ((Named.named κ "gelu1" 0xC0135761#32 : Ideal .f32) + (Named.named κ "gelu2" 0xBDD2D3E8#32 : Ideal .f32) * (a * a))))

theorem headTerm_at (o : ℕ) (hs : S1x512.Slices ![0, o] S1x128) (ho : o + 128 ≤ 512) (c w : IVec S1x512 32)
    (r v : Vec Ideal S1x128x128 .bf16) (a : Fin 8) (b : Fin 16) (l : Fin 128) :
    headTerm o hs c w r v (ix3 a b l)
      = half (b.val % 2) (w (ix2 0 (⟨o + l.val, by omega⟩ : Fin 512)))
        * (if r (ix3 0 (⟨a.val * 16 + b.val, by omega⟩ : Fin 128) l) < half (b.val % 2) (c (ix2 0 (⟨o + l.val, by omega⟩ : Fin 512))) then
            v (ix3 0 (⟨a.val * 16 + b.val, by omega⟩ : Fin 128) l) else 0) := by
  rw [← rowTile_at o hs ho w b l, ← rowTile_at o hs ho c b l]
  unfold headTerm
  pointwise

theorem tile_at (a : FVec Ideal S128x128 .f32) (g : FVec Ideal S8x16x128 .bf16) (t j : Fin 128) :
    tile a g (ix2 t j) = kgelu (a (ix2 j t)) * g (ix3 (⟨j.val / 16, by omega⟩ : Fin 8) (⟨j.val % 16, by omega⟩ : Fin 16) t) := by
  unfold tile kgelu
  pointwise
  rfl

theorem row_at (x : Vec Ideal S1x1x512 .i32) (t : Fin 512) : row x (ix2 0 t) = x (ix3 0 0 t) := by
  unfold row
  pointwise

/-- The scores of 128 experts at a block of tokens. -/
def mm (x : FVec Ideal S2048x512 .bf16) (u : FVec Ideal S128x2048 .bf16) : FVec Ideal S128x512 .f32 :=
  matmul dot_S128x2048_S2048x512_S128x512_1_0_0_1_n_n none u x (constant S128x512 .f32 0x00000000#32)

/-- The scores of a slab's experts at a block of tokens: eight products. -/
def act (x : FVec Ideal S2048x512 .bf16) (u : Fin 8 → FVec Ideal S128x2048 .bf16) : FVec Ideal S1024x512 .f32 :=
  concatenate S1024x512 0 [
    ⟨S128x512, mm x (u 0)⟩,
    ⟨S128x512, mm x (u 1)⟩,
    ⟨S128x512, mm x (u 2)⟩,
    ⟨S128x512, mm x (u 3)⟩,
    ⟨S128x512, mm x (u 4)⟩,
    ⟨S128x512, mm x (u 5)⟩,
    ⟨S128x512, mm x (u 6)⟩,
    ⟨S128x512, mm x (u 7)⟩] concatenates_S128x512_S128x512_S128x512_S128x512_S128x512_S128x512_S128x512_S128x512_S1024x512_d0

/-- One product read at an entry. -/
theorem mm_at (x : FVec Ideal S2048x512 .bf16) (u : FVec Ideal S128x2048 .bf16) (j : Fin 128) (t : Fin 512) :
    mm x u (ix2 j t)
      = ∑ k : Fin 2048, u (ix2 j k) * x (ix2 k t) := by
  unfold mm
  pointwise

theorem cat_at (m : Fin 8 → FVec Ideal S128x512 .f32) (i : Fin 8) (j : Fin 128) (t : Fin 512) :
    concatenate S1024x512 0 [⟨S128x512, m 0⟩, ⟨S128x512, m 1⟩, ⟨S128x512, m 2⟩, ⟨S128x512, m 3⟩, ⟨S128x512, m 4⟩, ⟨S128x512, m 5⟩, ⟨S128x512, m 6⟩, ⟨S128x512, m 7⟩]
      concatenates_S128x512_S128x512_S128x512_S128x512_S128x512_S128x512_S128x512_S128x512_S1024x512_d0
      (ix2 (⟨128 * i.val + j.val, by omega⟩ : Fin 1024) t) = m i (ix2 j t) := by
  have off : ∀ (b : Fin S128x512.rank) (w : Fin 1024), b.cast (rfl : S128x512.rank = S1024x512.rank) ≠ 0 →
      (ix2 j t b).val = ((ix2 w t : S1024x512.Idx) (b.cast (rfl : S128x512.rank = S1024x512.rank))).val := by
    intro b w hb
    fin_cases b
    · exact absurd rfl hb
    · rfl
  match i with
  | ⟨0, _⟩ => exact concatenate_apply_piece (t := S1024x512) 0 [⟨S128x512, m 0⟩, ⟨S128x512, m 1⟩, ⟨S128x512, m 2⟩, ⟨S128x512, m 3⟩, ⟨S128x512, m 4⟩, ⟨S128x512, m 5⟩, ⟨S128x512, m 6⟩, ⟨S128x512, m 7⟩] _ _ 0 (by show 0 < 8; decide) S128x512 (m 0) rfl rfl 0 rfl (ix2 j t) (fun b hb => off b _ hb) rfl
  | ⟨1, _⟩ => exact concatenate_apply_piece (t := S1024x512) 0 [⟨S128x512, m 0⟩, ⟨S128x512, m 1⟩, ⟨S128x512, m 2⟩, ⟨S128x512, m 3⟩, ⟨S128x512, m 4⟩, ⟨S128x512, m 5⟩, ⟨S128x512, m 6⟩, ⟨S128x512, m 7⟩] _ _ 1 (by show 1 < 8; decide) S128x512 (m 1) rfl rfl 128 rfl (ix2 j t) (fun b hb => off b _ hb) rfl
  | ⟨2, _⟩ => exact concatenate_apply_piece (t := S1024x512) 0 [⟨S128x512, m 0⟩, ⟨S128x512, m 1⟩, ⟨S128x512, m 2⟩, ⟨S128x512, m 3⟩, ⟨S128x512, m 4⟩, ⟨S128x512, m 5⟩, ⟨S128x512, m 6⟩, ⟨S128x512, m 7⟩] _ _ 2 (by show 2 < 8; decide) S128x512 (m 2) rfl rfl 256 rfl (ix2 j t) (fun b hb => off b _ hb) rfl
  | ⟨3, _⟩ => exact concatenate_apply_piece (t := S1024x512) 0 [⟨S128x512, m 0⟩, ⟨S128x512, m 1⟩, ⟨S128x512, m 2⟩, ⟨S128x512, m 3⟩, ⟨S128x512, m 4⟩, ⟨S128x512, m 5⟩, ⟨S128x512, m 6⟩, ⟨S128x512, m 7⟩] _ _ 3 (by show 3 < 8; decide) S128x512 (m 3) rfl rfl 384 rfl (ix2 j t) (fun b hb => off b _ hb) rfl
  | ⟨4, _⟩ => exact concatenate_apply_piece (t := S1024x512) 0 [⟨S128x512, m 0⟩, ⟨S128x512, m 1⟩, ⟨S128x512, m 2⟩, ⟨S128x512, m 3⟩, ⟨S128x512, m 4⟩, ⟨S128x512, m 5⟩, ⟨S128x512, m 6⟩, ⟨S128x512, m 7⟩] _ _ 4 (by show 4 < 8; decide) S128x512 (m 4) rfl rfl 512 rfl (ix2 j t) (fun b hb => off b _ hb) rfl
  | ⟨5, _⟩ => exact concatenate_apply_piece (t := S1024x512) 0 [⟨S128x512, m 0⟩, ⟨S128x512, m 1⟩, ⟨S128x512, m 2⟩, ⟨S128x512, m 3⟩, ⟨S128x512, m 4⟩, ⟨S128x512, m 5⟩, ⟨S128x512, m 6⟩, ⟨S128x512, m 7⟩] _ _ 5 (by show 5 < 8; decide) S128x512 (m 5) rfl rfl 640 rfl (ix2 j t) (fun b hb => off b _ hb) rfl
  | ⟨6, _⟩ => exact concatenate_apply_piece (t := S1024x512) 0 [⟨S128x512, m 0⟩, ⟨S128x512, m 1⟩, ⟨S128x512, m 2⟩, ⟨S128x512, m 3⟩, ⟨S128x512, m 4⟩, ⟨S128x512, m 5⟩, ⟨S128x512, m 6⟩, ⟨S128x512, m 7⟩] _ _ 6 (by show 6 < 8; decide) S128x512 (m 6) rfl rfl 768 rfl (ix2 j t) (fun b hb => off b _ hb) rfl
  | ⟨7, _⟩ => exact concatenate_apply_piece (t := S1024x512) 0 [⟨S128x512, m 0⟩, ⟨S128x512, m 1⟩, ⟨S128x512, m 2⟩, ⟨S128x512, m 3⟩, ⟨S128x512, m 4⟩, ⟨S128x512, m 5⟩, ⟨S128x512, m 6⟩, ⟨S128x512, m 7⟩] _ _ 7 (by show 7 < 8; decide) S128x512 (m 7) rfl rfl 896 rfl (ix2 j t) (fun b hb => off b _ hb) rfl

theorem act_at (x : FVec Ideal S2048x512 .bf16) (u : Fin 8 → FVec Ideal S128x2048 .bf16) (i : Fin 8) (j : Fin 128) (t : Fin 512) :
    act x u (ix2 (⟨128 * i.val + j.val, by omega⟩ : Fin 1024) t) = ∑ k : Fin 2048, u i (ix2 j k) * x (ix2 k t) :=
  (cat_at (fun i => mm x (u i)) i j t).trans (mm_at x (u i) j t)

/-- A tile's gate: the sum over the heads. -/
def gate (o : ℕ) (hs : S1x512.Slices ![0, o] S1x128) (c w : Fin 8 → Vec Ideal S1x1x512 .i32) (r v : Fin 8 → Vec Ideal S1x128x128 .bf16) :
    FVec Ideal S8x16x128 .bf16 :=
  addf (addf (addf (addf (addf (addf (addf (headTerm o hs (row (c 0)) (row (w 0)) (r 0) (v 0)) (headTerm o hs (row (c 1)) (row (w 1)) (r 1) (v 1))) (headTerm o hs (row (c 2)) (row (w 2)) (r 2) (v 2))) (headTerm o hs (row (c 3)) (row (w 3)) (r 3) (v 3))) (headTerm o hs (row (c 4)) (row (w 4)) (r 4) (v 4))) (headTerm o hs (row (c 5)) (row (w 5)) (r 5) (v 5))) (headTerm o hs (row (c 6)) (row (w 6)) (r 6) (v 6))) (headTerm o hs (row (c 7)) (row (w 7)) (r 7) (v 7))

/-- One head's share of the gate of expert `j` at token `t`, of a tile at column `o`. -/
def share (o : ℕ) (ho : o + 128 ≤ 512) (c w : Vec Ideal S1x1x512 .i32) (r v : Vec Ideal S1x128x128 .bf16) (j t : Fin 128) : EReal :=
  half (j.val % 2) (w (ix3 0 0 (⟨o + t.val, by omega⟩ : Fin 512)))
    * (if r (ix3 0 j t) < half (j.val % 2) (c (ix3 0 0 (⟨o + t.val, by omega⟩ : Fin 512))) then v (ix3 0 j t) else 0)

theorem term_at (o : ℕ) (hs : S1x512.Slices ![0, o] S1x128) (ho : o + 128 ≤ 512) (c w : Vec Ideal S1x1x512 .i32)
    (r v : Vec Ideal S1x128x128 .bf16) (j t : Fin 128) :
    headTerm o hs (row c) (row w) r v (ix3 (⟨j.val / 16, by omega⟩ : Fin 8) (⟨j.val % 16, by omega⟩ : Fin 16) t) = share o ho c w r v j t := by
  rw [headTerm_at o hs ho, row_at, row_at]
  have e : (⟨j.val / 16 * 16 + j.val % 16, by omega⟩ : Fin 128) = j := Fin.ext (by show j.val / 16 * 16 + j.val % 16 = j.val; omega)
  have e2 : j.val % 16 % 2 = j.val % 2 := by omega
  unfold share
  rw [e, e2]

theorem gate_at (o : ℕ) (hs : S1x512.Slices ![0, o] S1x128) (ho : o + 128 ≤ 512) (c w : Fin 8 → Vec Ideal S1x1x512 .i32)
    (r v : Fin 8 → Vec Ideal S1x128x128 .bf16) (j t : Fin 128) :
    gate o hs c w r v (ix3 (⟨j.val / 16, by omega⟩ : Fin 8) (⟨j.val % 16, by omega⟩ : Fin 16) t)
      = ∑ h : Fin 8, share o ho (c h) (w h) (r h) (v h) j t := by
  rw [Fin.sum_univ_eight]
  simp only [← term_at o hs ho]
  unfold gate
  pointwise

end Cert.Peer

end
-- ==== Proof.Peer.Ref.lean ====
/- The experts' reference in named steps, read at an index. -/
module

public import proofs.«01_k».proof.Proof.Gen.Reference5Ideal.Run
public import proofs.«01_k».proof.Proof.Mix.Cell
public import proofs.«01_k».proof.Proof.Peer.Tile
public import Idealize.ShloMosaic.Lib.BitcastConvert
public import Idealize.ShloMosaic.Lib.Pointwise
public import Idealize.ShloMosaic.Lib.Claim

@[expose] public section

set_option maxRecDepth 16384

noncomputable section

namespace Cert.Peer

open Cert.Reference5Ideal Cert.Reference5Ideal.Gen Idealize.ShloMosaic Idealize.ShloMosaic.TcCoe Idealize.SL.Sem Idealize.ShloMosaic.StableHlo

/-- Every expert's score at every token. -/
def rScore (x : FVec Ideal S2048x32768 .bf16) (u : FVec Ideal S16384x2048 .bf16) : FVec Ideal S32768x16384 .f32 :=
  Host.dotGeneral dot_S32768x2048_S2048x16384_S32768x16384_1_0_0_1_n_n none (transpose S32768x2048 [1, 0] (extf .f32 x bitsLt_bf16_f32) transposes_S2048x32768_S32768x2048_1_0) (transpose S2048x16384 [1, 0] (extf .f32 u bitsLt_bf16_f32) transposes_S16384x2048_S2048x16384_1_0)

/-- Their gelu. -/
def rAct (s : FVec Ideal S32768x16384 .f32) : FVec Ideal S32768x16384 .f32 :=
  mulf s (mulf (broadcastInDim S32768x16384 ![] bcast_S_S32768x16384 (constant S_ .f32 0x3F000000#32)) (addf (broadcastInDim S32768x16384 ![] bcast_S_S32768x16384 (constant S_ .f32 0x3F800000#32)) (Host.tanh (mulf (broadcastInDim S32768x16384 ![] bcast_S_S32768x16384 (constant S_ .f32 0x3F4C422A#32)) (addf s (mulf (broadcastInDim S32768x16384 ![] bcast_S_S32768x16384 (constant S_ .f32 0x3D372713#32)) (mulf (mulf s s) s)))))))

/-- The two halves of every word, the experts' parity before the token. -/
def rHalves (w : IVec S8x128x32768 32) : FVec Ideal S8x128x2x32768 .f32 :=
  transpose S8x128x2x32768 [0, 1, 3, 2] (extf .f32 (bitcastToFloat (F := Ideal) .bf16 (Host.bitcastConvertNarrow S8x128x32768x2 16 w splits_S8x128x32768_w32_S8x128x32768x2_w16)) bitsLt_bf16_f32) transposes_S8x128x32768x2_S8x128x2x32768_0_1_3_2

/-- The same, of every expert. -/
def rWords (w : FVec Ideal S8x128x2x32768 .f32) : FVec Ideal S8x128x64x2x32768 .f32 :=
  broadcastInDim S8x128x64x2x32768 ![0, 1, 2, 3, 4] bcast_S8x128x1x2x32768_S8x128x64x2x32768_0_1_2_3_4 (broadcastInDim S8x128x1x2x32768 ![0, 1, 3, 4] bcast_S8x128x2x32768_S8x128x1x2x32768_0_1_3_4 w)

/-- The second keys' numbers, of every expert. -/
def rPairs (r : FVec Ideal S8x128x32768 .bf16) : FVec Ideal S8x1x64x2x32768 .f32 :=
  shapeCast S8x1x64x2x32768 (extf .f32 r bitsLt_bf16_f32) shapeCasts_S8x128x32768_S8x1x64x2x32768

/-- Every head's weight of every expert. -/
def rHead (cnt w0 : FVec Ideal S8x128x2x32768 .f32) (r1 w1 : FVec Ideal S8x1x64x2x32768 .f32) : FVec Ideal S8x128x64x2x32768 .f32 :=
  mulf (rWords w0) (select (cmpf .olt (broadcastInDim S8x128x64x2x32768 ![0, 1, 2, 3, 4] bcast_S8x1x64x2x32768_S8x128x64x2x32768_0_1_2_3_4 r1) (rWords cnt)) (broadcastInDim S8x128x64x2x32768 ![0, 1, 2, 3, 4] bcast_S8x1x64x2x32768_S8x128x64x2x32768_0_1_2_3_4 w1) (broadcastInDim S8x128x64x2x32768 ![] bcast_S_S8x128x64x2x32768 (id (constant S_ .f32 0x00000000#32))))

/-- The heads summed. -/
def rHeads (w : FVec Ideal S8x128x64x2x32768 .f32) : FVec Ideal S128x64x2x32768 .f32 :=
  Host.reduceAdd w (constant S_ .f32 0x00000000#32) reducesTo_S8x128x64x2x32768_S128x64x2x32768_d0 h_S_

/-- The gates by token and expert. -/
def rGate (w : FVec Ideal S128x64x2x32768 .f32) : FVec Ideal S32768x16384 .f32 :=
  transpose S32768x16384 [1, 0] (shapeCast S16384x32768 w shapeCasts_S128x64x2x32768_S16384x32768) transposes_S16384x32768_S32768x16384_1_0

/-- The residual with the experts' outputs added. -/
def rSum (h : FVec Ideal S32768x2048 .f32) (g a : FVec Ideal S32768x16384 .f32) (v : FVec Ideal S16384x2048 .bf16) : FVec Ideal S32768x2048 .f32 :=
  addf h (Host.dotGeneral dot_S32768x16384_S16384x2048_S32768x2048_1_0_0_1_n_n none (mulf g a) (extf .f32 v bitsLt_bf16_f32))

/-- The normed rows. -/
def rNormed (x : FVec Ideal S32768x2048 .f32) (g : FVec Ideal S1x2048 .f32) : FVec Ideal S32768x2048 .f32 :=
  mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 g)

/-- The whole reference. -/
def rPeer (x : FVec Ideal S2048x32768 .bf16) (u v : FVec Ideal S16384x2048 .bf16) (cnt w0 : IVec S8x128x32768 32) (r1 w1 : FVec Ideal S8x128x32768 .bf16)
    (h : FVec Ideal S32768x2048 .f32) (g : FVec Ideal S1x2048 .f32) : FVec Ideal S32768x2048 .f32 :=
  rNormed (rSum h (rGate (rHeads (rHead (rHalves cnt) (rHalves w0) (rPairs r1) (rPairs w1)))) (rAct (rScore x u)) v) g

theorem rScore_at (x : FVec Ideal S2048x32768 .bf16) (u : FVec Ideal S16384x2048 .bf16) (i : Fin 32768) (E : Fin 16384) :
    rScore x u (ix2 i E) = ∑ k : Fin 2048, x (ix2 k i) * u (ix2 E k) := by
  unfold rScore; pointwise

theorem rAct_at (s : FVec Ideal S32768x16384 .f32) (i : Fin 32768) (E : Fin 16384) : rAct s (ix2 i E) = Cert.Mix.gelu (s (ix2 i E)) := by
  unfold Cert.Mix.gelu
  rw [mul_comm (s (ix2 i E)) (s (ix2 i E) * s (ix2 i E))]
  unfold rAct; pointwise

theorem rHalves_at (w : IVec S8x128x32768 32) (h : Fin 8) (a : Fin 128) (p : Fin 2) (i : Fin 32768) :
    rHalves w (ix4 h a p i) = half p.val (w (ix3 h a i)) := by
  have e : splits_S8x128x32768_w32_S8x128x32768x2_w16.drop (ix4 h a i p) = ix3 h a i := funext fun q => by fin_cases q <;> rfl
  unfold rHalves half
  rw [Nat.mul_comm 16 p.val, ← e]
  pointwise

theorem rWords_at (w : FVec Ideal S8x128x2x32768 .f32) (h : Fin 8) (a : Fin 128) (b : Fin 64) (p : Fin 2) (i : Fin 32768) :
    rWords w (ix5 h a b p i) = w (ix4 h a p i) := by
  unfold rWords; pointwise

theorem rPairs_at (r : FVec Ideal S8x128x32768 .bf16) (h : Fin 8) (b : Fin 64) (p : Fin 2) (i : Fin 32768) :
    rPairs r (ix5 h 0 b p i) = r (ix3 h (⟨b.val * 2 + p.val, by omega⟩ : Fin 128) i) := by
  unfold rPairs; pointwise

theorem rHead_at (cnt w0 : FVec Ideal S8x128x2x32768 .f32) (r1 w1 : FVec Ideal S8x1x64x2x32768 .f32) (h : Fin 8) (a : Fin 128) (b : Fin 64) (p : Fin 2)
    (i : Fin 32768) :
    rHead cnt w0 r1 w1 (ix5 h a b p i)
      = w0 (ix4 h a p i) * (if r1 (ix5 h 0 b p i) < cnt (ix4 h a p i) then w1 (ix5 h 0 b p i) else 0) := by
  rw [← rWords_at w0 h a b p i, ← rWords_at cnt h a b p i]
  unfold rHead; simp only [id_eq]; pointwise

theorem rHeads_at (w : FVec Ideal S8x128x64x2x32768 .f32) (a : Fin 128) (b : Fin 64) (p : Fin 2) (i : Fin 32768) :
    rHeads w (ix4 a b p i) = ∑ h : Fin 8, w (ix5 h a b p i) := by
  unfold rHeads; pointwise

theorem rGate_at (w : FVec Ideal S128x64x2x32768 .f32) (i : Fin 32768) (E : Fin 16384) :
    rGate w (ix2 i E) = w (ix4 (⟨E.val / 128, by omega⟩ : Fin 128) (⟨E.val / 2 % 64, by omega⟩ : Fin 64) (⟨E.val % 2, by omega⟩ : Fin 2) i) := by
  unfold rGate; pointwise

theorem rSum_at (h : FVec Ideal S32768x2048 .f32) (g a : FVec Ideal S32768x16384 .f32) (v : FVec Ideal S16384x2048 .bf16) (i : Fin 32768) (j : Fin 2048) :
    rSum h g a v (ix2 i j) = h (ix2 i j) + ∑ E : Fin 16384, g (ix2 i E) * a (ix2 i E) * v (ix2 E j) := by
  unfold rSum; pointwise

theorem rNormed_at (x : FVec Ideal S32768x2048 .f32) (g : FVec Ideal S1x2048 .f32) (i : Fin 32768) (e : Fin 2048) :
    rNormed x g (ix2 i e) = Cert.Proj.norm (fun k => x (ix2 i k)) (fun k => g (ix2 0 k)) e := by
  unfold rNormed Cert.Proj.norm; pointwise

/-- An expert's part of a token's entry `j`. -/
def part (x : FVec Ideal S2048x32768 .bf16) (u v : FVec Ideal S16384x2048 .bf16) (cnt w0 : IVec S8x128x32768 32) (r1 w1 : FVec Ideal S8x128x32768 .bf16)
    (i : Fin 32768) (j : Fin 2048) (E : Fin 16384) : EReal :=
  (Cert.Mix.gelu (∑ k : Fin 2048, u (ix2 E k) * x (ix2 k i))
    * ∑ h : Fin 8, half (E.val % 2) (w0 (ix3 h (⟨E.val / 128, by omega⟩ : Fin 128) i))
        * (if r1 (ix3 h (⟨E.val % 128, by omega⟩ : Fin 128) i) < half (E.val % 2) (cnt (ix3 h (⟨E.val / 128, by omega⟩ : Fin 128) i)) then
            w1 (ix3 h (⟨E.val % 128, by omega⟩ : Fin 128) i) else 0)) * v (ix2 E j)

theorem rPeer_at (x : FVec Ideal S2048x32768 .bf16) (u v : FVec Ideal S16384x2048 .bf16) (cnt w0 : IVec S8x128x32768 32) (r1 w1 : FVec Ideal S8x128x32768 .bf16)
    (h : FVec Ideal S32768x2048 .f32) (g : FVec Ideal S1x2048 .f32) (i : Fin 32768) (e : Fin 2048) :
    rPeer x u v cnt w0 r1 w1 h g (ix2 i e)
      = Cert.Proj.norm (fun k => h (ix2 i k) + ∑ E : Fin 16384, part x u v cnt w0 r1 w1 i k E) (fun k => g (ix2 0 k)) e := by
  unfold rPeer
  refine (rNormed_at _ _ i e).trans ?_
  refine congrArg (fun r => Cert.Proj.norm r (fun k => g (ix2 0 k)) e) (funext fun k => ?_)
  refine (rSum_at _ _ _ _ i k).trans (congrArg _ (Finset.sum_congr rfl fun E _ => ?_))
  unfold part
  rw [rAct_at, rScore_at, rGate_at, rHeads_at]
  have e : (⟨E.val / 2 % 64 * 2 + E.val % 2, by omega⟩ : Fin 128) = ⟨E.val % 128, by omega⟩ :=
    Fin.ext (by show E.val / 2 % 64 * 2 + E.val % 2 = E.val % 128; omega)
  simp only [rHead_at, rHalves_at, rPairs_at, e]
  rw [mul_comm (∑ h : Fin 8, _)]
  refine congrArg (fun s => Cert.Mix.gelu s * _ * _) (Finset.sum_congr rfl fun k _ => mul_comm _ _)

end Cert.Peer

end
-- ==== Proof.Peer.Gelu.lean ====
/- The gelu the kernel takes by an exponential is the one by the hyperbolic tangent. -/
module

public import proofs.«01_k».proof.Proof.Peer.Tile
public import proofs.«01_k».proof.Proof.Mix.Cell

@[expose] public section

noncomputable section

namespace Cert.Peer

open Cert.Kernel5Ideal Idealize.ShloMosaic

theorem named1 : (Named.named κ "gelu1" 0xC0135761#32 : Ideal .f32) = ((-((2 * (6693141 / 8388608)) * (Real.log 2)⁻¹) : ℝ) : EReal) :=
  IdealRules.named_const.ideal_named_scalar _ _ _ _ rfl

theorem named2 : (Named.named κ "gelu2" 0xBDD2D3E8#32 : Ideal .f32)
    = (((-((2 * (6693141 / 8388608)) * (Real.log 2)⁻¹)) * (12003091 / 268435456) : ℝ) : EReal) :=
  IdealRules.named_const.ideal_named_scalar _ _ _ _ rfl

theorem bits_half : Ideal.ofBits .f32 0x3F000000#32 = ((1 / 2 : ℝ) : EReal) := by
  simp only [Ideal.ofBits, Ideal.ieee]
  rw [if_neg (by decide), if_neg (by decide)]
  exact congrArg _ (by simp; try norm_num)
theorem bits_one : Ideal.ofBits .f32 0x3F800000#32 = ((1 : ℝ) : EReal) := by
  simp only [Ideal.ofBits, Ideal.ieee]
  rw [if_neg (by decide), if_neg (by decide)]
  exact congrArg _ (by simp; try norm_num)
theorem bits_scale : Ideal.ofBits .f32 0x3F4C422A#32 = ((6693141 / 8388608 : ℝ) : EReal) := by
  simp only [Ideal.ofBits, Ideal.ieee]
  rw [if_neg (by decide), if_neg (by decide)]
  exact congrArg _ (by simp; try norm_num)
theorem bits_cube : Ideal.ofBits .f32 0x3D372713#32 = ((12003091 / 268435456 : ℝ) : EReal) := by
  simp only [Ideal.ofBits, Ideal.ieee]
  rw [if_neg (by decide), if_neg (by decide)]
  exact congrArg _ (by simp; try norm_num)

/-- A power of two with the constants' exponent is an exponential. -/
theorem rpow_two (z : ℝ) : Real.rpow 2 (-(2 * (Real.log 2)⁻¹) * z) = Real.exp (-(2 * z)) := by
  change (2 : ℝ) ^ (-(2 * (Real.log 2)⁻¹) * z) = _
  rw [Real.rpow_def_of_pos (by norm_num)]
  have h : Real.log 2 ≠ 0 := (Real.log_pos (by norm_num)).ne'
  congr 1
  field_simp

theorem half_tanh (z : ℝ) : 1 / 2 * (1 + Real.tanh z) = 1 / (1 + Real.exp (-(2 * z))) := by
  have h1 : Real.exp (-(2 * z)) = Real.exp (-z) / Real.exp z := by rw [← Real.exp_sub]; congr 1; ring
  have e1 := Real.exp_pos z
  have e2 := Real.exp_pos (-z)
  rw [Real.tanh_eq_sinh_div_cosh, Real.sinh_eq, Real.cosh_eq, h1]
  field_simp
  ring

theorem kgelu_coe (a : ℝ) : kgelu (a : EReal) = Cert.Mix.gelu (a : EReal) := by
  unfold kgelu Cert.Mix.gelu
  rw [named1, named2, bits_half, bits_one, bits_scale, bits_cube]
  rw [← EReal.coe_mul a a, ← EReal.coe_mul, ← EReal.coe_add, ← EReal.coe_mul, Ideal.exp2_coe, ← EReal.coe_one, ← EReal.coe_add,
    Ideal.div_coe, ← EReal.coe_mul a (a * a), ← EReal.coe_mul, ← EReal.coe_mul, ← EReal.coe_add, ← EReal.coe_mul, Ideal.tanh_coe, ← EReal.coe_add,
    ← EReal.coe_mul, ← EReal.coe_mul]
  · rw [half_tanh]
    rw [← rpow_two]
    congr 5
    ring_nf
  · have : 0 < Real.rpow 2 (a * (-((2 * (6693141 / 8388608)) * (Real.log 2)⁻¹) + (-((2 * (6693141 / 8388608)) * (Real.log 2)⁻¹)) * (12003091 / 268435456) * (a * a))) :=
      Real.rpow_pos_of_pos (by norm_num) _
    linarith

theorem neg1 : (-((2 * (6693141 / 8388608)) * (Real.log 2)⁻¹) : ℝ) < 0 := by
  have : 0 < Real.log 2 := Real.log_pos (by norm_num)
  have := inv_pos.mpr this
  nlinarith

theorem neg2 : ((-((2 * (6693141 / 8388608)) * (Real.log 2)⁻¹)) * (12003091 / 268435456) : ℝ) < 0 :=
  mul_neg_of_neg_of_pos neg1 (by norm_num)

theorem kgelu_top : kgelu ⊤ = Cert.Mix.gelu ⊤ := by
  unfold kgelu Cert.Mix.gelu
  rw [named1, named2, bits_half, bits_one, bits_scale, bits_cube, EReal.top_mul_top, EReal.coe_mul_top_of_neg neg2, EReal.add_bot,
    EReal.top_mul_bot, Ideal.exp2_bot, add_zero, EReal.top_mul_top, EReal.coe_mul_top_of_pos (by norm_num), EReal.top_add_top,
    EReal.coe_mul_top_of_pos (by norm_num), Ideal.tanh_top, ← EReal.coe_one, Ideal.div_coe (by norm_num), ← EReal.coe_add, ← EReal.coe_mul,
    EReal.top_mul_coe_of_pos (by norm_num), EReal.top_mul_coe_of_pos (by norm_num)]

theorem kgelu_bot : kgelu ⊥ = Cert.Mix.gelu ⊥ := by
  unfold kgelu Cert.Mix.gelu
  rw [named1, named2, bits_half, bits_one, bits_scale, bits_cube, EReal.bot_mul_bot, EReal.coe_mul_top_of_neg neg2, EReal.add_bot,
    EReal.bot_mul_bot, Ideal.exp2_top, EReal.bot_mul_top, EReal.coe_mul_bot_of_pos (by norm_num), EReal.bot_add,
    EReal.coe_mul_bot_of_pos (by norm_num), Ideal.tanh_bot, ← EReal.coe_one, EReal.coe_add_top, Ideal.div, if_neg EReal.top_ne_zero, EReal.inv_top,
    mul_zero, ← EReal.coe_neg, ← EReal.coe_add, add_neg_cancel, EReal.coe_zero, mul_zero, mul_zero]

/-- The kernel's gelu is gelu. -/
theorem kgelu_eq (a : EReal) : kgelu a = Cert.Mix.gelu a :=
  match a with
  | ⊥ => kgelu_bot
  | ⊤ => kgelu_top
  | (r : ℝ) => kgelu_coe r

end Cert.Peer

end
-- ==== Proof.Peer.Coef.lean ====
/- The coefficients of a slab's experts at a block of tokens, and the tile of them that each store writes. -/
module

public import proofs.«01_k».proof.Proof.Peer.Tile
public import proofs.«01_k».proof.Proof.Gen.Kernel5Ideal.Frame.Runs
public import Idealize.ShloMosaic.Lib.WholeRead

@[expose] public section

set_option maxRecDepth 16384

noncomputable section

namespace Cert.Peer

open Cert.Kernel5Ideal Cert.Kernel5Ideal.Gen Idealize.ShloMosaic Idealize.ShloMosaic.TcCoe Idealize.SL.Sem

/-- The coefficient of the expert in row `g` and column `j` of the slab's grid, at token `t`. -/
def coef (e : Fin 16) (x0 : Vec Ideal S2048x512 .bf16) (x1 : Vec Ideal S1024x2048 .bf16) (x3 x4 : Vec Ideal S8x128x512 .i32) (x5 x6 : Vec Ideal S8x128x512 .bf16)
    (g : Fin 8) (j : Fin 128) (t : Fin 512) : EReal :=
  kgelu (∑ k : Fin 2048, x1 (ix2 (⟨128 * g.val + j.val, by omega⟩ : Fin 1024) k) * x0 (ix2 k t))
    * ∑ h : Fin 8, half (j.val % 2) (x4 (ix3 h (⟨8 * e.val + g.val, by omega⟩ : Fin 128) t))
        * (if x5 (ix3 h j t) < half (j.val % 2) (x3 (ix3 h (⟨8 * e.val + g.val, by omega⟩ : Fin 128) t)) then x6 (ix3 h j t) else 0)

/-- The coefficients as the block they fill. -/
def coefs (e : Fin 16) (x0 : Vec Ideal S2048x512 .bf16) (x1 : Vec Ideal S1024x2048 .bf16) (x3 x4 : Vec Ideal S8x128x512 .i32) (x5 x6 : Vec Ideal S8x128x512 .bf16) :
    Vec Ideal S512x1024 .bf16 := fun y =>
  coef e x0 x1 x3 x4 x5 x6 ⟨(y 1).val / 128, by have : (y 1).val < 1024 := (y 1).isLt; omega⟩ ⟨(y 1).val % 128, by omega⟩ (y 0)

/-- Where the rows of an expert row's ranks and weights lie, by head. -/
def offs (i : grid0.Coords) (b : BitVec 32) : Fin 8 → Fin 3 → ℕ :=
  ![k0_off1 i b, k0_off2 i b, k0_off3 i b, k0_off4 i b, k0_off5 i b, k0_off6 i b, k0_off7 i b, k0_off8 i b]

theorem offs_eq (i : grid0.Coords) (g : Fin 8) : ∀ h : Fin 8, offs i (BitVec.ofNat 32 g.val) h = ![h.val, 8 * (i 1).val + g.val, 0]
  | ⟨0, _⟩ => k0_off1_eq i g
  | ⟨1, _⟩ => k0_off2_eq i g
  | ⟨2, _⟩ => k0_off3_eq i g
  | ⟨3, _⟩ => k0_off4_eq i g
  | ⟨4, _⟩ => k0_off5_eq i g
  | ⟨5, _⟩ => k0_off6_eq i g
  | ⟨6, _⟩ => k0_off7_eq i g
  | ⟨7, _⟩ => k0_off8_eq i g

theorem offs_inb (i : grid0.Coords) (g : Fin 8) : ∀ h : Fin 8, ∀ a, offs i (BitVec.ofNat 32 g.val) h a + S1x1x512.size a ≤ S8x128x512.size a
  | ⟨0, _⟩ => k0_off1_inb i g
  | ⟨1, _⟩ => k0_off2_inb i g
  | ⟨2, _⟩ => k0_off3_inb i g
  | ⟨3, _⟩ => k0_off4_inb i g
  | ⟨4, _⟩ => k0_off5_inb i g
  | ⟨5, _⟩ => k0_off6_inb i g
  | ⟨6, _⟩ => k0_off7_inb i g
  | ⟨7, _⟩ => k0_off8_inb i g

/-- A load of one row of the ranks or the weights reads it. -/
theorem load_row (arg : Memref sig .tc .vmem S8x128x512 .i32) (harg : arg.IsWhole) (x : Vec Ideal S8x128x512 .i32) (off : Fin 3 → ℕ)
    (h : Fin 8) (q : Fin 128) (ho : off = ![h.val, q.val, 0]) (inb : ∀ a, off a + S1x1x512.size a ≤ S8x128x512.size a) (t : Fin 512) :
    View.readAt (Elt Ideal) arg.view (Rect.unit (s := S8x128x512) off S1x1x512.size inb).toLoadRect (harg.unread x) (ix3 0 0 t)
      = x (ix3 h q t) := by
  subst ho
  refine (harg.readAt_unread x _ _).trans (congrArg x (funext fun a => ?_))
  fin_cases a
  · exact Fin.ext (by show h.val + 1 * 0 = h.val; omega)
  · exact Fin.ext (by show q.val + 1 * 0 = q.val; omega)
  · exact Fin.ext (by show 0 + 1 * t.val = t.val; omega)

/-- A load of a square of one head's ranks or weights reads it. -/
theorem load_square (arg : Memref sig .tc .vmem S8x128x512 .bf16) (harg : arg.IsWhole) (x : Vec Ideal S8x128x512 .bf16) (h : Fin 8) (o : ℕ)
    (ho : o + 128 ≤ 512) (inb : ∀ a, (![h.val, 0, o] : Fin 3 → ℕ) a + S1x128x128.size a ≤ S8x128x512.size a) (j t : Fin 128) :
    View.readAt (Elt Ideal) arg.view (Rect.unit (s := S8x128x512) ![h.val, 0, o] S1x128x128.size inb).toLoadRect (harg.unread x) (ix3 0 j t)
      = x (ix3 h j (⟨o + t.val, by omega⟩ : Fin 512)) := by
  refine (harg.readAt_unread x _ _).trans (congrArg x (funext fun a => ?_))
  fin_cases a
  · exact Fin.ext (by show h.val + 1 * 0 = h.val; omega)
  · exact Fin.ext (by show 0 + 1 * j.val = j.val; omega)
  · exact Fin.ext (by show o + 1 * t.val = o + t.val; omega)

/-- A load of a matrix's rows reads them. -/
theorem load_rows {n m k o : ℕ} {φ : EltTy} (arg : Memref sig .tc .vmem ⟨2, ![n, m]⟩ φ) (harg : arg.IsWhole) (x : Vec Ideal ⟨2, ![n, m]⟩ φ)
    (inb : ∀ a, (![o, 0] : Fin 2 → ℕ) a + (⟨2, ![k, m]⟩ : Shape).size a ≤ (⟨2, ![n, m]⟩ : Shape).size a) (j : Fin k) (l : Fin m) (ho : o + j.val < n) :
    View.readAt (Elt Ideal) arg.view (Rect.unit (s := ⟨2, ![n, m]⟩) ![o, 0] (⟨2, ![k, m]⟩ : Shape).size inb).toLoadRect (harg.unread x) (ix2 j l)
      = x (ix2 (⟨o + j.val, ho⟩ : Fin n) l) := by
  refine (harg.readAt_unread x _ _).trans (congrArg x (funext fun a => ?_))
  fin_cases a
  · exact Fin.ext (by show o + 1 * j.val = o + j.val; omega)
  · exact Fin.ext (by show 0 + 1 * l.val = l.val; omega)

/-- The store of one tile writes the coefficients of its experts at its tokens. -/
theorem tile_piece (i : grid0.Coords) (arg2 : Memref sig .tc .vmem S2048x512 .bf16) (harg2 : arg2.IsWhole)
    (arg3 : Memref sig .tc .vmem S1024x2048 .bf16) (harg3 : arg3.IsWhole) (arg5 : Memref sig .tc .vmem S8x128x512 .i32) (harg5 : arg5.IsWhole)
    (arg6 : Memref sig .tc .vmem S8x128x512 .i32) (harg6 : arg6.IsWhole) (arg7 : Memref sig .tc .vmem S8x128x512 .bf16) (harg7 : arg7.IsWhole)
    (arg8 : Memref sig .tc .vmem S8x128x512 .bf16) (harg8 : arg8.IsWhole)
    (x0 : Vec Ideal S2048x512 .bf16) (x1 : Vec Ideal S1024x2048 .bf16) (x3 x4 : Vec Ideal S8x128x512 .i32) (x5 x6 : Vec Ideal S8x128x512 .bf16)
    (g : Fin 8) (o p : ℕ) (hp : p = 128 * g.val) (ho : o + 128 ≤ 512)
    (i0 : ∀ a, (![0, 0] : Fin 2 → ℕ) a + S2048x512.size a ≤ S2048x512.size a)
    (i1 : ∀ q : Fin 8, ∀ a, (![128 * q.val, 0] : Fin 2 → ℕ) a + S128x2048.size a ≤ S1024x2048.size a)
    (ir : ∀ h : Fin 8, ∀ a, (![h.val, 0, o] : Fin 3 → ℕ) a + S1x128x128.size a ≤ S8x128x512.size a)
    (hs : S1x512.Slices ![0, o] S1x128) (ha : S1024x512.Slices ![p, o] S128x128)
    (it : ∀ a, (![o, p] : Fin 2 → ℕ) a + S128x128.size a ≤ S512x1024.size a) (x : S128x128.Idx) :
    tile (extractStridedSlice S128x128 ![p, o] (act
        (View.readAt (Elt Ideal) arg2.view (Rect.unit (s := S2048x512) ![0, 0] S2048x512.size i0).toLoadRect (harg2.unread x0))
        (fun q => View.readAt (Elt Ideal) arg3.view (Rect.unit (s := S1024x2048) ![128 * q.val, 0] S128x2048.size (i1 q)).toLoadRect (harg3.unread x1))) ha)
      (gate o hs
        (fun h => View.readAt (Elt Ideal) arg5.view (Rect.unit (s := S8x128x512) (offs i (BitVec.ofNat 32 g.val) h) S1x1x512.size (offs_inb i g h)).toLoadRect (harg5.unread x3))
        (fun h => View.readAt (Elt Ideal) arg6.view (Rect.unit (s := S8x128x512) (offs i (BitVec.ofNat 32 g.val) h) S1x1x512.size (offs_inb i g h)).toLoadRect (harg6.unread x4))
        (fun h => View.readAt (Elt Ideal) arg7.view (Rect.unit (s := S8x128x512) ![h.val, 0, o] S1x128x128.size (ir h)).toLoadRect (harg7.unread x5))
        (fun h => View.readAt (Elt Ideal) arg8.view (Rect.unit (s := S8x128x512) ![h.val, 0, o] S1x128x128.size (ir h)).toLoadRect (harg8.unread x6))) x
      = coefs (i 1) x0 x1 x3 x4 x5 x6 ((Rect.unit (s := S512x1024) ![o, p] S128x128.size it).emb x) := by
  subst hp
  obtain ⟨t, j, rfl⟩ : ∃ (t j : Fin 128), x = ix2 t j := ⟨x 0, x 1, funext fun a => by fin_cases a <;> rfl⟩
  have e0 : (Rect.unit (s := S512x1024) ![o, 128 * g.val] S128x128.size it).emb (ix2 t j)
      = ix2 (⟨o + t.val, by omega⟩ : Fin 512) (⟨128 * g.val + j.val, by omega⟩ : Fin 1024) := by
    funext a
    fin_cases a
    · exact Fin.ext (by show o + 1 * t.val = o + t.val; omega)
    · exact Fin.ext (by show 128 * g.val + 1 * j.val = 128 * g.val + j.val; omega)
  rw [e0, tile_at, gate_at o hs ho]
  have e1 : (⟨(128 * g.val + j.val) / 128, by omega⟩ : Fin 8) = g := Fin.ext (by show (128 * g.val + j.val) / 128 = g.val; omega)
  have e2 : (⟨(128 * g.val + j.val) % 128, by omega⟩ : Fin 128) = j := Fin.ext (by show (128 * g.val + j.val) % 128 = j.val; omega)
  show _ = coef (i 1) x0 x1 x3 x4 x5 x6 ⟨(128 * g.val + j.val) / 128, _⟩ ⟨(128 * g.val + j.val) % 128, _⟩ (⟨o + t.val, by omega⟩ : Fin 512)
  rw [e1, e2]
  unfold coef
  refine congrArg₂ (fun a b => kgelu a * b) ?_ ?_
  · have es : ∀ f : FVec Ideal S1024x512 .f32, extractStridedSlice S128x128 ![128 * g.val, o] f ha (ix2 j t)
        = f (ix2 (⟨128 * g.val + j.val, by omega⟩ : Fin 1024) (⟨o + t.val, by omega⟩ : Fin 512)) := by
      intro f; pointwise
    rw [es, act_at]
    refine Finset.sum_congr rfl fun k _ => congrArg₂ (· * ·) ?_ ?_
    · exact load_rows arg3 harg3 x1 (i1 g) j k (by omega)
    · refine (load_rows arg2 harg2 x0 i0 k (⟨o + t.val, by omega⟩ : Fin 512) (by omega)).trans (congrArg x0 (congrArg (ix2 · _) (Fin.ext (Nat.zero_add _))))
  · refine Finset.sum_congr rfl fun h _ => ?_
    unfold share
    have hc := load_row arg5 harg5 x3 _ h (⟨8 * (i 1).val + g.val, by have : (i 1).val < 16 := (i 1).isLt; omega⟩ : Fin 128) (offs_eq i g h) (offs_inb i g h)
    have hw := load_row arg6 harg6 x4 _ h (⟨8 * (i 1).val + g.val, by have : (i 1).val < 16 := (i 1).isLt; omega⟩ : Fin 128) (offs_eq i g h) (offs_inb i g h)
    rw [hc, hw, load_square arg7 harg7 x5 h o ho (ir h) j t, load_square arg8 harg8 x6 h o ho (ir h) j t]

end Cert.Peer

end
-- ==== Proof.Peer.Rows.lean ====
/- What a point adds to its block of outputs: the slab's experts, weighted by their coefficients. -/
module

public import proofs.«01_k».proof.Proof.Peer.Coef
public import proofs.«01_k».proof.Proof.Proj.Norm
public import Idealize.ShloMosaic.Lib.Pipeline.ValueKit
public import Idealize.ShloMosaic.Lib.Pipeline.ReadBack
public import Idealize.ShloMosaic.Lib.Pipeline.CanonAppend

@[expose] public section

set_option maxRecDepth 16384

noncomputable section

namespace Cert.Peer

open Cert.Kernel5Ideal Cert.Kernel5Ideal.Gen Idealize.ShloMosaic Idealize.ShloMosaic.TcCoe Idealize.SL.Sem

/-- A block of outputs with a slab's experts added. -/
def added (b : Vec Ideal S512x2048 .f32) (w : Vec Ideal S512x1024 .bf16) (v : Vec Ideal S1024x2048 .bf16) : Vec Ideal S512x2048 .f32 := fun y =>
  b y + ∑ k : Fin 1024, w (ix2 (y 0) k) * v (ix2 k (y 1))

/-- A block of outputs normed. -/
def normed (b : Vec Ideal S512x2048 .f32) (g : Vec Ideal S1x2048 .f32) : Vec Ideal S512x2048 .f32 := fun y =>
  Cert.Proj.norm (fun k => b (ix2 (y 0) k)) (fun k => g (ix2 0 k)) (y 1)

theorem rows_at (b : Vec Ideal S128x2048 .f32) (w : Vec Ideal S128x1024 .bf16) (v : Vec Ideal S1024x2048 .bf16) (j : Fin 128) (n : Fin 2048) :
    k0_pay587 b w v (ix2 j n) = b (ix2 j n) + ∑ k : Fin 1024, w (ix2 j k) * v (ix2 k n) := by
  unfold k0_pay587
  pointwise

theorem norm_at (b : Vec Ideal S512x2048 .f32) (g : Vec Ideal S1x2048 .f32) (t : Fin 512) (n : Fin 2048) :
    k0_pay2 b g (ix2 t n) = normed b g (ix2 t n) := by
  unfold k0_pay2 normed Cert.Proj.norm
  pointwise

/-- Rows of a buffer read back after stores that agree with `G`. -/
theorem back_rows {n m k o : ℕ} {φ : EltTy} (arg : Memref sig .tc .vmem ⟨2, ![n, m]⟩ φ) (G : Vec Ideal ⟨2, ![n, m]⟩ φ)
    (L : List (View.Piece (Elt Ideal) ⟨2, ![n, m]⟩ φ)) (hL : ∀ p ∈ L, ∀ x : p.1.shape.Idx, p.2 x = G (p.1.emb x)) (hc : ∀ y, ∃ p ∈ L, y ∈ p.1.set)
    (inb : ∀ a, (![o, 0] : Fin 2 → ℕ) a + (⟨2, ![k, m]⟩ : Shape).size a ≤ (⟨2, ![n, m]⟩ : Shape).size a) (j : Fin k) (l : Fin m) (ho : o + j.val < n) :
    arg.view.readCov L (Rect.unit (s := ⟨2, ![n, m]⟩) ![o, 0] (⟨2, ![k, m]⟩ : Shape).size inb).toLoadRect (ix2 j l)
      = G (ix2 (⟨o + j.val, ho⟩ : Fin n) l) := by
  rw [View.readCov_eq_canon']
  refine (View.canon_apply_of_pieces G L hL _ (hc _)).trans (congrArg G (funext fun a => ?_))
  fin_cases a
  · exact Fin.ext (by show o + 1 * j.val = o + j.val; omega)
  · exact Fin.ext (by show 0 + 1 * l.val = l.val; omega)

/-- The store of 128 rows of outputs writes those rows of `added`. -/
theorem rows_piece (arg4 : Memref sig .tc .vmem S1024x2048 .bf16) (harg4 : arg4.IsWhole) (arg12 : Memref sig .tc .vmem S512x1024 .bf16)
    (x2 : Vec Ideal S1024x2048 .bf16) (base : Vec Ideal S512x2048 .f32) (G : Vec Ideal S512x1024 .bf16)
    (L : List (View.Piece (Elt Ideal) S512x1024 .bf16)) (hL : ∀ p ∈ L, ∀ x : p.1.shape.Idx, p.2 x = G (p.1.emb x)) (hc : ∀ y, ∃ p ∈ L, y ∈ p.1.set)
    (o : ℕ) (ho : o + 128 ≤ 512) (b : Vec Ideal S128x2048 .f32)
    (hb : ∀ (j : Fin 128) (n : Fin 2048), b (ix2 j n) = base (ix2 (⟨o + j.val, by omega⟩ : Fin 512) n))
    (iw : ∀ a, (![o, 0] : Fin 2 → ℕ) a + S128x1024.size a ≤ S512x1024.size a)
    (iv : ∀ a, (![0, 0] : Fin 2 → ℕ) a + S1024x2048.size a ≤ S1024x2048.size a)
    (io : ∀ a, (![o, 0] : Fin 2 → ℕ) a + S128x2048.size a ≤ S512x2048.size a) (x : S128x2048.Idx) :
    k0_pay587 b (arg12.view.readCov L (Rect.unit (s := S512x1024) ![o, 0] S128x1024.size iw).toLoadRect)
      (View.readAt (Elt Ideal) arg4.view (Rect.unit (s := S1024x2048) ![0, 0] S1024x2048.size iv).toLoadRect (harg4.unread x2)) x
      = added base G x2 ((Rect.unit (s := S512x2048) ![o, 0] S128x2048.size io).emb x) := by
  obtain ⟨j, n, rfl⟩ : ∃ (j : Fin 128) (n : Fin 2048), x = ix2 j n := ⟨x 0, x 1, funext fun a => by fin_cases a <;> rfl⟩
  have e0 : (Rect.unit (s := S512x2048) ![o, 0] S128x2048.size io).emb (ix2 j n) = ix2 (⟨o + j.val, by omega⟩ : Fin 512) n := by
    funext a
    fin_cases a
    · exact Fin.ext (by show o + 1 * j.val = o + j.val; omega)
    · exact Fin.ext (by show 0 + 1 * n.val = n.val; omega)
  rw [e0, rows_at, hb]
  refine congrArg (base (ix2 (⟨o + j.val, by omega⟩ : Fin 512) n) + ·) (Finset.sum_congr rfl fun k _ => congrArg₂ (· * ·) ?_ ?_)
  · exact back_rows arg12 G L hL hc iw j k (by omega)
  · exact (load_rows arg4 harg4 x2 iv k n (by omega)).trans (congrArg x2 (congrArg (ix2 · n) (Fin.ext (Nat.zero_add _))))

end Cert.Peer

end
-- ==== Proof.Peer.TilesA.lean ====
/- The tiles of coefficients that a point of case A writes. -/
module

public import proofs.«01_k».proof.Proof.Peer.Coef
public import proofs.«01_k».proof.Proof.Gen.Kernel5Ideal.Value

@[expose] public section

set_option maxRecDepth 16384

noncomputable section

namespace Cert.Peer

open Cert.Kernel5Ideal Cert.Kernel5Ideal.Gen Idealize.ShloMosaic Idealize.ShloMosaic.TcCoe Idealize.SL.Sem

/-- The thirty-two stores of tiles write the coefficients. -/
theorem tilesA (c : Dev nD) (i : grid0.Coords) (arg2 : Memref sig .tc .vmem S2048x512 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S8x128x512 .i32) (harg5 : arg5.IsWhole) (arg6 : Memref sig .tc .vmem S8x128x512 .i32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x1024 .bf16) (harg12 : arg12.IsWhole) (hc0 : cond0_0 i) (hc1 : ¬cond0_1 i)
    (x0 : Vec Ideal S2048x512 .bf16) (x1 : Vec Ideal S1024x2048 .bf16) (x2 : Vec Ideal S1024x2048 .bf16) (x3 : Vec Ideal S8x128x512 .i32) (x4 : Vec Ideal S8x128x512 .i32) (x5 : Vec Ideal S8x128x512 .bf16) (x6 : Vec Ideal S8x128x512 .bf16) (x7 : Vec Ideal S512x2048 .f32) (x8 : Vec Ideal S1x2048 .f32) :
    ∀ p ∈ (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, ∀ x : p.1.shape.Idx, p.2 x = coefs (i 1) x0 x1 x3 x4 x5 x6 (p.1.emb x) := by
  unfold kernelRun0_A; dsimp only; sl_unfold_run_names
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun x => tile_piece i arg2 harg2 arg3 harg3 arg5 harg5 arg6 harg6 arg7 harg7 arg8 harg8 x0 x1 x3 x4 x5 x6 7 384 896 rfl (by decide) (by decide) (by decide) (by decide) slices_S1x512_o0_384_S1x128 slices_S1024x512_o896_384_S128x128 (by decide) x
  · exact fun x => tile_piece i arg2 harg2 arg3 harg3 arg5 harg5 arg6 harg6 arg7 harg7 arg8 harg8 x0 x1 x3 x4 x5 x6 7 256 896 rfl (by decide) (by decide) (by decide) (by decide) slices_S1x512_o0_256_S1x128 slices_S1024x512_o896_256_S128x128 (by decide) x
  · exact fun x => tile_piece i arg2 harg2 arg3 harg3 arg5 harg5 arg6 harg6 arg7 harg7 arg8 harg8 x0 x1 x3 x4 x5 x6 7 128 896 rfl (by decide) (by decide) (by decide) (by decide) slices_S1x512_o0_128_S1x128 slices_S1024x512_o896_128_S128x128 (by decide) x
  · exact fun x => tile_piece i arg2 harg2 arg3 harg3 arg5 harg5 arg6 harg6 arg7 harg7 arg8 harg8 x0 x1 x3 x4 x5 x6 7 0 896 rfl (by decide) (by decide) (by decide) (by decide) slices_S1x512_o0_0_S1x128 slices_S1024x512_o896_0_S128x128 (by decide) x
  · exact fun x => tile_piece i arg2 harg2 arg3 harg3 arg5 harg5 arg6 harg6 arg7 harg7 arg8 harg8 x0 x1 x3 x4 x5 x6 6 384 768 rfl (by decide) (by decide) (by decide) (by decide) slices_S1x512_o0_384_S1x128 slices_S1024x512_o768_384_S128x128 (by decide) x
  · exact fun x => tile_piece i arg2 harg2 arg3 harg3 arg5 harg5 arg6 harg6 arg7 harg7 arg8 harg8 x0 x1 x3 x4 x5 x6 6 256 768 rfl (by decide) (by decide) (by decide) (by decide) slices_S1x512_o0_256_S1x128 slices_S1024x512_o768_256_S128x128 (by decide) x
  · exact fun x => tile_piece i arg2 harg2 arg3 harg3 arg5 harg5 arg6 harg6 arg7 harg7 arg8 harg8 x0 x1 x3 x4 x5 x6 6 128 768 rfl (by decide) (by decide) (by decide) (by decide) slices_S1x512_o0_128_S1x128 slices_S1024x512_o768_128_S128x128 (by decide) x
  · exact fun x => tile_piece i arg2 harg2 arg3 harg3 arg5 harg5 arg6 harg6 arg7 harg7 arg8 harg8 x0 x1 x3 x4 x5 x6 6 0 768 rfl (by decide) (by decide) (by decide) (by decide) slices_S1x512_o0_0_S1x128 slices_S1024x512_o768_0_S128x128 (by decide) x
  · exact fun x => tile_piece i arg2 harg2 arg3 harg3 arg5 harg5 arg6 harg6 arg7 harg7 arg8 harg8 x0 x1 x3 x4 x5 x6 5 384 640 rfl (by decide) (by decide) (by decide) (by decide) slices_S1x512_o0_384_S1x128 slices_S1024x512_o640_384_S128x128 (by decide) x
  · exact fun x => tile_piece i arg2 harg2 arg3 harg3 arg5 harg5 arg6 harg6 arg7 harg7 arg8 harg8 x0 x1 x3 x4 x5 x6 5 256 640 rfl (by decide) (by decide) (by decide) (by decide) slices_S1x512_o0_256_S1x128 slices_S1024x512_o640_256_S128x128 (by decide) x
  · exact fun x => tile_piece i arg2 harg2 arg3 harg3 arg5 harg5 arg6 harg6 arg7 harg7 arg8 harg8 x0 x1 x3 x4 x5 x6 5 128 640 rfl (by decide) (by decide) (by decide) (by decide) slices_S1x512_o0_128_S1x128 slices_S1024x512_o640_128_S128x128 (by decide) x
  · exact fun x => tile_piece i arg2 harg2 arg3 harg3 arg5 harg5 arg6 harg6 arg7 harg7 arg8 harg8 x0 x1 x3 x4 x5 x6 5 0 640 rfl (by decide) (by decide) (by decide) (by decide) slices_S1x512_o0_0_S1x128 slices_S1024x512_o640_0_S128x128 (by decide) x
  · exact fun x => tile_piece i arg2 harg2 arg3 harg3 arg5 harg5 arg6 harg6 arg7 harg7 arg8 harg8 x0 x1 x3 x4 x5 x6 4 384 512 rfl (by decide) (by decide) (by decide) (by decide) slices_S1x512_o0_384_S1x128 slices_S1024x512_o512_384_S128x128 (by decide) x
  · exact fun x => tile_piece i arg2 harg2 arg3 harg3 arg5 harg5 arg6 harg6 arg7 harg7 arg8 harg8 x0 x1 x3 x4 x5 x6 4 256 512 rfl (by decide) (by decide) (by decide) (by decide) slices_S1x512_o0_256_S1x128 slices_S1024x512_o512_256_S128x128 (by decide) x
  · exact fun x => tile_piece i arg2 harg2 arg3 harg3 arg5 harg5 arg6 harg6 arg7 harg7 arg8 harg8 x0 x1 x3 x4 x5 x6 4 128 512 rfl (by decide) (by decide) (by decide) (by decide) slices_S1x512_o0_128_S1x128 slices_S1024x512_o512_128_S128x128 (by decide) x
  · exact fun x => tile_piece i arg2 harg2 arg3 harg3 arg5 harg5 arg6 harg6 arg7 harg7 arg8 harg8 x0 x1 x3 x4 x5 x6 4 0 512 rfl (by decide) (by decide) (by decide) (by decide) slices_S1x512_o0_0_S1x128 slices_S1024x512_o512_0_S128x128 (by decide) x
  · exact fun x => tile_piece i arg2 harg2 arg3 harg3 arg5 harg5 arg6 harg6 arg7 harg7 arg8 harg8 x0 x1 x3 x4 x5 x6 3 384 384 rfl (by decide) (by decide) (by decide) (by decide) slices_S1x512_o0_384_S1x128 slices_S1024x512_o384_384_S128x128 (by decide) x
  · exact fun x => tile_piece i arg2 harg2 arg3 harg3 arg5 harg5 arg6 harg6 arg7 harg7 arg8 harg8 x0 x1 x3 x4 x5 x6 3 256 384 rfl (by decide) (by decide) (by decide) (by decide) slices_S1x512_o0_256_S1x128 slices_S1024x512_o384_256_S128x128 (by decide) x
  · exact fun x => tile_piece i arg2 harg2 arg3 harg3 arg5 harg5 arg6 harg6 arg7 harg7 arg8 harg8 x0 x1 x3 x4 x5 x6 3 128 384 rfl (by decide) (by decide) (by decide) (by decide) slices_S1x512_o0_128_S1x128 slices_S1024x512_o384_128_S128x128 (by decide) x
  · exact fun x => tile_piece i arg2 harg2 arg3 harg3 arg5 harg5 arg6 harg6 arg7 harg7 arg8 harg8 x0 x1 x3 x4 x5 x6 3 0 384 rfl (by decide) (by decide) (by decide) (by decide) slices_S1x512_o0_0_S1x128 slices_S1024x512_o384_0_S128x128 (by decide) x
  · exact fun x => tile_piece i arg2 harg2 arg3 harg3 arg5 harg5 arg6 harg6 arg7 harg7 arg8 harg8 x0 x1 x3 x4 x5 x6 2 384 256 rfl (by decide) (by decide) (by decide) (by decide) slices_S1x512_o0_384_S1x128 slices_S1024x512_o256_384_S128x128 (by decide) x
  · exact fun x => tile_piece i arg2 harg2 arg3 harg3 arg5 harg5 arg6 harg6 arg7 harg7 arg8 harg8 x0 x1 x3 x4 x5 x6 2 256 256 rfl (by decide) (by decide) (by decide) (by decide) slices_S1x512_o0_256_S1x128 slices_S1024x512_o256_256_S128x128 (by decide) x
  · exact fun x => tile_piece i arg2 harg2 arg3 harg3 arg5 harg5 arg6 harg6 arg7 harg7 arg8 harg8 x0 x1 x3 x4 x5 x6 2 128 256 rfl (by decide) (by decide) (by decide) (by decide) slices_S1x512_o0_128_S1x128 slices_S1024x512_o256_128_S128x128 (by decide) x
  · exact fun x => tile_piece i arg2 harg2 arg3 harg3 arg5 harg5 arg6 harg6 arg7 harg7 arg8 harg8 x0 x1 x3 x4 x5 x6 2 0 256 rfl (by decide) (by decide) (by decide) (by decide) slices_S1x512_o0_0_S1x128 slices_S1024x512_o256_0_S128x128 (by decide) x
  · exact fun x => tile_piece i arg2 harg2 arg3 harg3 arg5 harg5 arg6 harg6 arg7 harg7 arg8 harg8 x0 x1 x3 x4 x5 x6 1 384 128 rfl (by decide) (by decide) (by decide) (by decide) slices_S1x512_o0_384_S1x128 slices_S1024x512_o128_384_S128x128 (by decide) x
  · exact fun x => tile_piece i arg2 harg2 arg3 harg3 arg5 harg5 arg6 harg6 arg7 harg7 arg8 harg8 x0 x1 x3 x4 x5 x6 1 256 128 rfl (by decide) (by decide) (by decide) (by decide) slices_S1x512_o0_256_S1x128 slices_S1024x512_o128_256_S128x128 (by decide) x
  · exact fun x => tile_piece i arg2 harg2 arg3 harg3 arg5 harg5 arg6 harg6 arg7 harg7 arg8 harg8 x0 x1 x3 x4 x5 x6 1 128 128 rfl (by decide) (by decide) (by decide) (by decide) slices_S1x512_o0_128_S1x128 slices_S1024x512_o128_128_S128x128 (by decide) x
  · exact fun x => tile_piece i arg2 harg2 arg3 harg3 arg5 harg5 arg6 harg6 arg7 harg7 arg8 harg8 x0 x1 x3 x4 x5 x6 1 0 128 rfl (by decide) (by decide) (by decide) (by decide) slices_S1x512_o0_0_S1x128 slices_S1024x512_o128_0_S128x128 (by decide) x
  · exact fun x => tile_piece i arg2 harg2 arg3 harg3 arg5 harg5 arg6 harg6 arg7 harg7 arg8 harg8 x0 x1 x3 x4 x5 x6 0 384 0 rfl (by decide) (by decide) (by decide) (by decide) slices_S1x512_o0_384_S1x128 slices_S1024x512_o0_384_S128x128 (by decide) x
  · exact fun x => tile_piece i arg2 harg2 arg3 harg3 arg5 harg5 arg6 harg6 arg7 harg7 arg8 harg8 x0 x1 x3 x4 x5 x6 0 256 0 rfl (by decide) (by decide) (by decide) (by decide) slices_S1x512_o0_256_S1x128 slices_S1024x512_o0_256_S128x128 (by decide) x
  · exact fun x => tile_piece i arg2 harg2 arg3 harg3 arg5 harg5 arg6 harg6 arg7 harg7 arg8 harg8 x0 x1 x3 x4 x5 x6 0 128 0 rfl (by decide) (by decide) (by decide) (by decide) slices_S1x512_o0_128_S1x128 slices_S1024x512_o0_128_S128x128 (by decide) x
  · exact fun x => tile_piece i arg2 harg2 arg3 harg3 arg5 harg5 arg6 harg6 arg7 harg7 arg8 harg8 x0 x1 x3 x4 x5 x6 0 0 0 rfl (by decide) (by decide) (by decide) (by decide) slices_S1x512_o0_0_S1x128 slices_S1024x512_o0_0_S128x128 (by decide) x

end Cert.Peer

end
-- ==== Proof.Peer.OutA.lean ====
/- A point of case A leaves the residual with the first slab added. -/
module

public import proofs.«01_k».proof.Proof.Peer.Rows
public import proofs.«01_k».proof.Proof.Peer.TilesA

@[expose] public section

set_option maxRecDepth 16384

noncomputable section

namespace Cert.Peer

open Cert.Kernel5Ideal Cert.Kernel5Ideal.Gen Idealize.ShloMosaic Idealize.ShloMosaic.TcCoe Idealize.SL.Sem

/-- The tiles cover the coefficients' block. -/
theorem coverA (c : Dev nD) (i : grid0.Coords) (arg2 : Memref sig .tc .vmem S2048x512 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S8x128x512 .i32) (harg5 : arg5.IsWhole) (arg6 : Memref sig .tc .vmem S8x128x512 .i32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x1024 .bf16) (harg12 : arg12.IsWhole) (hc0 : cond0_0 i) (hc1 : ¬cond0_1 i)
    (x0 : Vec Ideal S2048x512 .bf16) (x1 : Vec Ideal S1024x2048 .bf16) (x2 : Vec Ideal S1024x2048 .bf16) (x3 : Vec Ideal S8x128x512 .i32) (x4 : Vec Ideal S8x128x512 .i32) (x5 : Vec Ideal S8x128x512 .bf16) (x6 : Vec Ideal S8x128x512 .bf16) (x7 : Vec Ideal S512x2048 .f32) (x8 : Vec Ideal S1x2048 .f32) :
    ∀ y, ∃ p ∈ (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ p.1.set :=
  View.cover_of_tiledL (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 S128x128.size (by sl_kernel_rfl)

/-- The rows of the residual, read back before their slab is added. -/
theorem backA (arg9 : Memref sig .tc .vmem S512x2048 .f32) (harg9 : arg9.IsWhole) (arg11 : Memref sig .tc .vmem S512x2048 .f32)
    (x7 : Vec Ideal S512x2048 .f32) (i7 : ∀ a, (![0, 0] : Fin 2 → ℕ) a + S512x2048.size a ≤ S512x2048.size a) (o : ℕ) (ho : o + 128 ≤ 512)
    (io : ∀ a, (![o, 0] : Fin 2 → ℕ) a + S128x2048.size a ≤ S512x2048.size a) (j : Fin 128) (n : Fin 2048) :
    arg11.view.readCov [(⟨Rect.unit (s := S512x2048) ![0, 0] S512x2048.size i7,
        View.readAt (Elt Ideal) arg9.view (Rect.unit (s := S512x2048) ![0, 0] S512x2048.size i7).toLoadRect (harg9.unread x7)⟩ : View.Piece (Elt Ideal) S512x2048 .f32)]
      (Rect.unit (s := S512x2048) ![o, 0] S128x2048.size io).toLoadRect (ix2 j n) = x7 (ix2 (⟨o + j.val, by omega⟩ : Fin 512) n) := by
  rw [View.readCov_eq_canon', View.canon_cons_unit_lit _ _ _ (by decide)]
  refine Eq.trans (congrArg _ (?_ : _ = ix2 (⟨o + j.val, by omega⟩ : Fin 512) n)) ((load_rows arg9 harg9 x7 i7 (⟨o + j.val, by omega⟩ : Fin 512) n (by omega)).trans
    (congrArg x7 (congrArg (ix2 · n) (Fin.ext (Nat.zero_add _)))))
  funext a
  fin_cases a
  · exact Fin.ext (by show o + 1 * j.val = o + j.val; omega)
  · exact Fin.ext (by show 0 + 1 * n.val = n.val; omega)

/-- Rows already stored do not bear on the rows after them. -/
theorem skipA (arg11 : Memref sig .tc .vmem S512x2048 .f32) (o q : ℕ) (h : q + 128 ≤ o) (w : S128x2048.Idx → Elt Ideal .f32)
    (L : List (View.Piece (Elt Ideal) S512x2048 .f32)) (iq : ∀ a, (![q, 0] : Fin 2 → ℕ) a + S128x2048.size a ≤ S512x2048.size a)
    (io : ∀ a, (![o, 0] : Fin 2 → ℕ) a + S128x2048.size a ≤ S512x2048.size a) (j : Fin 128) (n : Fin 2048) :
    arg11.view.readCov ((⟨Rect.unit (s := S512x2048) ![q, 0] S128x2048.size iq, w⟩ : View.Piece (Elt Ideal) S512x2048 .f32) :: L)
      (Rect.unit (s := S512x2048) ![o, 0] S128x2048.size io).toLoadRect (ix2 j n)
      = arg11.view.readCov L (Rect.unit (s := S512x2048) ![o, 0] S128x2048.size io).toLoadRect (ix2 j n) := by
  rw [View.readCov_eq_canon', View.readCov_eq_canon']
  refine View.canon_cons_of_not_mem _ L fun hm => ?_
  have h1 : o + 1 * j.val < q + 128 := ((Rect.mem_set_unit (inb := iq)).mp hm (0 : Fin 2)).2
  omega

/-- What a point of case A leaves. -/
theorem outA (c : Dev nD) (i : grid0.Coords) (arg2 : Memref sig .tc .vmem S2048x512 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S8x128x512 .i32) (harg5 : arg5.IsWhole) (arg6 : Memref sig .tc .vmem S8x128x512 .i32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x1024 .bf16) (harg12 : arg12.IsWhole) (hc0 : cond0_0 i) (hc1 : ¬cond0_1 i)
    (x0 : Vec Ideal S2048x512 .bf16) (x1 : Vec Ideal S1024x2048 .bf16) (x2 : Vec Ideal S1024x2048 .bf16) (x3 : Vec Ideal S8x128x512 .i32) (x4 : Vec Ideal S8x128x512 .i32) (x5 : Vec Ideal S8x128x512 .bf16) (x6 : Vec Ideal S8x128x512 .bf16) (x7 : Vec Ideal S512x2048 .f32) (x8 : Vec Ideal S1x2048 .f32) (y : S512x2048.Idx) :
    out0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 y = added x7 (coefs (i 1) x0 x1 x3 x4 x5 x6) x2 y := by
  unfold out0_A_9
  rw [View.read_writes_junk_eq_canon]
  unfold kernelRun0_A; dsimp only; sl_unfold_run_names
  refine View.canon_append_of_pieces (added x7 (coefs (i 1) x0 x1 x3 x4 x5 x6) x2) [_] [_, _, _, _] ?_ y ?_
  · simp only [List.forall_mem_cons, List.not_mem_nil, false_imp_iff, implies_true, and_true]
    refine ⟨?_, ?_, ?_, ?_⟩
    · intro x; refine rows_piece arg4 harg4 arg12 x2 x7 (coefs (i 1) x0 x1 x3 x4 x5 x6) (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 (tilesA c i arg2 harg2 arg3 harg3 arg4 harg4 arg5 harg5 arg6 harg6 arg7 harg7 arg8 harg8 arg9 harg9 arg10 harg10 arg11 harg11 arg12 harg12 hc0 hc1 x0 x1 x2 x3 x4 x5 x6 x7 x8) (coverA c i arg2 harg2 arg3 harg3 arg4 harg4 arg5 harg5 arg6 harg6 arg7 harg7 arg8 harg8 arg9 harg9 arg10 harg10 arg11 harg11 arg12 harg12 hc0 hc1 x0 x1 x2 x3 x4 x5 x6 x7 x8) 384 (by decide) _ ?_ (by decide) (by decide) (by decide) x
      intro j n
      refine (skipA arg11 384 256 (by decide) _ _ (by decide) (by decide) j n).trans ?_
      refine (skipA arg11 384 128 (by decide) _ _ (by decide) (by decide) j n).trans ?_
      refine (skipA arg11 384 0 (by decide) _ _ (by decide) (by decide) j n).trans ?_
      exact backA arg9 harg9 arg11 x7 (by decide) 384 (by decide) (by decide) j n
    · intro x; refine rows_piece arg4 harg4 arg12 x2 x7 (coefs (i 1) x0 x1 x3 x4 x5 x6) (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 (tilesA c i arg2 harg2 arg3 harg3 arg4 harg4 arg5 harg5 arg6 harg6 arg7 harg7 arg8 harg8 arg9 harg9 arg10 harg10 arg11 harg11 arg12 harg12 hc0 hc1 x0 x1 x2 x3 x4 x5 x6 x7 x8) (coverA c i arg2 harg2 arg3 harg3 arg4 harg4 arg5 harg5 arg6 harg6 arg7 harg7 arg8 harg8 arg9 harg9 arg10 harg10 arg11 harg11 arg12 harg12 hc0 hc1 x0 x1 x2 x3 x4 x5 x6 x7 x8) 256 (by decide) _ ?_ (by decide) (by decide) (by decide) x
      intro j n
      refine (skipA arg11 256 128 (by decide) _ _ (by decide) (by decide) j n).trans ?_
      refine (skipA arg11 256 0 (by decide) _ _ (by decide) (by decide) j n).trans ?_
      exact backA arg9 harg9 arg11 x7 (by decide) 256 (by decide) (by decide) j n
    · intro x; refine rows_piece arg4 harg4 arg12 x2 x7 (coefs (i 1) x0 x1 x3 x4 x5 x6) (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 (tilesA c i arg2 harg2 arg3 harg3 arg4 harg4 arg5 harg5 arg6 harg6 arg7 harg7 arg8 harg8 arg9 harg9 arg10 harg10 arg11 harg11 arg12 harg12 hc0 hc1 x0 x1 x2 x3 x4 x5 x6 x7 x8) (coverA c i arg2 harg2 arg3 harg3 arg4 harg4 arg5 harg5 arg6 harg6 arg7 harg7 arg8 harg8 arg9 harg9 arg10 harg10 arg11 harg11 arg12 harg12 hc0 hc1 x0 x1 x2 x3 x4 x5 x6 x7 x8) 128 (by decide) _ ?_ (by decide) (by decide) (by decide) x
      intro j n
      refine (skipA arg11 128 0 (by decide) _ _ (by decide) (by decide) j n).trans ?_
      exact backA arg9 harg9 arg11 x7 (by decide) 128 (by decide) (by decide) j n
    · intro x; refine rows_piece arg4 harg4 arg12 x2 x7 (coefs (i 1) x0 x1 x3 x4 x5 x6) (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 (tilesA c i arg2 harg2 arg3 harg3 arg4 harg4 arg5 harg5 arg6 harg6 arg7 harg7 arg8 harg8 arg9 harg9 arg10 harg10 arg11 harg11 arg12 harg12 hc0 hc1 x0 x1 x2 x3 x4 x5 x6 x7 x8) (coverA c i arg2 harg2 arg3 harg3 arg4 harg4 arg5 harg5 arg6 harg6 arg7 harg7 arg8 harg8 arg9 harg9 arg10 harg10 arg11 harg11 arg12 harg12 hc0 hc1 x0 x1 x2 x3 x4 x5 x6 x7 x8) 0 (by decide) _ ?_ (by decide) (by decide) (by decide) x
      intro j n
      exact backA arg9 harg9 arg11 x7 (by decide) 0 (by decide) (by decide) j n
  · exact View.cover_of_tiledL (s := S512x2048) _ S128x2048.size (by sl_kernel_rfl) y

end Cert.Peer

end
-- ==== Proof.Peer.TilesB.lean ====
/- The tiles of coefficients that a point of case B writes. -/
module

public import proofs.«01_k».proof.Proof.Peer.Coef
public import proofs.«01_k».proof.Proof.Gen.Kernel5Ideal.Value

@[expose] public section

set_option maxRecDepth 16384

noncomputable section

namespace Cert.Peer

open Cert.Kernel5Ideal Cert.Kernel5Ideal.Gen Idealize.ShloMosaic Idealize.ShloMosaic.TcCoe Idealize.SL.Sem

/-- The thirty-two stores of tiles write the coefficients. -/
theorem tilesB (c : Dev nD) (i : grid0.Coords) (arg2 : Memref sig .tc .vmem S2048x512 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S8x128x512 .i32) (harg5 : arg5.IsWhole) (arg6 : Memref sig .tc .vmem S8x128x512 .i32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x1024 .bf16) (harg12 : arg12.IsWhole) (hc0 : ¬cond0_0 i) (hc1 : ¬cond0_1 i)
    (x0 : Vec Ideal S2048x512 .bf16) (x1 : Vec Ideal S1024x2048 .bf16) (x2 : Vec Ideal S1024x2048 .bf16) (x3 : Vec Ideal S8x128x512 .i32) (x4 : Vec Ideal S8x128x512 .i32) (x5 : Vec Ideal S8x128x512 .bf16) (x6 : Vec Ideal S8x128x512 .bf16) (x7 : Vec Ideal S512x2048 .f32) (x8 : Vec Ideal S1x2048 .f32) (xo9 : Vec Ideal S512x2048 .f32) :
    ∀ p ∈ (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9).2.1, ∀ x : p.1.shape.Idx, p.2 x = coefs (i 1) x0 x1 x3 x4 x5 x6 (p.1.emb x) := by
  unfold kernelRun0_B; dsimp only; sl_unfold_run_names
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun x => tile_piece i arg2 harg2 arg3 harg3 arg5 harg5 arg6 harg6 arg7 harg7 arg8 harg8 x0 x1 x3 x4 x5 x6 7 384 896 rfl (by decide) (by decide) (by decide) (by decide) slices_S1x512_o0_384_S1x128 slices_S1024x512_o896_384_S128x128 (by decide) x
  · exact fun x => tile_piece i arg2 harg2 arg3 harg3 arg5 harg5 arg6 harg6 arg7 harg7 arg8 harg8 x0 x1 x3 x4 x5 x6 7 256 896 rfl (by decide) (by decide) (by decide) (by decide) slices_S1x512_o0_256_S1x128 slices_S1024x512_o896_256_S128x128 (by decide) x
  · exact fun x => tile_piece i arg2 harg2 arg3 harg3 arg5 harg5 arg6 harg6 arg7 harg7 arg8 harg8 x0 x1 x3 x4 x5 x6 7 128 896 rfl (by decide) (by decide) (by decide) (by decide) slices_S1x512_o0_128_S1x128 slices_S1024x512_o896_128_S128x128 (by decide) x
  · exact fun x => tile_piece i arg2 harg2 arg3 harg3 arg5 harg5 arg6 harg6 arg7 harg7 arg8 harg8 x0 x1 x3 x4 x5 x6 7 0 896 rfl (by decide) (by decide) (by decide) (by decide) slices_S1x512_o0_0_S1x128 slices_S1024x512_o896_0_S128x128 (by decide) x
  · exact fun x => tile_piece i arg2 harg2 arg3 harg3 arg5 harg5 arg6 harg6 arg7 harg7 arg8 harg8 x0 x1 x3 x4 x5 x6 6 384 768 rfl (by decide) (by decide) (by decide) (by decide) slices_S1x512_o0_384_S1x128 slices_S1024x512_o768_384_S128x128 (by decide) x
  · exact fun x => tile_piece i arg2 harg2 arg3 harg3 arg5 harg5 arg6 harg6 arg7 harg7 arg8 harg8 x0 x1 x3 x4 x5 x6 6 256 768 rfl (by decide) (by decide) (by decide) (by decide) slices_S1x512_o0_256_S1x128 slices_S1024x512_o768_256_S128x128 (by decide) x
  · exact fun x => tile_piece i arg2 harg2 arg3 harg3 arg5 harg5 arg6 harg6 arg7 harg7 arg8 harg8 x0 x1 x3 x4 x5 x6 6 128 768 rfl (by decide) (by decide) (by decide) (by decide) slices_S1x512_o0_128_S1x128 slices_S1024x512_o768_128_S128x128 (by decide) x
  · exact fun x => tile_piece i arg2 harg2 arg3 harg3 arg5 harg5 arg6 harg6 arg7 harg7 arg8 harg8 x0 x1 x3 x4 x5 x6 6 0 768 rfl (by decide) (by decide) (by decide) (by decide) slices_S1x512_o0_0_S1x128 slices_S1024x512_o768_0_S128x128 (by decide) x
  · exact fun x => tile_piece i arg2 harg2 arg3 harg3 arg5 harg5 arg6 harg6 arg7 harg7 arg8 harg8 x0 x1 x3 x4 x5 x6 5 384 640 rfl (by decide) (by decide) (by decide) (by decide) slices_S1x512_o0_384_S1x128 slices_S1024x512_o640_384_S128x128 (by decide) x
  · exact fun x => tile_piece i arg2 harg2 arg3 harg3 arg5 harg5 arg6 harg6 arg7 harg7 arg8 harg8 x0 x1 x3 x4 x5 x6 5 256 640 rfl (by decide) (by decide) (by decide) (by decide) slices_S1x512_o0_256_S1x128 slices_S1024x512_o640_256_S128x128 (by decide) x
  · exact fun x => tile_piece i arg2 harg2 arg3 harg3 arg5 harg5 arg6 harg6 arg7 harg7 arg8 harg8 x0 x1 x3 x4 x5 x6 5 128 640 rfl (by decide) (by decide) (by decide) (by decide) slices_S1x512_o0_128_S1x128 slices_S1024x512_o640_128_S128x128 (by decide) x
  · exact fun x => tile_piece i arg2 harg2 arg3 harg3 arg5 harg5 arg6 harg6 arg7 harg7 arg8 harg8 x0 x1 x3 x4 x5 x6 5 0 640 rfl (by decide) (by decide) (by decide) (by decide) slices_S1x512_o0_0_S1x128 slices_S1024x512_o640_0_S128x128 (by decide) x
  · exact fun x => tile_piece i arg2 harg2 arg3 harg3 arg5 harg5 arg6 harg6 arg7 harg7 arg8 harg8 x0 x1 x3 x4 x5 x6 4 384 512 rfl (by decide) (by decide) (by decide) (by decide) slices_S1x512_o0_384_S1x128 slices_S1024x512_o512_384_S128x128 (by decide) x
  · exact fun x => tile_piece i arg2 harg2 arg3 harg3 arg5 harg5 arg6 harg6 arg7 harg7 arg8 harg8 x0 x1 x3 x4 x5 x6 4 256 512 rfl (by decide) (by decide) (by decide) (by decide) slices_S1x512_o0_256_S1x128 slices_S1024x512_o512_256_S128x128 (by decide) x
  · exact fun x => tile_piece i arg2 harg2 arg3 harg3 arg5 harg5 arg6 harg6 arg7 harg7 arg8 harg8 x0 x1 x3 x4 x5 x6 4 128 512 rfl (by decide) (by decide) (by decide) (by decide) slices_S1x512_o0_128_S1x128 slices_S1024x512_o512_128_S128x128 (by decide) x
  · exact fun x => tile_piece i arg2 harg2 arg3 harg3 arg5 harg5 arg6 harg6 arg7 harg7 arg8 harg8 x0 x1 x3 x4 x5 x6 4 0 512 rfl (by decide) (by decide) (by decide) (by decide) slices_S1x512_o0_0_S1x128 slices_S1024x512_o512_0_S128x128 (by decide) x
  · exact fun x => tile_piece i arg2 harg2 arg3 harg3 arg5 harg5 arg6 harg6 arg7 harg7 arg8 harg8 x0 x1 x3 x4 x5 x6 3 384 384 rfl (by decide) (by decide) (by decide) (by decide) slices_S1x512_o0_384_S1x128 slices_S1024x512_o384_384_S128x128 (by decide) x
  · exact fun x => tile_piece i arg2 harg2 arg3 harg3 arg5 harg5 arg6 harg6 arg7 harg7 arg8 harg8 x0 x1 x3 x4 x5 x6 3 256 384 rfl (by decide) (by decide) (by decide) (by decide) slices_S1x512_o0_256_S1x128 slices_S1024x512_o384_256_S128x128 (by decide) x
  · exact fun x => tile_piece i arg2 harg2 arg3 harg3 arg5 harg5 arg6 harg6 arg7 harg7 arg8 harg8 x0 x1 x3 x4 x5 x6 3 128 384 rfl (by decide) (by decide) (by decide) (by decide) slices_S1x512_o0_128_S1x128 slices_S1024x512_o384_128_S128x128 (by decide) x
  · exact fun x => tile_piece i arg2 harg2 arg3 harg3 arg5 harg5 arg6 harg6 arg7 harg7 arg8 harg8 x0 x1 x3 x4 x5 x6 3 0 384 rfl (by decide) (by decide) (by decide) (by decide) slices_S1x512_o0_0_S1x128 slices_S1024x512_o384_0_S128x128 (by decide) x
  · exact fun x => tile_piece i arg2 harg2 arg3 harg3 arg5 harg5 arg6 harg6 arg7 harg7 arg8 harg8 x0 x1 x3 x4 x5 x6 2 384 256 rfl (by decide) (by decide) (by decide) (by decide) slices_S1x512_o0_384_S1x128 slices_S1024x512_o256_384_S128x128 (by decide) x
  · exact fun x => tile_piece i arg2 harg2 arg3 harg3 arg5 harg5 arg6 harg6 arg7 harg7 arg8 harg8 x0 x1 x3 x4 x5 x6 2 256 256 rfl (by decide) (by decide) (by decide) (by decide) slices_S1x512_o0_256_S1x128 slices_S1024x512_o256_256_S128x128 (by decide) x
  · exact fun x => tile_piece i arg2 harg2 arg3 harg3 arg5 harg5 arg6 harg6 arg7 harg7 arg8 harg8 x0 x1 x3 x4 x5 x6 2 128 256 rfl (by decide) (by decide) (by decide) (by decide) slices_S1x512_o0_128_S1x128 slices_S1024x512_o256_128_S128x128 (by decide) x
  · exact fun x => tile_piece i arg2 harg2 arg3 harg3 arg5 harg5 arg6 harg6 arg7 harg7 arg8 harg8 x0 x1 x3 x4 x5 x6 2 0 256 rfl (by decide) (by decide) (by decide) (by decide) slices_S1x512_o0_0_S1x128 slices_S1024x512_o256_0_S128x128 (by decide) x
  · exact fun x => tile_piece i arg2 harg2 arg3 harg3 arg5 harg5 arg6 harg6 arg7 harg7 arg8 harg8 x0 x1 x3 x4 x5 x6 1 384 128 rfl (by decide) (by decide) (by decide) (by decide) slices_S1x512_o0_384_S1x128 slices_S1024x512_o128_384_S128x128 (by decide) x
  · exact fun x => tile_piece i arg2 harg2 arg3 harg3 arg5 harg5 arg6 harg6 arg7 harg7 arg8 harg8 x0 x1 x3 x4 x5 x6 1 256 128 rfl (by decide) (by decide) (by decide) (by decide) slices_S1x512_o0_256_S1x128 slices_S1024x512_o128_256_S128x128 (by decide) x
  · exact fun x => tile_piece i arg2 harg2 arg3 harg3 arg5 harg5 arg6 harg6 arg7 harg7 arg8 harg8 x0 x1 x3 x4 x5 x6 1 128 128 rfl (by decide) (by decide) (by decide) (by decide) slices_S1x512_o0_128_S1x128 slices_S1024x512_o128_128_S128x128 (by decide) x
  · exact fun x => tile_piece i arg2 harg2 arg3 harg3 arg5 harg5 arg6 harg6 arg7 harg7 arg8 harg8 x0 x1 x3 x4 x5 x6 1 0 128 rfl (by decide) (by decide) (by decide) (by decide) slices_S1x512_o0_0_S1x128 slices_S1024x512_o128_0_S128x128 (by decide) x
  · exact fun x => tile_piece i arg2 harg2 arg3 harg3 arg5 harg5 arg6 harg6 arg7 harg7 arg8 harg8 x0 x1 x3 x4 x5 x6 0 384 0 rfl (by decide) (by decide) (by decide) (by decide) slices_S1x512_o0_384_S1x128 slices_S1024x512_o0_384_S128x128 (by decide) x
  · exact fun x => tile_piece i arg2 harg2 arg3 harg3 arg5 harg5 arg6 harg6 arg7 harg7 arg8 harg8 x0 x1 x3 x4 x5 x6 0 256 0 rfl (by decide) (by decide) (by decide) (by decide) slices_S1x512_o0_256_S1x128 slices_S1024x512_o0_256_S128x128 (by decide) x
  · exact fun x => tile_piece i arg2 harg2 arg3 harg3 arg5 harg5 arg6 harg6 arg7 harg7 arg8 harg8 x0 x1 x3 x4 x5 x6 0 128 0 rfl (by decide) (by decide) (by decide) (by decide) slices_S1x512_o0_128_S1x128 slices_S1024x512_o0_128_S128x128 (by decide) x
  · exact fun x => tile_piece i arg2 harg2 arg3 harg3 arg5 harg5 arg6 harg6 arg7 harg7 arg8 harg8 x0 x1 x3 x4 x5 x6 0 0 0 rfl (by decide) (by decide) (by decide) (by decide) slices_S1x512_o0_0_S1x128 slices_S1024x512_o0_0_S128x128 (by decide) x

end Cert.Peer

end
-- ==== Proof.Peer.OutB.lean ====
/- A point of case B leaves what the point before left with its slab added. -/
module

public import proofs.«01_k».proof.Proof.Peer.Rows
public import proofs.«01_k».proof.Proof.Peer.TilesB

@[expose] public section

set_option maxRecDepth 16384

noncomputable section

namespace Cert.Peer

open Cert.Kernel5Ideal Cert.Kernel5Ideal.Gen Idealize.ShloMosaic Idealize.ShloMosaic.TcCoe Idealize.SL.Sem

/-- The tiles cover the coefficients' block. -/
theorem coverB (c : Dev nD) (i : grid0.Coords) (arg2 : Memref sig .tc .vmem S2048x512 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S8x128x512 .i32) (harg5 : arg5.IsWhole) (arg6 : Memref sig .tc .vmem S8x128x512 .i32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x1024 .bf16) (harg12 : arg12.IsWhole) (hc0 : ¬cond0_0 i) (hc1 : ¬cond0_1 i)
    (x0 : Vec Ideal S2048x512 .bf16) (x1 : Vec Ideal S1024x2048 .bf16) (x2 : Vec Ideal S1024x2048 .bf16) (x3 : Vec Ideal S8x128x512 .i32) (x4 : Vec Ideal S8x128x512 .i32) (x5 : Vec Ideal S8x128x512 .bf16) (x6 : Vec Ideal S8x128x512 .bf16) (x7 : Vec Ideal S512x2048 .f32) (x8 : Vec Ideal S1x2048 .f32) (xo9 : Vec Ideal S512x2048 .f32) :
    ∀ y, ∃ p ∈ (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9).2.1, y ∈ p.1.set :=
  View.cover_of_tiledL (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9).2.1 S128x128.size (by sl_kernel_rfl)

theorem rowsB (c : Dev nD) (i : grid0.Coords) (arg2 : Memref sig .tc .vmem S2048x512 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S8x128x512 .i32) (harg5 : arg5.IsWhole) (arg6 : Memref sig .tc .vmem S8x128x512 .i32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x1024 .bf16) (harg12 : arg12.IsWhole) (hc0 : ¬cond0_0 i) (hc1 : ¬cond0_1 i)
    (x0 : Vec Ideal S2048x512 .bf16) (x1 : Vec Ideal S1024x2048 .bf16) (x2 : Vec Ideal S1024x2048 .bf16) (x3 : Vec Ideal S8x128x512 .i32) (x4 : Vec Ideal S8x128x512 .i32) (x5 : Vec Ideal S8x128x512 .bf16) (x6 : Vec Ideal S8x128x512 .bf16) (x7 : Vec Ideal S512x2048 .f32) (x8 : Vec Ideal S1x2048 .f32) (xo9 : Vec Ideal S512x2048 .f32) :
    ∀ p ∈ (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9).1, ∀ x : p.1.shape.Idx, p.2 x = added xo9 (coefs (i 1) x0 x1 x3 x4 x5 x6) x2 (p.1.emb x) := by
  unfold kernelRun0_B; dsimp only; sl_unfold_run_names
  simp only [List.forall_mem_cons, List.not_mem_nil, false_imp_iff, implies_true, and_true]
  refine ⟨?_, ?_, ?_, ?_⟩
  · exact fun x => rows_piece arg4 harg4 arg12 x2 xo9 (coefs (i 1) x0 x1 x3 x4 x5 x6) (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9).2.1 (tilesB c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9) (coverB c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9) 384 (by decide) _ (fun j n => load_rows arg11 harg11 xo9 (by decide) j n (by omega)) (by decide) (by decide) (by decide) x
  · exact fun x => rows_piece arg4 harg4 arg12 x2 xo9 (coefs (i 1) x0 x1 x3 x4 x5 x6) (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9).2.1 (tilesB c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9) (coverB c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9) 256 (by decide) _ (fun j n => load_rows arg11 harg11 xo9 (by decide) j n (by omega)) (by decide) (by decide) (by decide) x
  · exact fun x => rows_piece arg4 harg4 arg12 x2 xo9 (coefs (i 1) x0 x1 x3 x4 x5 x6) (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9).2.1 (tilesB c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9) (coverB c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9) 128 (by decide) _ (fun j n => load_rows arg11 harg11 xo9 (by decide) j n (by omega)) (by decide) (by decide) (by decide) x
  · exact fun x => rows_piece arg4 harg4 arg12 x2 xo9 (coefs (i 1) x0 x1 x3 x4 x5 x6) (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9).2.1 (tilesB c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9) (coverB c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9) 0 (by decide) _ (fun j n => load_rows arg11 harg11 xo9 (by decide) j n (by omega)) (by decide) (by decide) (by decide) x

/-- What a point of case B leaves. -/
theorem outB (c : Dev nD) (i : grid0.Coords) (arg2 : Memref sig .tc .vmem S2048x512 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S8x128x512 .i32) (harg5 : arg5.IsWhole) (arg6 : Memref sig .tc .vmem S8x128x512 .i32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x1024 .bf16) (harg12 : arg12.IsWhole) (hc0 : ¬cond0_0 i) (hc1 : ¬cond0_1 i)
    (x0 : Vec Ideal S2048x512 .bf16) (x1 : Vec Ideal S1024x2048 .bf16) (x2 : Vec Ideal S1024x2048 .bf16) (x3 : Vec Ideal S8x128x512 .i32) (x4 : Vec Ideal S8x128x512 .i32) (x5 : Vec Ideal S8x128x512 .bf16) (x6 : Vec Ideal S8x128x512 .bf16) (x7 : Vec Ideal S512x2048 .f32) (x8 : Vec Ideal S1x2048 .f32) (xo9 : Vec Ideal S512x2048 .f32) (y : S512x2048.Idx) :
    out0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 y = added xo9 (coefs (i 1) x0 x1 x3 x4 x5 x6) x2 y := by
  unfold out0_B_9
  exact View.read_writes_apply_of_pieces _ _ _ _ (rowsB c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9) y (cover0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 y)

end Cert.Peer

end
-- ==== Proof.Peer.TilesC.lean ====
/- The tiles of coefficients that a point of case C writes. -/
module

public import proofs.«01_k».proof.Proof.Peer.Coef
public import proofs.«01_k».proof.Proof.Gen.Kernel5Ideal.Value

@[expose] public section

set_option maxRecDepth 16384

noncomputable section

namespace Cert.Peer

open Cert.Kernel5Ideal Cert.Kernel5Ideal.Gen Idealize.ShloMosaic Idealize.ShloMosaic.TcCoe Idealize.SL.Sem

/-- The thirty-two stores of tiles write the coefficients. -/
theorem tilesC (c : Dev nD) (i : grid0.Coords) (arg2 : Memref sig .tc .vmem S2048x512 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S8x128x512 .i32) (harg5 : arg5.IsWhole) (arg6 : Memref sig .tc .vmem S8x128x512 .i32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x1024 .bf16) (harg12 : arg12.IsWhole) (hc0 : ¬cond0_0 i) (hc1 : cond0_1 i)
    (x0 : Vec Ideal S2048x512 .bf16) (x1 : Vec Ideal S1024x2048 .bf16) (x2 : Vec Ideal S1024x2048 .bf16) (x3 : Vec Ideal S8x128x512 .i32) (x4 : Vec Ideal S8x128x512 .i32) (x5 : Vec Ideal S8x128x512 .bf16) (x6 : Vec Ideal S8x128x512 .bf16) (x7 : Vec Ideal S512x2048 .f32) (x8 : Vec Ideal S1x2048 .f32) (xo9 : Vec Ideal S512x2048 .f32) :
    ∀ p ∈ (kernelRun0_C (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9).2.1, ∀ x : p.1.shape.Idx, p.2 x = coefs (i 1) x0 x1 x3 x4 x5 x6 (p.1.emb x) := by
  unfold kernelRun0_C; dsimp only; sl_unfold_run_names
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun x => tile_piece i arg2 harg2 arg3 harg3 arg5 harg5 arg6 harg6 arg7 harg7 arg8 harg8 x0 x1 x3 x4 x5 x6 7 384 896 rfl (by decide) (by decide) (by decide) (by decide) slices_S1x512_o0_384_S1x128 slices_S1024x512_o896_384_S128x128 (by decide) x
  · exact fun x => tile_piece i arg2 harg2 arg3 harg3 arg5 harg5 arg6 harg6 arg7 harg7 arg8 harg8 x0 x1 x3 x4 x5 x6 7 256 896 rfl (by decide) (by decide) (by decide) (by decide) slices_S1x512_o0_256_S1x128 slices_S1024x512_o896_256_S128x128 (by decide) x
  · exact fun x => tile_piece i arg2 harg2 arg3 harg3 arg5 harg5 arg6 harg6 arg7 harg7 arg8 harg8 x0 x1 x3 x4 x5 x6 7 128 896 rfl (by decide) (by decide) (by decide) (by decide) slices_S1x512_o0_128_S1x128 slices_S1024x512_o896_128_S128x128 (by decide) x
  · exact fun x => tile_piece i arg2 harg2 arg3 harg3 arg5 harg5 arg6 harg6 arg7 harg7 arg8 harg8 x0 x1 x3 x4 x5 x6 7 0 896 rfl (by decide) (by decide) (by decide) (by decide) slices_S1x512_o0_0_S1x128 slices_S1024x512_o896_0_S128x128 (by decide) x
  · exact fun x => tile_piece i arg2 harg2 arg3 harg3 arg5 harg5 arg6 harg6 arg7 harg7 arg8 harg8 x0 x1 x3 x4 x5 x6 6 384 768 rfl (by decide) (by decide) (by decide) (by decide) slices_S1x512_o0_384_S1x128 slices_S1024x512_o768_384_S128x128 (by decide) x
  · exact fun x => tile_piece i arg2 harg2 arg3 harg3 arg5 harg5 arg6 harg6 arg7 harg7 arg8 harg8 x0 x1 x3 x4 x5 x6 6 256 768 rfl (by decide) (by decide) (by decide) (by decide) slices_S1x512_o0_256_S1x128 slices_S1024x512_o768_256_S128x128 (by decide) x
  · exact fun x => tile_piece i arg2 harg2 arg3 harg3 arg5 harg5 arg6 harg6 arg7 harg7 arg8 harg8 x0 x1 x3 x4 x5 x6 6 128 768 rfl (by decide) (by decide) (by decide) (by decide) slices_S1x512_o0_128_S1x128 slices_S1024x512_o768_128_S128x128 (by decide) x
  · exact fun x => tile_piece i arg2 harg2 arg3 harg3 arg5 harg5 arg6 harg6 arg7 harg7 arg8 harg8 x0 x1 x3 x4 x5 x6 6 0 768 rfl (by decide) (by decide) (by decide) (by decide) slices_S1x512_o0_0_S1x128 slices_S1024x512_o768_0_S128x128 (by decide) x
  · exact fun x => tile_piece i arg2 harg2 arg3 harg3 arg5 harg5 arg6 harg6 arg7 harg7 arg8 harg8 x0 x1 x3 x4 x5 x6 5 384 640 rfl (by decide) (by decide) (by decide) (by decide) slices_S1x512_o0_384_S1x128 slices_S1024x512_o640_384_S128x128 (by decide) x
  · exact fun x => tile_piece i arg2 harg2 arg3 harg3 arg5 harg5 arg6 harg6 arg7 harg7 arg8 harg8 x0 x1 x3 x4 x5 x6 5 256 640 rfl (by decide) (by decide) (by decide) (by decide) slices_S1x512_o0_256_S1x128 slices_S1024x512_o640_256_S128x128 (by decide) x
  · exact fun x => tile_piece i arg2 harg2 arg3 harg3 arg5 harg5 arg6 harg6 arg7 harg7 arg8 harg8 x0 x1 x3 x4 x5 x6 5 128 640 rfl (by decide) (by decide) (by decide) (by decide) slices_S1x512_o0_128_S1x128 slices_S1024x512_o640_128_S128x128 (by decide) x
  · exact fun x => tile_piece i arg2 harg2 arg3 harg3 arg5 harg5 arg6 harg6 arg7 harg7 arg8 harg8 x0 x1 x3 x4 x5 x6 5 0 640 rfl (by decide) (by decide) (by decide) (by decide) slices_S1x512_o0_0_S1x128 slices_S1024x512_o640_0_S128x128 (by decide) x
  · exact fun x => tile_piece i arg2 harg2 arg3 harg3 arg5 harg5 arg6 harg6 arg7 harg7 arg8 harg8 x0 x1 x3 x4 x5 x6 4 384 512 rfl (by decide) (by decide) (by decide) (by decide) slices_S1x512_o0_384_S1x128 slices_S1024x512_o512_384_S128x128 (by decide) x
  · exact fun x => tile_piece i arg2 harg2 arg3 harg3 arg5 harg5 arg6 harg6 arg7 harg7 arg8 harg8 x0 x1 x3 x4 x5 x6 4 256 512 rfl (by decide) (by decide) (by decide) (by decide) slices_S1x512_o0_256_S1x128 slices_S1024x512_o512_256_S128x128 (by decide) x
  · exact fun x => tile_piece i arg2 harg2 arg3 harg3 arg5 harg5 arg6 harg6 arg7 harg7 arg8 harg8 x0 x1 x3 x4 x5 x6 4 128 512 rfl (by decide) (by decide) (by decide) (by decide) slices_S1x512_o0_128_S1x128 slices_S1024x512_o512_128_S128x128 (by decide) x
  · exact fun x => tile_piece i arg2 harg2 arg3 harg3 arg5 harg5 arg6 harg6 arg7 harg7 arg8 harg8 x0 x1 x3 x4 x5 x6 4 0 512 rfl (by decide) (by decide) (by decide) (by decide) slices_S1x512_o0_0_S1x128 slices_S1024x512_o512_0_S128x128 (by decide) x
  · exact fun x => tile_piece i arg2 harg2 arg3 harg3 arg5 harg5 arg6 harg6 arg7 harg7 arg8 harg8 x0 x1 x3 x4 x5 x6 3 384 384 rfl (by decide) (by decide) (by decide) (by decide) slices_S1x512_o0_384_S1x128 slices_S1024x512_o384_384_S128x128 (by decide) x
  · exact fun x => tile_piece i arg2 harg2 arg3 harg3 arg5 harg5 arg6 harg6 arg7 harg7 arg8 harg8 x0 x1 x3 x4 x5 x6 3 256 384 rfl (by decide) (by decide) (by decide) (by decide) slices_S1x512_o0_256_S1x128 slices_S1024x512_o384_256_S128x128 (by decide) x
  · exact fun x => tile_piece i arg2 harg2 arg3 harg3 arg5 harg5 arg6 harg6 arg7 harg7 arg8 harg8 x0 x1 x3 x4 x5 x6 3 128 384 rfl (by decide) (by decide) (by decide) (by decide) slices_S1x512_o0_128_S1x128 slices_S1024x512_o384_128_S128x128 (by decide) x
  · exact fun x => tile_piece i arg2 harg2 arg3 harg3 arg5 harg5 arg6 harg6 arg7 harg7 arg8 harg8 x0 x1 x3 x4 x5 x6 3 0 384 rfl (by decide) (by decide) (by decide) (by decide) slices_S1x512_o0_0_S1x128 slices_S1024x512_o384_0_S128x128 (by decide) x
  · exact fun x => tile_piece i arg2 harg2 arg3 harg3 arg5 harg5 arg6 harg6 arg7 harg7 arg8 harg8 x0 x1 x3 x4 x5 x6 2 384 256 rfl (by decide) (by decide) (by decide) (by decide) slices_S1x512_o0_384_S1x128 slices_S1024x512_o256_384_S128x128 (by decide) x
  · exact fun x => tile_piece i arg2 harg2 arg3 harg3 arg5 harg5 arg6 harg6 arg7 harg7 arg8 harg8 x0 x1 x3 x4 x5 x6 2 256 256 rfl (by decide) (by decide) (by decide) (by decide) slices_S1x512_o0_256_S1x128 slices_S1024x512_o256_256_S128x128 (by decide) x
  · exact fun x => tile_piece i arg2 harg2 arg3 harg3 arg5 harg5 arg6 harg6 arg7 harg7 arg8 harg8 x0 x1 x3 x4 x5 x6 2 128 256 rfl (by decide) (by decide) (by decide) (by decide) slices_S1x512_o0_128_S1x128 slices_S1024x512_o256_128_S128x128 (by decide) x
  · exact fun x => tile_piece i arg2 harg2 arg3 harg3 arg5 harg5 arg6 harg6 arg7 harg7 arg8 harg8 x0 x1 x3 x4 x5 x6 2 0 256 rfl (by decide) (by decide) (by decide) (by decide) slices_S1x512_o0_0_S1x128 slices_S1024x512_o256_0_S128x128 (by decide) x
  · exact fun x => tile_piece i arg2 harg2 arg3 harg3 arg5 harg5 arg6 harg6 arg7 harg7 arg8 harg8 x0 x1 x3 x4 x5 x6 1 384 128 rfl (by decide) (by decide) (by decide) (by decide) slices_S1x512_o0_384_S1x128 slices_S1024x512_o128_384_S128x128 (by decide) x
  · exact fun x => tile_piece i arg2 harg2 arg3 harg3 arg5 harg5 arg6 harg6 arg7 harg7 arg8 harg8 x0 x1 x3 x4 x5 x6 1 256 128 rfl (by decide) (by decide) (by decide) (by decide) slices_S1x512_o0_256_S1x128 slices_S1024x512_o128_256_S128x128 (by decide) x
  · exact fun x => tile_piece i arg2 harg2 arg3 harg3 arg5 harg5 arg6 harg6 arg7 harg7 arg8 harg8 x0 x1 x3 x4 x5 x6 1 128 128 rfl (by decide) (by decide) (by decide) (by decide) slices_S1x512_o0_128_S1x128 slices_S1024x512_o128_128_S128x128 (by decide) x
  · exact fun x => tile_piece i arg2 harg2 arg3 harg3 arg5 harg5 arg6 harg6 arg7 harg7 arg8 harg8 x0 x1 x3 x4 x5 x6 1 0 128 rfl (by decide) (by decide) (by decide) (by decide) slices_S1x512_o0_0_S1x128 slices_S1024x512_o128_0_S128x128 (by decide) x
  · exact fun x => tile_piece i arg2 harg2 arg3 harg3 arg5 harg5 arg6 harg6 arg7 harg7 arg8 harg8 x0 x1 x3 x4 x5 x6 0 384 0 rfl (by decide) (by decide) (by decide) (by decide) slices_S1x512_o0_384_S1x128 slices_S1024x512_o0_384_S128x128 (by decide) x
  · exact fun x => tile_piece i arg2 harg2 arg3 harg3 arg5 harg5 arg6 harg6 arg7 harg7 arg8 harg8 x0 x1 x3 x4 x5 x6 0 256 0 rfl (by decide) (by decide) (by decide) (by decide) slices_S1x512_o0_256_S1x128 slices_S1024x512_o0_256_S128x128 (by decide) x
  · exact fun x => tile_piece i arg2 harg2 arg3 harg3 arg5 harg5 arg6 harg6 arg7 harg7 arg8 harg8 x0 x1 x3 x4 x5 x6 0 128 0 rfl (by decide) (by decide) (by decide) (by decide) slices_S1x512_o0_128_S1x128 slices_S1024x512_o0_128_S128x128 (by decide) x
  · exact fun x => tile_piece i arg2 harg2 arg3 harg3 arg5 harg5 arg6 harg6 arg7 harg7 arg8 harg8 x0 x1 x3 x4 x5 x6 0 0 0 rfl (by decide) (by decide) (by decide) (by decide) slices_S1x512_o0_0_S1x128 slices_S1024x512_o0_0_S128x128 (by decide) x

end Cert.Peer

end
-- ==== Proof.Peer.OutC.lean ====
/- A point of case C leaves what the point before left with the last slab added, normed. -/
module

public import proofs.«01_k».proof.Proof.Peer.Rows
public import proofs.«01_k».proof.Proof.Peer.TilesC

@[expose] public section

set_option maxRecDepth 16384

noncomputable section

namespace Cert.Peer

open Cert.Kernel5Ideal Cert.Kernel5Ideal.Gen Idealize.ShloMosaic Idealize.ShloMosaic.TcCoe Idealize.SL.Sem

/-- The tiles cover the coefficients' block. -/
theorem coverC (c : Dev nD) (i : grid0.Coords) (arg2 : Memref sig .tc .vmem S2048x512 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S8x128x512 .i32) (harg5 : arg5.IsWhole) (arg6 : Memref sig .tc .vmem S8x128x512 .i32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x1024 .bf16) (harg12 : arg12.IsWhole) (hc0 : ¬cond0_0 i) (hc1 : cond0_1 i)
    (x0 : Vec Ideal S2048x512 .bf16) (x1 : Vec Ideal S1024x2048 .bf16) (x2 : Vec Ideal S1024x2048 .bf16) (x3 : Vec Ideal S8x128x512 .i32) (x4 : Vec Ideal S8x128x512 .i32) (x5 : Vec Ideal S8x128x512 .bf16) (x6 : Vec Ideal S8x128x512 .bf16) (x7 : Vec Ideal S512x2048 .f32) (x8 : Vec Ideal S1x2048 .f32) (xo9 : Vec Ideal S512x2048 .f32) :
    ∀ y, ∃ p ∈ (kernelRun0_C (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9).2.1, y ∈ p.1.set :=
  View.cover_of_tiledL (kernelRun0_C (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9).2.1 S128x128.size (by sl_kernel_rfl)

/-- What a point of case C leaves. -/
theorem outC (c : Dev nD) (i : grid0.Coords) (arg2 : Memref sig .tc .vmem S2048x512 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S8x128x512 .i32) (harg5 : arg5.IsWhole) (arg6 : Memref sig .tc .vmem S8x128x512 .i32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x1024 .bf16) (harg12 : arg12.IsWhole) (hc0 : ¬cond0_0 i) (hc1 : cond0_1 i)
    (x0 : Vec Ideal S2048x512 .bf16) (x1 : Vec Ideal S1024x2048 .bf16) (x2 : Vec Ideal S1024x2048 .bf16) (x3 : Vec Ideal S8x128x512 .i32) (x4 : Vec Ideal S8x128x512 .i32) (x5 : Vec Ideal S8x128x512 .bf16) (x6 : Vec Ideal S8x128x512 .bf16) (x7 : Vec Ideal S512x2048 .f32) (x8 : Vec Ideal S1x2048 .f32) (xo9 : Vec Ideal S512x2048 .f32) (y : S512x2048.Idx) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 y = normed (added xo9 (coefs (i 1) x0 x1 x3 x4 x5 x6) x2) x8 y := by
  unfold out0_C_9
  rw [View.read_writes_junk_eq_canon]
  unfold kernelRun0_C; dsimp only; sl_unfold_run_names
  obtain ⟨t, n, rfl⟩ : ∃ (t : Fin 512) (n : Fin 2048), y = ix2 t n := ⟨y 0, y 1, funext fun a => by fin_cases a <;> rfl⟩
  refine (congrFun (View.canon_cons_unit_lit _ _ _ (by decide)) _).trans ((norm_at _ _ t n).trans ?_)
  unfold normed
  refine congrArg₂ (fun a b => Cert.Proj.norm a b n) (funext fun k => ?_) (funext fun k => ?_)
  · refine (back_rows arg11 (added xo9 (coefs (i 1) x0 x1 x3 x4 x5 x6) x2) _ ?_ ?_ (by decide) t k (by omega)).trans (congrArg _ (congrArg (ix2 · k) (Fin.ext (Nat.zero_add _))))
    · simp only [List.forall_mem_cons, List.not_mem_nil, false_imp_iff, implies_true, and_true]
      refine ⟨?_, ?_, ?_, ?_⟩
      · exact fun x => rows_piece arg4 harg4 arg12 x2 xo9 (coefs (i 1) x0 x1 x3 x4 x5 x6) (kernelRun0_C (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9).2.1 (tilesC c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9) (coverC c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9) 384 (by decide) _ (fun j n => load_rows arg11 harg11 xo9 (by decide) j n (by omega)) (by decide) (by decide) (by decide) x
      · exact fun x => rows_piece arg4 harg4 arg12 x2 xo9 (coefs (i 1) x0 x1 x3 x4 x5 x6) (kernelRun0_C (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9).2.1 (tilesC c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9) (coverC c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9) 256 (by decide) _ (fun j n => load_rows arg11 harg11 xo9 (by decide) j n (by omega)) (by decide) (by decide) (by decide) x
      · exact fun x => rows_piece arg4 harg4 arg12 x2 xo9 (coefs (i 1) x0 x1 x3 x4 x5 x6) (kernelRun0_C (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9).2.1 (tilesC c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9) (coverC c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9) 128 (by decide) _ (fun j n => load_rows arg11 harg11 xo9 (by decide) j n (by omega)) (by decide) (by decide) (by decide) x
      · exact fun x => rows_piece arg4 harg4 arg12 x2 xo9 (coefs (i 1) x0 x1 x3 x4 x5 x6) (kernelRun0_C (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9).2.1 (tilesC c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9) (coverC c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9) 0 (by decide) _ (fun j n => load_rows arg11 harg11 xo9 (by decide) j n (by omega)) (by decide) (by decide) (by decide) x
    · exact View.cover_of_tiledL _ S128x2048.size (by sl_kernel_rfl)
  · exact load_rows arg10 harg10 x8 (by decide) 0 k (by omega)

end Cert.Peer

end
-- ==== Proof.Peer.Array.lean ====
/- The experts: the kernel's array holds the reference's values. -/
module

public import proofs.«01_k».proof.Proof.Gen.Kernel5Ideal.Value
public import proofs.«01_k».proof.Proof.Peer.Ref
public import proofs.«01_k».proof.Proof.Peer.Gelu
public import proofs.«01_k».proof.Proof.Peer.OutA
public import proofs.«01_k».proof.Proof.Peer.OutB
public import proofs.«01_k».proof.Proof.Peer.OutC
public import Idealize.ShloMosaic.Lib.WholeRead
public import Idealize.ShloMosaic.Lib.Pipeline.ValueKit

@[expose] public section

set_option maxRecDepth 16384

noncomputable section

namespace Cert.Peer

open Cert.Kernel5Ideal Cert.Kernel5Ideal.Gen Idealize.ShloMosaic Idealize.ShloMosaic.TcCoe Idealize.SL.Sem

/-- The blocks that each window holds at a grid point. -/
theorem idx : ∀ t : Fin cfg0.N, win0_0.index t = ![0, t.val / 16] ∧ win0_1.index t = ![t.val % 16, 0]
    ∧ win0_2.index t = ![t.val % 16, 0] ∧ win0_3.index t = ![0, 0, t.val / 16] ∧ win0_4.index t = ![0, 0, t.val / 16]
    ∧ win0_5.index t = ![0, 0, t.val / 16] ∧ win0_6.index t = ![0, 0, t.val / 16] ∧ win0_7.index t = ![t.val / 16, 0]
    ∧ win0_8.index t = ![0, 0] ∧ win0_9.index t = ![t.val / 16, 0] :=
  (by decide +kernel : ∀ t : Fin grid0.N, win0_0.index t = ![0, t.val / 16] ∧ win0_1.index t = ![t.val % 16, 0]
    ∧ win0_2.index t = ![t.val % 16, 0] ∧ win0_3.index t = ![0, 0, t.val / 16] ∧ win0_4.index t = ![0, 0, t.val / 16]
    ∧ win0_5.index t = ![0, 0, t.val / 16] ∧ win0_6.index t = ![0, 0, t.val / 16] ∧ win0_7.index t = ![t.val / 16, 0]
    ∧ win0_8.index t = ![0, 0] ∧ win0_9.index t = ![t.val / 16, 0])

/-- The slab of a grid point. -/
theorem slab : ∀ t : Fin cfg0.N, ((grid0.coords t) 1).val = t.val % 16 :=
  (by decide +kernel : ∀ t : Fin grid0.N, ((grid0.coords t) 1).val = t.val % 16)

/-- The token of row `i` of a grid point's block. -/
def tok (t : Fin cfg0.N) (i : Fin 512) : Fin 32768 := ⟨t.val / 16 * 512 + i.val, by have : t.val < 1024 := t.isLt; omega⟩

/-- The expert of row `k` of a grid point's slab. -/
def expert (t : Fin cfg0.N) (k : Fin 1024) : Fin 16384 := ⟨t.val % 16 * 1024 + k.val, by omega⟩

section
variable (m : (ℓ : Loc nD τ sig) → Buf (Elt Ideal) ℓ) (c : Dev nD) (t : Fin cfg0.N)

theorem blk0 (k : Fin 2048) (i : Fin 512) : iblk m c 0 t (ix2 k i) = m ((c.tc : Thread nD τ).loc main_arg0) (ix2 k (tok t i)) := by
  unfold tok; blk_point [iblk, V, idx t]

theorem blk1 (r : Fin 1024) (k : Fin 2048) : iblk m c 1 t (ix2 r k) = m ((c.tc : Thread nD τ).loc main_arg1) (ix2 (expert t r) k) := by
  unfold expert; blk_point [iblk, V, idx t]

theorem blk2 (r : Fin 1024) (k : Fin 2048) : iblk m c 2 t (ix2 r k) = m ((c.tc : Thread nD τ).loc main_arg2) (ix2 (expert t r) k) := by
  unfold expert; blk_point [iblk, V, idx t]

theorem blk3 (h : Fin 8) (q : Fin 128) (i : Fin 512) : iblk m c 3 t (ix3 h q i) = m ((c.tc : Thread nD τ).loc main_arg3) (ix3 h q (tok t i)) := by
  unfold tok; blk_point [iblk, V, idx t]

theorem blk4 (h : Fin 8) (q : Fin 128) (i : Fin 512) : iblk m c 4 t (ix3 h q i) = m ((c.tc : Thread nD τ).loc main_arg4) (ix3 h q (tok t i)) := by
  unfold tok; blk_point [iblk, V, idx t]

theorem blk5 (h : Fin 8) (q : Fin 128) (i : Fin 512) : iblk m c 5 t (ix3 h q i) = m ((c.tc : Thread nD τ).loc main_arg5) (ix3 h q (tok t i)) := by
  unfold tok; blk_point [iblk, V, idx t]

theorem blk6 (h : Fin 8) (q : Fin 128) (i : Fin 512) : iblk m c 6 t (ix3 h q i) = m ((c.tc : Thread nD τ).loc main_arg6) (ix3 h q (tok t i)) := by
  unfold tok; blk_point [iblk, V, idx t]

theorem blk7 (i : Fin 512) (k : Fin 2048) : iblk m c 7 t (ix2 i k) = m ((c.tc : Thread nD τ).loc main_arg7) (ix2 (tok t i) k) := by
  unfold tok; blk_point [iblk, V, idx t]

theorem blk8 (k : Fin 2048) : iblk m c 8 t (ix2 (0 : Fin 1) k) = m ((c.tc : Thread nD τ).loc main_arg8) (ix2 (0 : Fin 1) k) := by
  blk_point [iblk, V, idx t]

/-- The residual's entry, of the launch contents. -/
def mres (i : Fin 32768) (j : Fin 2048) : EReal := m ((c.tc : Thread nD τ).loc main_arg7) (ix2 i j)

/-- An expert's part, of the launch contents. -/
def mpart (i : Fin 32768) (j : Fin 2048) (E : Fin 16384) : EReal :=
  part (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) i j E

/-- The same by a plain number. -/
def npart (i : Fin 32768) (j : Fin 2048) (n : ℕ) : EReal := if h : n < 16384 then mpart m c i j ⟨n, h⟩ else 0

/-- A row of a slab adds its expert's part. -/
theorem slab_part (i : Fin 512) (j : Fin 2048) (k : Fin 1024) :
    coefs (grid0.coords t 1) (iblk m c 0 t) (iblk m c 1 t) (iblk m c 3 t) (iblk m c 4 t) (iblk m c 5 t) (iblk m c 6 t) (ix2 i k) * iblk m c 2 t (ix2 k j)
      = npart m c (tok t i) j (t.val % 16 * 1024 + k.val) := by
  have hs := slab t
  unfold npart
  rw [dif_pos (by omega : t.val % 16 * 1024 + k.val < 16384)]
  show _ = mpart m c (tok t i) j (expert t k)
  unfold mpart part
  rw [blk2]
  refine congrArg₂ _ ?_ rfl
  show coef _ _ _ _ _ _ _ (⟨k.val / 128, _⟩ : Fin 8) (⟨k.val % 128, _⟩ : Fin 128) i = _
  unfold coef
  rw [kgelu_eq]
  have e1 : (⟨128 * (k.val / 128) + k.val % 128, by omega⟩ : Fin 1024) = k := Fin.ext (by show 128 * (k.val / 128) + k.val % 128 = k.val; omega)
  have e2 : (⟨8 * (grid0.coords t 1).val + k.val / 128, by omega⟩ : Fin 128) = ⟨(expert t k).val / 128, by omega⟩ :=
    Fin.ext (by show 8 * (grid0.coords t 1).val + k.val / 128 = (t.val % 16 * 1024 + k.val) / 128; omega)
  have e3 : (⟨k.val % 128, by omega⟩ : Fin 128) = ⟨(expert t k).val % 128, by omega⟩ :=
    Fin.ext (by show k.val % 128 = (t.val % 16 * 1024 + k.val) % 128; omega)
  have e4 : (⟨(expert t k).val % 128, by omega⟩ : Fin 128).val % 2 = (expert t k).val % 2 := by show (expert t k).val % 128 % 2 = _; omega
  refine congrArg₂ _ (congrArg _ (Finset.sum_congr rfl fun q _ => ?_)) (Finset.sum_congr rfl fun h _ => ?_)
  · exact congrArg₂ _ ((congrArg (fun r => iblk m c 1 t (ix2 r q)) e1).trans (blk1 m c t k q)) (blk0 m c t q i)
  · rw [e2, e3, e4, blk3, blk4, blk5, blk6]

/-- A slab's experts added to the ones before it. -/
theorem slab_sum (b : Vec Ideal S512x2048 .f32) (i : Fin 512) (j : Fin 2048) (h : EReal)
    (hb : b (ix2 i j) = h + ∑ n ∈ Finset.range (t.val % 16 * 1024), npart m c (tok t i) j n) :
    added b (coefs (grid0.coords t 1) (iblk m c 0 t) (iblk m c 1 t) (iblk m c 3 t) (iblk m c 4 t) (iblk m c 5 t) (iblk m c 6 t)) (iblk m c 2 t) (ix2 i j)
      = h + ∑ n ∈ Finset.range ((t.val % 16 + 1) * 1024), npart m c (tok t i) j n := by
  rw [Nat.add_mul, one_mul, Finset.sum_range_add, ← add_assoc, ← hb, Finset.sum_range]
  show b (ix2 i j) + _ = _
  exact congrArg _ (Finset.sum_congr rfl fun k _ => slab_part m c t i j k)

end

section
variable (m : (ℓ : Loc nD τ sig) → Buf (Elt Ideal) ℓ) (c : Dev nD)

/-- What a point before the last of its block leaves: the experts up to its slab. -/
theorem upto : ∀ (n : ℕ) (hn : n < cfg0.N), ¬ n % 16 = 15 → ∀ (i : Fin 512) (j : Fin 2048),
    outsAt0 m c n hn (ix2 i j) = mres m c (tok ⟨n, hn⟩ i) j
      + ∑ k ∈ Finset.range ((n % 16 + 1) * 1024), npart m c (tok ⟨n, hn⟩ i) j k := by
  intro n
  induction n with
  | zero =>
    intro hn h1 i j
    refine (congrFun (outsAt0_A m c ⟨0, hn⟩ rfl h1) (ix2 i j)).trans ((outA ..).trans (slab_sum m c ⟨0, hn⟩ _ i j _ ?_))
    exact (blk7 m c ⟨0, hn⟩ i j).trans (by unfold mres; simp)
  | succ n ih =>
    intro hn h1 i j
    by_cases h0 : (n + 1) % 16 = 0
    · refine (congrFun (outsAt0_A m c ⟨n + 1, hn⟩ h0 h1) (ix2 i j)).trans ((outA ..).trans (slab_sum m c ⟨n + 1, hn⟩ _ i j _ ?_))
      refine (blk7 m c ⟨n + 1, hn⟩ i j).trans ?_
      show _ = _ + ∑ k ∈ Finset.range ((n + 1) % 16 * 1024), _
      unfold mres; rw [h0]; simp
    · refine (congrFun (outsAt0_B m c ⟨n + 1, hn⟩ h0 h1) (ix2 i j)).trans ((outB ..).trans (slab_sum m c ⟨n + 1, hn⟩ _ i j _ ?_))
      have et : tok ⟨n + 1, hn⟩ i = tok ⟨n, Nat.lt_of_succ_lt hn⟩ i := Fin.ext (by show (n + 1) / 16 * 512 + i.val = n / 16 * 512 + i.val; omega)
      have es : (n + 1) % 16 = n % 16 + 1 := by omega
      refine (ih (Nat.lt_of_succ_lt hn) (by omega) i j).trans ?_
      show _ = _ + ∑ k ∈ Finset.range ((n + 1) % 16 * 1024), _
      rw [et, es]

/-- What the last point of a block leaves: the reference's rows. -/
theorem last (t : Fin cfg0.N) (h1 : t.val % 16 = 15) (i : Fin 512) (j : Fin 2048) :
    outsAt0 m c t.val t.isLt (ix2 i j)
      = Cert.Proj.norm (fun k => mres m c (tok t i) k + ∑ E : Fin 16384, mpart m c (tok t i) k E)
          (fun k => m ((c.tc : Thread nD τ).loc main_arg8) (ix2 0 k)) j := by
  have h0 : ¬ t.val % 16 = 0 := by omega
  refine (congrFun (outsAt0_C m c t h0 h1) (ix2 i j)).trans ((outC ..).trans ?_)
  unfold normed
  refine congrArg₂ (fun a b => Cert.Proj.norm a b j) (funext fun k => ?_) (funext fun k => blk8 m c t k)
  refine (slab_sum m c t _ i k (mres m c (tok t i) k) ?_).trans ?_
  · have hp : t.val - 1 < cfg0.N := Nat.lt_of_le_of_lt (Nat.sub_le _ _) t.isLt
    have et : tok t i = tok ⟨t.val - 1, hp⟩ i := Fin.ext (by show t.val / 16 * 512 + i.val = (t.val - 1) / 16 * 512 + i.val; omega)
    have es : t.val % 16 = (t.val - 1) % 16 + 1 := by omega
    rw [et, es]
    exact upto m c (t.val - 1) hp (by omega) i k
  · rw [h1]
    refine congrArg _ ((Finset.sum_range _).trans (Finset.sum_congr rfl fun E _ => ?_))
    exact dif_pos E.isLt

theorem array9 : (dats m 0 c).arrAt 9 cfg0.N
    = rPeer (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  refine (dats m 0 c).arrAt_eq_of_covers 9 _ (by decide +kernel) fun t hf y => ?_
  have h1 : t.val % 16 = 15 := by have := (flush0_9 t).mp hf; omega
  blk_simp
  rw [after0_9]
  obtain ⟨i, j, rfl⟩ : ∃ (i : Fin 512) (j : Fin 2048), y = ix2 i j := ⟨y 0, y 1, funext fun a => by fin_cases a <;> rfl⟩
  have ey : (win0_9.blk t).view.emb (ix2 i j) = ix2 (tok t i) j := by unfold tok; blk_ext [idx t]
  refine Eq.trans ?_ (congrArg _ ey).symm
  exact (last m c t h1 i j).trans (rPeer_at _ _ _ _ _ _ _ _ _ (tok t i) j).symm

end

end Cert.Peer

end
-- ==== Proof.Peer.Claims.lean ====
/- The experts' claims: their frames, their constants and their equation with the reference. -/
module

public import proofs.«01_k».proof.Defs
public import proofs.«01_k».proof.Proof.Gen.Kernel5.Frame
public import proofs.«01_k».proof.Proof.Peer.Array
public import Idealize.ShloMosaic.Lib.Quiescent
public import Idealize.ShloMosaic.Adequacy
public import Idealize.ShloMosaic.Init

@[expose] public section

set_option maxRecDepth 16384

noncomputable section

namespace Cert.Peer

open Idealize.ShloMosaic Idealize.SL.Sem Idealize.ShloMosaic.TcCoe

/-- The kernel and its ideal program run and leave their arguments and the counters. -/
theorem frame_k : Cert.quiescent_Kernel5 := fun m ρ _ => Cert.Kernel5.Gen.frame m ρ
theorem frame_ki : Cert.quiescent_Kernel5Ideal := fun m ρ _ => Cert.Kernel5Ideal.Gen.frame m ρ

/-- The reference runs and leaves its arguments and the counters. -/
theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The two constants of gelu's exponent stand for their exact values. -/
theorem preserved : Cert.preserves_Kernel5_Kernel5Ideal :=
  ⟨IdealRules.named_const.statement _ _ _ _ _ rfl, IdealRules.named_const.statement _ _ _ _ _ rfl⟩

/-- The reference's result by its named steps. -/
theorem res_eq (m : (ℓ : Loc Cert.Reference5Ideal.nD Cert.Reference5Ideal.τ Cert.Reference5Ideal.sig) → Buf (Elt Ideal) ℓ) (c : Dev Cert.Reference5Ideal.nD) :
    Cert.Reference5Ideal.Value.res_out0 m c
      = rPeer (m ((c.tc : Thread Cert.Reference5Ideal.nD Cert.Reference5Ideal.τ).loc Cert.Reference5Ideal.main_arg0))
          (m ((c.tc : Thread Cert.Reference5Ideal.nD Cert.Reference5Ideal.τ).loc Cert.Reference5Ideal.main_arg1))
          (m ((c.tc : Thread Cert.Reference5Ideal.nD Cert.Reference5Ideal.τ).loc Cert.Reference5Ideal.main_arg2))
          (m ((c.tc : Thread Cert.Reference5Ideal.nD Cert.Reference5Ideal.τ).loc Cert.Reference5Ideal.main_arg3))
          (m ((c.tc : Thread Cert.Reference5Ideal.nD Cert.Reference5Ideal.τ).loc Cert.Reference5Ideal.main_arg4))
          (m ((c.tc : Thread Cert.Reference5Ideal.nD Cert.Reference5Ideal.τ).loc Cert.Reference5Ideal.main_arg5))
          (m ((c.tc : Thread Cert.Reference5Ideal.nD Cert.Reference5Ideal.τ).loc Cert.Reference5Ideal.main_arg6))
          (m ((c.tc : Thread Cert.Reference5Ideal.nD Cert.Reference5Ideal.τ).loc Cert.Reference5Ideal.main_arg7))
          (m ((c.tc : Thread Cert.Reference5Ideal.nD Cert.Reference5Ideal.τ).loc Cert.Reference5Ideal.main_arg8)) := by
  unfold Cert.Reference5Ideal.Value.res_out0 Cert.Reference5Ideal.Value.res_main_v54
  rfl

/-- Kernel and reference compute the same array. -/
theorem algebraic : Cert.algebraic_Kernel5Ideal_Reference5Ideal := by
  intro m ρ m' ρ' hpre hagree
  refine ⟨_, Cert.Kernel5Ideal.Value.run_blocks (F := Ideal) m ρ, ?_⟩
  refine (θ_run Cert.Reference5Ideal.defs _ _).mono (fun _ h c => ⟨(h c).1.trans ?_, (h c).2⟩)
    (Cert.Reference5Ideal.Value.run (F := Ideal) m' ρ')
  obtain ⟨e0, e1, e2, e3, e4, e5, e6, e7, e8⟩ := hagree c
  refine (res_eq m' c).trans (Eq.trans ?_ (array9 m c).symm)
  rw [e0, e1, e2, e3, e4, e5, e6, e7, e8]

end Cert.Peer

end
-- ==== Proof.lean ====
module

public import proofs.«01_k».proof.Defs
public import proofs.«01_k».proof.Proof.Swa.Claims
public import proofs.«01_k».proof.Proof.Proj.Claims
public import proofs.«01_k».proof.Proof.MemKv.Claims
public import proofs.«01_k».proof.Proof.Mix.Claims
public import proofs.«01_k».proof.Proof.Peer.Claims

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Swa.preFacts, Cert.Mix.preFacts,
    Cert.Swa.frame_k, Cert.Swa.frame_ki, Cert.Swa.frame_ki', Cert.Swa.frame_ri, Cert.Swa.frame_ri',
    Cert.Proj.frame_k, Cert.Proj.frame_ki, Cert.Proj.frame_ri,
    Cert.MemKv.frame_k, Cert.MemKv.frame_ki, Cert.MemKv.frame_ri,
    Cert.Mix.frame_k, Cert.Mix.frame_ki, Cert.Mix.frame_ki', Cert.Mix.frame_ri, Cert.Mix.frame_ri',
    Cert.Peer.frame_k, Cert.Peer.frame_ki, Cert.Peer.frame_ri,
    Cert.Swa.preserved, Cert.Swa.algebraic, trivial, Cert.Proj.algebraic, trivial, Cert.MemKv.algebraic,
    trivial, Cert.Mix.algebraic, Cert.Peer.preserved, Cert.Peer.algebraic⟩

end Cert.Proof

end
